-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_interval [hPre_unit_interval : Cert.Pre_unit_interval.Facts] (m : (ℓ : Loc Cert.KernelIdeal.nD Cert.KernelIdeal.τ Cert.KernelIdeal.sig) → Buf (Elt Ideal) ℓ) : Prop :=
  ∀ c : Dev Cert.KernelIdeal.nD,
    (Cert.Pre_unit_interval.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_interval [hPre_unit_interval : Cert.Pre_unit_interval.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_interval.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_interval [hKernelIdeal : Cert.KernelIdeal.Facts] [hPre_unit_interval : Cert.Pre_unit_interval.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_interval m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_interval [hReferenceIdeal : Cert.ReferenceIdeal.Facts] [hPre_unit_interval : Cert.Pre_unit_interval.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_interval m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv63" .f32 0x3C820821#32 ((1 / 63 : ℝ) : EReal)
  ∧ IdealRules.named_const.Statement Cert.KernelIdeal.κ "m1" .f32 0xBC088889#32 ((-1 / 120 : ℝ) : EReal)
  ∧ IdealRules.named_const.Statement Cert.KernelIdeal.κ "p5" .f32 0x3D2AAAAB#32 ((1 / 24 : ℝ) : EReal)
  ∧ IdealRules.named_const.Statement Cert.KernelIdeal.κ "m10" .f32 0xBDAAAAAB#32 ((-1 / 12 : ℝ) : EReal)
  ∧ IdealRules.named_const.Statement Cert.KernelIdeal.κ "p10" .f32 0x3DAAAAAB#32 ((1 / 12 : ℝ) : EReal)
  ∧ IdealRules.named_const.Statement Cert.KernelIdeal.κ "m5" .f32 0xBD2AAAAB#32 ((-1 / 24 : ℝ) : EReal)
  ∧ IdealRules.named_const.Statement Cert.KernelIdeal.κ "p1" .f32 0x3C088889#32 ((1 / 120 : ℝ) : EReal)
  ∧ IdealRules.named_const.Statement Cert.KernelIdeal.κ "m20" .f32 0xBE2AAAAB#32 ((-1 / 6 : ℝ) : EReal)
  ∧ IdealRules.named_const.Statement Cert.KernelIdeal.κ "p20" .f32 0x3E2AAAAB#32 ((1 / 6 : ℝ) : EReal)
  ∧ IdealRules.named_const.Statement Cert.KernelIdeal.κ "m50" .f32 0xBED55555#32 ((-5 / 12 : ℝ) : EReal)
  ∧ IdealRules.named_const.Statement Cert.KernelIdeal.κ "p26" .f32 0x3E5DDDDE#32 ((13 / 60 : ℝ) : EReal)
  ∧ IdealRules.named_const.Statement Cert.KernelIdeal.κ "p66" .f32 0x3F0CCCCD#32 ((11 / 20 : ℝ) : EReal)
  ∧ IdealRules.named_const.Statement Cert.KernelIdeal.κ "p50" .f32 0x3ED55555#32 ((5 / 12 : ℝ) : EReal)

def algebraic_KernelIdeal_ReferenceIdeal_pre_unit_interval [hKernelIdeal : Cert.KernelIdeal.Facts] [hReferenceIdeal : Cert.ReferenceIdeal.Facts] [hPre_unit_interval : Cert.Pre_unit_interval.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_interval m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit_interval : Cert.Pre_unit_interval.Facts),
    quiescent_Kernel (hKernel := hKernel)
    ∧ quiescent_KernelIdeal (hKernelIdeal := hKernelIdeal)
    ∧ quiescent_KernelIdeal_pre_unit_interval (hKernelIdeal := hKernelIdeal) (hPre_unit_interval := hPre_unit_interval)
    ∧ quiescent_ReferenceIdeal (hReferenceIdeal := hReferenceIdeal)
    ∧ quiescent_ReferenceIdeal_pre_unit_interval (hReferenceIdeal := hReferenceIdeal) (hPre_unit_interval := hPre_unit_interval)
    ∧ preserves_Kernel_KernelIdeal
    ∧ algebraic_KernelIdeal_ReferenceIdeal_pre_unit_interval (hKernelIdeal := hKernelIdeal) (hReferenceIdeal := hReferenceIdeal) (hPre_unit_interval := hPre_unit_interval)
-- ==== Pre_unit_interval.lean ====
abbrev S1x1x64x64x64 : Shape := ⟨5, ![1, 1, 64, 64, 64]⟩
abbrev S_ : Shape := ⟨0, ![]⟩

class Facts : Prop where
  bcast_S_S1x1x64x64x64 : S_.BroadcastsInDim S1x1x64x64x64 (![] : Fin 0 → Fin S1x1x64x64x64.rank)
  reducesTo_S1x1x64x64x64_S_d0_1_2_3_4 : S1x1x64x64x64.ReducesTo [0, 1, 2, 3, 4] S_
  h_S_ : 0 < S_.numel

variable [Facts]

def fn {F : FTy → Type} [FloatOps F] (main_arg0 : FVec F S1x1x64x64x64 .f32) : IVec S_ 1 :=
  let main_cst : FVec F S_ .f32 := constant S_ .f32 0x00000000#32
  let main_v0 : FVec F S1x1x64x64x64 .f32 := broadcastInDim S1x1x64x64x64 ![] bcast_S_S1x1x64x64x64 main_cst
  let main_v1 : IVec S1x1x64x64x64 1 := cmpf .oge main_arg0 main_v0
  let main_cst_0 : FVec F S_ .f32 := constant S_ .f32 0x3F800000#32
  let main_v2 : FVec F S1x1x64x64x64 .f32 := broadcastInDim S1x1x64x64x64 ![] bcast_S_S1x1x64x64x64 main_cst_0
  let main_v3 : IVec S1x1x64x64x64 1 := cmpf .ole main_arg0 main_v2
  let main_v4 : IVec S1x1x64x64x64 1 := andi main_v1 main_v3
  let main_c : IVec S_ 1 := constantI S_ 1 1#1
  let main_v5 : IVec S_ 1 := (fun x v => Host.reduce IntOp.andi x v reducesTo_S1x1x64x64x64_S_d0_1_2_3_4 h_S_) main_v4 main_c
  main_v5
-- ==== Kernel.lean ====
abbrev S1x1x64x64x64 : Shape := ⟨5, ![1, 1, 64, 64, 64]⟩
abbrev S64x1x4096 : Shape := ⟨3, ![64, 1, 4096]⟩
abbrev S_ : Shape := ⟨0, ![]⟩
abbrev S63 : Shape := ⟨1, ![63]⟩
abbrev S1 : Shape := ⟨1, ![1]⟩
abbrev S64 : Shape := ⟨1, ![64]⟩
abbrev S6 : Shape := ⟨1, ![6]⟩
abbrev S64x1 : Shape := ⟨2, ![64, 1]⟩
abbrev S1x6 : Shape := ⟨2, ![1, 6]⟩
abbrev S64x6 : Shape := ⟨2, ![64, 6]⟩
abbrev S64x6x1 : Shape := ⟨3, ![64, 6, 1]⟩
abbrev S4 : Shape := ⟨1, ![4]⟩
abbrev S1x1x4 : Shape := ⟨3, ![1, 1, 4]⟩
abbrev S64x6x4 : Shape := ⟨3, ![64, 6, 4]⟩
abbrev S64x4 : Shape := ⟨2, ![64, 4]⟩
abbrev S4x64 : Shape := ⟨2, ![4, 64]⟩
abbrev S4x1x64x1 : Shape := ⟨4, ![4, 1, 64, 1]⟩
abbrev S1x4x1x64 : Shape := ⟨4, ![1, 4, 1, 64]⟩
abbrev S4x4x64x64 : Shape := ⟨4, ![4, 4, 64, 64]⟩
abbrev S16x4096 : Shape := ⟨2, ![16, 4096]⟩
abbrev S64x64 : Shape := ⟨2, ![64, 64]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S16x1x4096 : Shape := ⟨3, ![16, 1, 4096]⟩
abbrev S72x64 : Shape := ⟨2, ![72, 64]⟩
abbrev S64x4096 : Shape := ⟨2, ![64, 4096]⟩
abbrev S2 : Shape := ⟨1, ![2]⟩
abbrev S64x16 : Shape := ⟨2, ![64, 16]⟩
abbrev S1x1x4096 : Shape := ⟨3, ![1, 1, 4096]⟩
abbrev S1x4096 : Shape := ⟨2, ![1, 4096]⟩
abbrev S72x16 : Shape := ⟨2, ![72, 16]⟩
abbrev S72x1 : Shape := ⟨2, ![72, 1]⟩
abbrev S72x4096 : Shape := ⟨2, ![72, 4096]⟩
abbrev S1x1 : Shape := ⟨2, ![1, 1]⟩
abbrev S71x16 : Shape := ⟨2, ![71, 16]⟩
abbrev S70x16 : Shape := ⟨2, ![70, 16]⟩
abbrev S2x16 : Shape := ⟨2, ![2, 16]⟩
abbrev S69x16 : Shape := ⟨2, ![69, 16]⟩
abbrev S3x16 : Shape := ⟨2, ![3, 16]⟩
abbrev S68x16 : Shape := ⟨2, ![68, 16]⟩
abbrev S4x16 : Shape := ⟨2, ![4, 16]⟩
abbrev S67x16 : Shape := ⟨2, ![67, 16]⟩
abbrev S5x16 : Shape := ⟨2, ![5, 16]⟩
abbrev S72x96 : Shape := ⟨2, ![72, 96]⟩
abbrev S96x4096 : Shape := ⟨2, ![96, 4096]⟩
abbrev S4096 : Shape := ⟨1, ![4096]⟩
abbrev S1x1x1 : Shape := ⟨3, ![1, 1, 1]⟩

abbrev nBuf : Space → Nat
  | .hbm => 183
  | .vmem => 8
  | .smem => 2
  | _ => 0

abbrev hbmTy0_0 (i : Nat) : BufTy := match i % 128 with
  | 0 => ⟨S1x1x64x64x64, .f32⟩
  | 1 => ⟨S64x1x4096, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S63, .f32⟩
  | 10 => ⟨S_, .f32⟩
  | 11 => ⟨S63, .f32⟩
  | 12 => ⟨S63, .f32⟩
  | 13 => ⟨S1, .f32⟩
  | 14 => ⟨S_, .f32⟩
  | 15 => ⟨S63, .f32⟩
  | 16 => ⟨S63, .f32⟩
  | 17 => ⟨S63, .f32⟩
  | 18 => ⟨S63, .f32⟩
  | 19 => ⟨S1, .f32⟩
  | 20 => ⟨S63, .f32⟩
  | 21 => ⟨S63, .f32⟩
  | 22 => ⟨S63, .f32⟩
  | 23 => ⟨S1, .f32⟩
  | 24 => ⟨S64, .f32⟩
  | 25 => ⟨S64, .f32⟩
  | 26 => ⟨S6, .i32⟩
  | 27 => ⟨S_, .i32⟩
  | 28 => ⟨S6, .i32⟩
  | 29 => ⟨S6, .i32⟩
  | 30 => ⟨S64x1, .f32⟩
  | 31 => ⟨S1x6, .i32⟩
  | 32 => ⟨S1x6, .f32⟩
  | 33 => ⟨S64x6, .f32⟩
  | 34 => ⟨S64x6, .f32⟩
  | 35 => ⟨S64x6, .f32⟩
  | 36 => ⟨S64x1, .f32⟩
  | 37 => ⟨S64x6, .f32⟩
  | 38 => ⟨S64x6, .f32⟩
  | 39 => ⟨S64x6, .f32⟩
  | 40 => ⟨S_, .f32⟩
  | 41 => ⟨S64x6, .f32⟩
  | 42 => ⟨S64x6, .f32⟩
  | 43 => ⟨S_, .f32⟩
  | 44 => ⟨S_, .f32⟩
  | 45 => ⟨S64x6, .f32⟩
  | 46 => ⟨S64x6, .f32⟩
  | 47 => ⟨S64x6, .f32⟩
  | 48 => ⟨S64x6, .f32⟩
  | 49 => ⟨S64x6, .f32⟩
  | 50 => ⟨S_, .f32⟩
  | 51 => ⟨S64x6, .f32⟩
  | 52 => ⟨S64x6, .f32⟩
  | 53 => ⟨S_, .f32⟩
  | 54 => ⟨S_, .f32⟩
  | 55 => ⟨S64x6, .f32⟩
  | 56 => ⟨S64x6, .f32⟩
  | 57 => ⟨S64x6, .f32⟩
  | 58 => ⟨S64x6, .f32⟩
  | 59 => ⟨S64x6, .f32⟩
  | 60 => ⟨S_, .f32⟩
  | 61 => ⟨S64x6, .f32⟩
  | 62 => ⟨S64x6, .f32⟩
  | 63 => ⟨S_, .f32⟩
  | 64 => ⟨S_, .f32⟩
  | 65 => ⟨S64x6, .f32⟩
  | 66 => ⟨S64x6, .f32⟩
  | 67 => ⟨S64x6, .f32⟩
  | 68 => ⟨S64x6, .f32⟩
  | 69 => ⟨S64x6, .f32⟩
  | 70 => ⟨S_, .f32⟩
  | 71 => ⟨S64x6, .f32⟩
  | 72 => ⟨S64x6, .f32⟩
  | 73 => ⟨S64x6, .f32⟩
  | 74 => ⟨S_, .f32⟩
  | 75 => ⟨S64x6, .f32⟩
  | 76 => ⟨S64x6, .f32⟩
  | 77 => ⟨S64x6, .f32⟩
  | 78 => ⟨S_, .f32⟩
  | 79 => ⟨S64x6, .f32⟩
  | 80 => ⟨S64x6, .f32⟩
  | 81 => ⟨S64x6, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S64x6, .i32⟩
  | 89 => ⟨S64x6, .i32⟩
  | 90 => ⟨S_, .i32⟩
  | 91 => ⟨S64x6, .i32⟩
  | 92 => ⟨S64x6, .i1⟩
  | 93 => ⟨S_, .i32⟩
  | 94 => ⟨S64x6, .i32⟩
  | 95 => ⟨S64x6, .i1⟩
  | 96 => ⟨S_, .i32⟩
  | 97 => ⟨S_, .i1⟩
  | 98 => ⟨S64x6, .i1⟩
  | 99 => ⟨S64x6, .i1⟩
  | 100 => ⟨S64x6, .i1⟩
  | 101 => ⟨S64x6, .i32⟩
  | 102 => ⟨S64x6, .i32⟩
  | 103 => ⟨S64x6, .i32⟩
  | 104 => ⟨S_, .i32⟩
  | 105 => ⟨S64x6, .i32⟩
  | 106 => ⟨S64x6, .i1⟩
  | 107 => ⟨S_, .i32⟩
  | 108 => ⟨S64x6, .i32⟩
  | 109 => ⟨S64x6, .i32⟩
  | 110 => ⟨S64x6, .i32⟩
  | 111 => ⟨S64x6x1, .f32⟩
  | 112 => ⟨S64x6x1, .i32⟩
  | 113 => ⟨S4, .i32⟩
  | 114 => ⟨S1x1x4, .i32⟩
  | 115 => ⟨S64x6x4, .i32⟩
  | 116 => ⟨S64x6x4, .i32⟩
  | 117 => ⟨S64x6x4, .i1⟩
  | 118 => ⟨S64x6x4, .f32⟩
  | 119 => ⟨S64x6x4, .f32⟩
  | 120 => ⟨S64x6x4, .f32⟩
  | 121 => ⟨S_, .f32⟩
  | 122 => ⟨S64x4, .f32⟩
  | 123 => ⟨S4x64, .f32⟩
  | 124 => ⟨S4x1x64x1, .f32⟩
  | 125 => ⟨S4x64, .f32⟩
  | 126 => ⟨S1x4x1x64, .f32⟩
  | 127 => ⟨S4x4x64x64, .f32⟩
  | _ => ⟨S1x1x64x64x64, .f32⟩

abbrev hbmTy0_1 (i : Nat) : BufTy := match i % 128 with
  | 0 => ⟨S4x4x64x64, .f32⟩
  | 1 => ⟨S4x4x64x64, .f32⟩
  | 2 => ⟨S16x4096, .f32⟩
  | 3 => ⟨S64, .i32⟩
  | 4 => ⟨S64, .i32⟩
  | 5 => ⟨S64x64, .i32⟩
  | 6 => ⟨S64x64, .i32⟩
  | 7 => ⟨S_, .i32⟩
  | 8 => ⟨S_, .i32⟩
  | 9 => ⟨S64x64, .i32⟩
  | 10 => ⟨S64x64, .i32⟩
  | 11 => ⟨S64x64, .i32⟩
  | 12 => ⟨S_, .i32⟩
  | 13 => ⟨S64x64, .i32⟩
  | 14 => ⟨S64x64, .i1⟩
  | 15 => ⟨S64x64, .i32⟩
  | 16 => ⟨S64x64, .i32⟩
  | 17 => ⟨S_, .i32⟩
  | 18 => ⟨S64x64, .i32⟩
  | 19 => ⟨S64x64, .i1⟩
  | 20 => ⟨S64x64, .i1⟩
  | 21 => ⟨S_, .i32⟩
  | 22 => ⟨S64x64, .i32⟩
  | 23 => ⟨S64x64, .i32⟩
  | 24 => ⟨S64x64, .i32⟩
  | 25 => ⟨S_, .i32⟩
  | 26 => ⟨S64x64, .i32⟩
  | 27 => ⟨S64x64, .i32⟩
  | 28 => ⟨S_, .i32⟩
  | 29 => ⟨S_, .i32⟩
  | 30 => ⟨S64x64, .i32⟩
  | 31 => ⟨S64x64, .i32⟩
  | 32 => ⟨S64x64, .i32⟩
  | 33 => ⟨S_, .i32⟩
  | 34 => ⟨S64x64, .i32⟩
  | 35 => ⟨S64x64, .i1⟩
  | 36 => ⟨S64x64, .i32⟩
  | 37 => ⟨S64x64, .i32⟩
  | 38 => ⟨S_, .i32⟩
  | 39 => ⟨S64x64, .i32⟩
  | 40 => ⟨S64x64, .i1⟩
  | 41 => ⟨S64x64, .i1⟩
  | 42 => ⟨S_, .i32⟩
  | 43 => ⟨S64x64, .i32⟩
  | 44 => ⟨S64x64, .i32⟩
  | 45 => ⟨S64x64, .i32⟩
  | 46 => ⟨S64x64, .i32⟩
  | 47 => ⟨S4096x1, .i32⟩
  | 48 => ⟨S16, .i32⟩
  | 49 => ⟨S1x16, .i32⟩
  | 50 => ⟨S4096x16, .i32⟩
  | 51 => ⟨S4096x16, .i32⟩
  | 52 => ⟨S4096x16, .i1⟩
  | 53 => ⟨S4096x16, .f32⟩
  | 54 => ⟨S64x1x4096, .f32⟩
  | _ => ⟨S1x1x64x64x64, .f32⟩

abbrev hbmTy (i : Nat) : BufTy := match i / 128 with
  | 0 => hbmTy0_0 i
  | 1 => hbmTy0_1 i
  | _ => ⟨S1x1x64x64x64, .f32⟩

abbrev bufTy : (tb : Table) → Fin (tcTables nBuf tb) → BufTy
  | .hbm, ⟨i, _⟩ => hbmTy i
  | .local _ .vmem, ⟨0, _⟩ => ⟨S16x1x4096, .f32⟩
  | .local _ .vmem, ⟨1, _⟩ => ⟨S16x1x4096, .f32⟩
  | .local _ .vmem, ⟨2, _⟩ => ⟨S16x4096, .f32⟩
  | .local _ .vmem, ⟨3, _⟩ => ⟨S4096x16, .f32⟩
  | .local _ .vmem, ⟨4, _⟩ => ⟨S64x1x4096, .f32⟩
  | .local _ .vmem, ⟨5, _⟩ => ⟨S64x1x4096, .f32⟩
  | .local _ .vmem, ⟨6, _⟩ => ⟨S72x64, .f32⟩
  | .local _ .vmem, ⟨7, _⟩ => ⟨S64x4096, .f32⟩
  | .local _ .smem, ⟨0, _⟩ => ⟨S64x4, .f32⟩
  | .local _ .smem, ⟨1, _⟩ => ⟨S2, .f32⟩
  | _, _ => ⟨S1x1x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_5 : Ref sig .tc := ⟨.hbm, 60, rfl⟩
abbrev main_v28 : Ref sig .tc := ⟨.hbm, 61, rfl⟩
abbrev main_v29 : Ref sig .tc := ⟨.hbm, 62, rfl⟩
abbrev main_cst_6 : Ref sig .tc := ⟨.hbm, 63, rfl⟩
abbrev main_call3_v0 : Ref sig .tc := ⟨.hbm, 64, rfl⟩
abbrev main_call3_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_10 : Ref sig .tc := ⟨.hbm, 82, rfl⟩
abbrev main_call4_v0 : Ref sig .tc := ⟨.hbm, 83, rfl⟩
abbrev main_call4_c : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_c_1 : Ref sig .tc := ⟨.hbm, 90, rfl⟩
abbrev main_call4_v5 : Ref sig .tc := ⟨.hbm, 91, rfl⟩
abbrev main_call4_v6 : Ref sig .tc := ⟨.hbm, 92, rfl⟩
abbrev main_call4_c_2 : Ref sig .tc := ⟨.hbm, 93, rfl⟩
abbrev main_call4_v7 : Ref sig .tc := ⟨.hbm, 94, rfl⟩
abbrev main_call4_v8 : Ref sig .tc := ⟨.hbm, 95, rfl⟩
abbrev main_call4_c_3 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_v43 : Ref sig .tc := ⟨.hbm, 103, rfl⟩
abbrev main_c_11 : Ref sig .tc := ⟨.hbm, 104, rfl⟩
abbrev main_v44 : Ref sig .tc := ⟨.hbm, 105, rfl⟩
abbrev main_v45 : Ref sig .tc := ⟨.hbm, 106, rfl⟩
abbrev main_c_12 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_13 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_c_14 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_call6_v5 : Ref sig .tc := ⟨.hbm, 141, rfl⟩
abbrev main_call6_v6 : Ref sig .tc := ⟨.hbm, 142, rfl⟩
abbrev main_call6_v7 : Ref sig .tc := ⟨.hbm, 143, rfl⟩
abbrev main_call6_v8 : Ref sig .tc := ⟨.hbm, 144, rfl⟩
abbrev main_call6_c : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_c_0 : Ref sig .tc := ⟨.hbm, 149, rfl⟩
abbrev main_call6_v12 : Ref sig .tc := ⟨.hbm, 150, rfl⟩
abbrev main_call6_v13 : Ref sig .tc := ⟨.hbm, 151, rfl⟩
abbrev main_v72 : Ref sig .tc := ⟨.hbm, 152, rfl⟩
abbrev main_c_15 : Ref sig .tc := ⟨.hbm, 153, rfl⟩
abbrev main_v73 : Ref sig .tc := ⟨.hbm, 154, rfl⟩
abbrev main_v74 : Ref sig .tc := ⟨.hbm, 155, rfl⟩
abbrev main_c_16 : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_call7_v5 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_c : Ref sig .tc := ⟨.hbm, 166, rfl⟩
abbrev main_call7_v9 : Ref sig .tc := ⟨.hbm, 167, rfl⟩
abbrev main_call7_v10 : Ref sig .tc := ⟨.hbm, 168, rfl⟩
abbrev main_call7_v11 : Ref sig .tc := ⟨.hbm, 169, rfl⟩
abbrev main_call7_c_0 : Ref sig .tc := ⟨.hbm, 170, rfl⟩
abbrev main_call7_v12 : Ref sig .tc := ⟨.hbm, 171, rfl⟩
abbrev main_call7_v13 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let c8_i32 : BitVec 32 := 8#32
  let v7 : BitVec 1 := Scalar.cmpi .slt arg0 c8_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off1 (i : grid0.Coords) (c0_i32_8 : BitVec 32) : Fin 2 → Nat :=
  let arg0 : BitVec 32 := BitVec.ofNat 32 (i 0).val
  let c4_i32_7 : BitVec 32 := 4#32
  let v17 : BitVec 32 := Scalar.subi arg0 c4_i32_7
  let c16_i32 : BitVec 32 := 16#32
  let v18 : BitVec 32 := Scalar.muli v17 c16_i32
  let v19 : BitVec 32 := Scalar.addi v18 c0_i32_8
  let v34 : Index := Scalar.indexCast v19
  let c0_12 : Index := 0#32
  ![v34.toNat, 0]
def k0_off2 (i : grid0.Coords) (c0_i32_8 : BitVec 32) : Fin 2 → Nat :=
  let arg0 : BitVec 32 := BitVec.ofNat 32 (i 0).val
  let c4_i32_7 : BitVec 32 := 4#32
  let v17 : BitVec 32 := Scalar.subi arg0 c4_i32_7
  let c16_i32 : BitVec 32 := 16#32
  let v18 : BitVec 32 := Scalar.muli v17 c16_i32
  let v19 : BitVec 32 := Scalar.addi v18 c0_i32_8
  let v39 : Index := Scalar.indexCast v19
  let c1 : Index := 1#32
  ![v39.toNat, 1]
def k0_off3 (i : grid0.Coords) (c0_i32_8 : BitVec 32) : Fin 2 → Nat :=
  let arg0 : BitVec 32 := BitVec.ofNat 32 (i 0).val
  let c4_i32_7 : BitVec 32 := 4#32
  let v17 : BitVec 32 := Scalar.subi arg0 c4_i32_7
  let c16_i32 : BitVec 32 := 16#32
  let v18 : BitVec 32 := Scalar.muli v17 c16_i32
  let v19 : BitVec 32 := Scalar.addi v18 c0_i32_8
  let v45 : Index := Scalar.indexCast v19
  let c2 : Index := 2#32
  ![v45.toNat, 2]
def k0_off4 (i : grid0.Coords) (c0_i32_8 : BitVec 32) : Fin 2 → Nat :=
  let arg0 : BitVec 32 := BitVec.ofNat 32 (i 0).val
  let c4_i32_7 : BitVec 32 := 4#32
  let v17 : BitVec 32 := Scalar.subi arg0 c4_i32_7
  let c16_i32 : BitVec 32 := 16#32
  let v18 : BitVec 32 := Scalar.muli v17 c16_i32
  let v19 : BitVec 32 := Scalar.addi v18 c0_i32_8
  let v51 : Index := Scalar.indexCast v19
  let c3 : Index := 3#32
  ![v51.toNat, 3]
def k0_off5 (i : grid0.Coords) (c0_i32_8 : BitVec 32) : Fin 2 → Nat :=
  let arg0 : BitVec 32 := BitVec.ofNat 32 (i 0).val
  let c4_i32_7 : BitVec 32 := 4#32
  let v17 : BitVec 32 := Scalar.subi arg0 c4_i32_7
  let c16_i32 : BitVec 32 := 16#32
  let v18 : BitVec 32 := Scalar.muli v17 c16_i32
  let v19 : BitVec 32 := Scalar.addi v18 c0_i32_8
  let v196 : Index := Scalar.indexCast v19
  let c0_61 : Index := 0#32
  ![v196.toNat, 0]
def k0_cond4 (i : grid0.Coords) : BitVec 1 :=
  let arg0 : BitVec 32 := BitVec.ofNat 32 (i 0).val
  let c8_i32_4 : BitVec 32 := 8#32
  let v11 : BitVec 1 := Scalar.cmpi .sge arg0 c8_i32_4
  let v12 : BitVec 32 := Scalar.extui v11
  let c0_i32_5 : BitVec 32 := 0#32
  let v13 : BitVec 1 := Scalar.cmpi .ne v12 c0_i32_5
  v13

def k0_off6 (i : grid0.Coords) : Fin 2 → Nat :=
  let arg0 : BitVec 32 := BitVec.ofNat 32 (i 0).val
  let c8_i32_6 : BitVec 32 := 8#32
  let v14 : BitVec 32 := Scalar.subi arg0 c8_i32_6
  let c64_i32 : BitVec 32 := 64#32
  let v15 : BitVec 32 := Scalar.muli v14 c64_i32
  let v18 : Index := Scalar.indexCast v15
  let c0_7 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let v2 : BitVec 32 := Scalar.select v0 arg0 v1
  let c0_i32 : BitVec 32 := 0#32
  let c3_i32 : BitVec 32 := 3#32
  let v3 : BitVec 32 := Scalar.maxsi c0_i32 v2
  let v4 : BitVec 32 := Scalar.minsi c3_i32 v3
  let c0_i32_1 : BitVec 32 := 0#32
  let c0_i32_2 : BitVec 32 := 0#32
  let c0_i32_3 : BitVec 32 := 0#32
  ![v4.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![v2.toNat, c0_i32_1.toNat, c0_i32_2.toNat]

abbrev stage0_0 : Fin 1 → Memref sig .tc .smem S64x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv63" => some ((1 / 63 : ℝ) : EReal)
  | "m1" => some ((-1 / 120 : ℝ) : EReal)
  | "m10" => some ((-1 / 12 : ℝ) : EReal)
  | "m20" => some ((-1 / 6 : ℝ) : EReal)
  | "m5" => some ((-1 / 24 : ℝ) : EReal)
  | "m50" => some ((-5 / 12 : ℝ) : EReal)
  | "p1" => some ((1 / 120 : ℝ) : EReal)
  | "p10" => some ((1 / 12 : ℝ) : EReal)
  | "p20" => some ((1 / 6 : ℝ) : EReal)
  | "p26" => some ((13 / 60 : ℝ) : EReal)
  | "p5" => some ((1 / 24 : ℝ) : EReal)
  | "p50" => some ((5 / 12 : ℝ) : EReal)
  | "p66" => some ((11 / 20 : ℝ) : EReal)
  | _ => none
-- ==== ReferenceIdeal.lean ====
abbrev S1x1x64x64x64 : Shape := ⟨5, ![1, 1, 64, 64, 64]⟩
abbrev S1x1x4x16x4x16x4x16 : Shape := ⟨8, ![1, 1, 4, 16, 4, 16, 4, 16]⟩
abbrev S1x1x4x4x4x16x16x16 : Shape := ⟨8, ![1, 1, 4, 4, 4, 16, 16, 16]⟩
abbrev S1x1x64x4096 : Shape := ⟨4, ![1, 1, 64, 4096]⟩
abbrev S_ : Shape := ⟨0, ![]⟩
abbrev S63 : Shape := ⟨1, ![63]⟩
abbrev S1 : Shape := ⟨1, ![1]⟩
abbrev S64 : Shape := ⟨1, ![64]⟩
abbrev S1x1x64x4096x1 : Shape := ⟨5, ![1, 1, 64, 4096, 1]⟩
abbrev S1x1x1x1x64 : Shape := ⟨5, ![1, 1, 1, 1, 64]⟩
abbrev S1x1x64x4096x64 : Shape := ⟨5, ![1, 1, 64, 4096, 64]⟩
abbrev S1x1x64x64 : Shape := ⟨4, ![1, 1, 64, 64]⟩
abbrev S1x1x64 : Shape := ⟨3, ![1, 1, 64]⟩
abbrev S1x1x64x1 : Shape := ⟨4, ![1, 1, 64, 1]⟩
abbrev S64x64 : Shape := ⟨2, ![64, 64]⟩
abbrev S64x1 : Shape := ⟨2, ![64, 1]⟩
abbrev S1x64 : Shape := ⟨2, ![1, 64]⟩
abbrev S1x1x4x4x4x64 : Shape := ⟨6, ![1, 1, 4, 4, 4, 64]⟩
abbrev S1x1x64x4x4x4 : Shape := ⟨6, ![1, 1, 64, 4, 4, 4]⟩
abbrev S64x64x64 : Shape := ⟨3, ![64, 64, 64]⟩
abbrev S64x64x64x1 : Shape := ⟨4, ![64, 64, 64, 1]⟩
abbrev S64x64x64x3 : Shape := ⟨4, ![64, 64, 64, 3]⟩
abbrev S64x64x64x4 : Shape := ⟨4, ![64, 64, 64, 4]⟩
abbrev S262144x4 : Shape := ⟨2, ![262144, 4]⟩
abbrev S64x4x4x4 : Shape := ⟨4, ![64, 4, 4, 4]⟩
abbrev S6 : Shape := ⟨1, ![6]⟩
abbrev S262144x4x1 : Shape := ⟨3, ![262144, 4, 1]⟩
abbrev S1x1x6 : Shape := ⟨3, ![1, 1, 6]⟩
abbrev S262144x4x6 : Shape := ⟨3, ![262144, 4, 6]⟩
abbrev S262144x1x6 : Shape := ⟨3, ![262144, 1, 6]⟩
abbrev S262144x6 : Shape := ⟨2, ![262144, 6]⟩
abbrev S262144x6x1x1x1 : Shape := ⟨5, ![262144, 6, 1, 1, 1]⟩
abbrev S262144x1x6x1x1 : Shape := ⟨5, ![262144, 1, 6, 1, 1]⟩
abbrev S262144x1x1x6x1 : Shape := ⟨5, ![262144, 1, 1, 6, 1]⟩
abbrev S262144x1x1x1x6 : Shape := ⟨5, ![262144, 1, 1, 1, 6]⟩
abbrev S262144x6x6x6x6 : Shape := ⟨5, ![262144, 6, 6, 6, 6]⟩
abbrev S262144x6x6x6x6x1 : Shape := ⟨6, ![262144, 6, 6, 6, 6, 1]⟩
abbrev S262144x6x6x6x6x4 : Shape := ⟨6, ![262144, 6, 6, 6, 6, 4]⟩
abbrev S262144x6x6x6 : Shape := ⟨4, ![262144, 6, 6, 6]⟩
abbrev S262144x1x1x6 : Shape := ⟨4, ![262144, 1, 1, 6]⟩
abbrev S262144x6x6 : Shape := ⟨3, ![262144, 6, 6]⟩
abbrev S262144 : Shape := ⟨1, ![262144]⟩
abbrev S64x1x4096 : Shape := ⟨3, ![64, 1, 4096]⟩

abbrev nBuf : Space → Nat
  | .hbm => 459
  | .vmem => 0
  | .smem => 0
  | _ => 0

abbrev hbmTy0_0 (i : Nat) : BufTy := match i % 128 with
  | 0 => ⟨S1x1x64x64x64, .f32⟩
  | 1 => ⟨S1x1x4x16x4x16x4x16, .f32⟩
  | 2 => ⟨S1x1x4x4x4x16x16x16, .f32⟩
  | 3 => ⟨S1x1x64x4096, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S63, .f32⟩
  | 12 => ⟨S_, .f32⟩
  | 13 => ⟨S63, .f32⟩
  | 14 => ⟨S63, .f32⟩
  | 15 => ⟨S1, .f32⟩
  | 16 => ⟨S_, .f32⟩
  | 17 => ⟨S63, .f32⟩
  | 18 => ⟨S63, .f32⟩
  | 19 => ⟨S63, .f32⟩
  | 20 => ⟨S63, .f32⟩
  | 21 => ⟨S1, .f32⟩
  | 22 => ⟨S63, .f32⟩
  | 23 => ⟨S63, .f32⟩
  | 24 => ⟨S63, .f32⟩
  | 25 => ⟨S1, .f32⟩
  | 26 => ⟨S64, .f32⟩
  | 27 => ⟨S_, .f32⟩
  | 28 => ⟨S_, .f32⟩
  | 29 => ⟨S_, .f32⟩
  | 30 => ⟨S1x1x64x4096x1, .f32⟩
  | 31 => ⟨S1x1x1x1x64, .f32⟩
  | 32 => ⟨S1x1x64x4096x64, .f32⟩
  | 33 => ⟨S1x1x64x4096x64, .f32⟩
  | 34 => ⟨S1x1x64x4096x64, .f32⟩
  | 35 => ⟨S1x1x64x4096x64, .f32⟩
  | 36 => ⟨S1x1x64x4096x64, .f32⟩
  | 37 => ⟨S1x1x64x4096x64, .f32⟩
  | 38 => ⟨S_, .f32⟩
  | 39 => ⟨S1x1x64x4096x64, .f32⟩
  | 40 => ⟨S1x1x64x4096x64, .f32⟩
  | 41 => ⟨S1x1x64x4096x64, .f32⟩
  | 42 => ⟨S_, .f32⟩
  | 43 => ⟨S1x1x64x64, .f32⟩
  | 44 => ⟨S_, .f32⟩
  | 45 => ⟨S1x1x64x64, .f32⟩
  | 46 => ⟨S1x1x64x64, .f32⟩
  | 47 => ⟨S_, .f32⟩
  | 48 => ⟨S1x1x64, .f32⟩
  | 49 => ⟨S1x1x64x1, .f32⟩
  | 50 => ⟨S_, .f32⟩
  | 51 => ⟨S1x1x64x1, .f32⟩
  | 52 => ⟨S1x1x64x1, .f32⟩
  | 53 => ⟨S1x1x64x64, .f32⟩
  | 54 => ⟨S1x1x64x64, .f32⟩
  | 55 => ⟨S_, .f32⟩
  | 56 => ⟨S1x1x64x64, .f32⟩
  | 57 => ⟨S1x1x64x64, .f32⟩
  | 58 => ⟨S64x64, .f32⟩
  | 59 => ⟨S_, .f32⟩
  | 60 => ⟨S64x64, .f32⟩
  | 61 => ⟨S64x64, .f32⟩
  | 62 => ⟨S_, .f32⟩
  | 63 => ⟨S64, .f32⟩
  | 64 => ⟨S_, .f32⟩
  | 65 => ⟨S64, .f32⟩
  | 66 => ⟨S64, .f32⟩
  | 67 => ⟨S_, .i32⟩
  | 68 => ⟨S_, .f32⟩
  | 69 => ⟨S64, .f32⟩
  | 70 => ⟨S64, .f32⟩
  | 71 => ⟨S_, .f32⟩
  | 72 => ⟨S64, .f32⟩
  | 73 => ⟨S64, .i1⟩
  | 74 => ⟨S_, .f32⟩
  | 75 => ⟨S64, .f32⟩
  | 76 => ⟨S64, .i1⟩
  | 77 => ⟨S_, .f32⟩
  | 78 => ⟨S_, .i1⟩
  | 79 => ⟨S64, .i1⟩
  | 80 => ⟨S64, .i1⟩
  | 81 => ⟨S64, .i1⟩
  | 82 => ⟨S64, .f32⟩
  | 83 => ⟨S64, .f32⟩
  | 84 => ⟨S64, .f32⟩
  | 85 => ⟨S64, .f32⟩
  | 86 => ⟨S_, .f32⟩
  | 87 => ⟨S64, .f32⟩
  | 88 => ⟨S64, .f32⟩
  | 89 => ⟨S64x1, .f32⟩
  | 90 => ⟨S64x64, .f32⟩
  | 91 => ⟨S64x64, .f32⟩
  | 92 => ⟨S64, .i32⟩
  | 93 => ⟨S1x64, .i32⟩
  | 94 => ⟨S64x1, .f32⟩
  | 95 => ⟨S1x64, .f32⟩
  | 96 => ⟨S64x64, .f32⟩
  | 97 => ⟨S64x64, .f32⟩
  | 98 => ⟨S64x64, .i1⟩
  | 99 => ⟨S64x64, .f32⟩
  | 100 => ⟨S64x64, .f32⟩
  | 101 => ⟨S_, .f32⟩
  | 102 => ⟨S_, .f32⟩
  | 103 => ⟨S64x64, .f32⟩
  | 104 => ⟨S_, .f32⟩
  | 105 => ⟨S64x64, .f32⟩
  | 106 => ⟨S64x64, .f32⟩
  | 107 => ⟨S_, .f32⟩
  | 108 => ⟨S64x64, .f32⟩
  | 109 => ⟨S64x64, .f32⟩
  | 110 => ⟨S1x1x4x4x4x64, .f32⟩
  | 111 => ⟨S1x1x64x4x4x4, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S63, .f32⟩
  | 120 => ⟨S_, .f32⟩
  | 121 => ⟨S63, .f32⟩
  | 122 => ⟨S63, .f32⟩
  | 123 => ⟨S1, .f32⟩
  | 124 => ⟨S_, .f32⟩
  | 125 => ⟨S63, .f32⟩
  | 126 => ⟨S63, .f32⟩
  | 127 => ⟨S63, .f32⟩
  | _ => ⟨S1x1x64x64x64, .f32⟩

abbrev hbmTy0_1 (i : Nat) : BufTy := match i % 128 with
  | 0 => ⟨S63, .f32⟩
  | 1 => ⟨S1, .f32⟩
  | 2 => ⟨S63, .f32⟩
  | 3 => ⟨S63, .f32⟩
  | 4 => ⟨S63, .f32⟩
  | 5 => ⟨S1, .f32⟩
  | 6 => ⟨S64, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S63, .f32⟩
  | 15 => ⟨S_, .f32⟩
  | 16 => ⟨S63, .f32⟩
  | 17 => ⟨S63, .f32⟩
  | 18 => ⟨S1, .f32⟩
  | 19 => ⟨S_, .f32⟩
  | 20 => ⟨S63, .f32⟩
  | 21 => ⟨S63, .f32⟩
  | 22 => ⟨S63, .f32⟩
  | 23 => ⟨S63, .f32⟩
  | 24 => ⟨S1, .f32⟩
  | 25 => ⟨S63, .f32⟩
  | 26 => ⟨S63, .f32⟩
  | 27 => ⟨S63, .f32⟩
  | 28 => ⟨S1, .f32⟩
  | 29 => ⟨S64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S63, .f32⟩
  | 38 => ⟨S_, .f32⟩
  | 39 => ⟨S63, .f32⟩
  | 40 => ⟨S63, .f32⟩
  | 41 => ⟨S1, .f32⟩
  | 42 => ⟨S_, .f32⟩
  | 43 => ⟨S63, .f32⟩
  | 44 => ⟨S63, .f32⟩
  | 45 => ⟨S63, .f32⟩
  | 46 => ⟨S63, .f32⟩
  | 47 => ⟨S1, .f32⟩
  | 48 => ⟨S63, .f32⟩
  | 49 => ⟨S63, .f32⟩
  | 50 => ⟨S63, .f32⟩
  | 51 => ⟨S1, .f32⟩
  | 52 => ⟨S64, .f32⟩
  | 53 => ⟨S64x64x64, .f32⟩
  | 54 => ⟨S64x64x64, .f32⟩
  | 55 => ⟨S64x64x64, .f32⟩
  | 56 => ⟨S64x64x64x1, .f32⟩
  | 57 => ⟨S64x64x64x1, .f32⟩
  | 58 => ⟨S64x64x64x1, .f32⟩
  | 59 => ⟨S64x64x64x3, .f32⟩
  | 60 => ⟨S64x64x64, .f32⟩
  | 61 => ⟨S64x64x64x1, .f32⟩
  | 62 => ⟨S_, .f32⟩
  | 63 => ⟨S64x64x64x1, .f32⟩
  | 64 => ⟨S64x64x64x1, .f32⟩
  | 65 => ⟨S64x64x64x4, .f32⟩
  | 66 => ⟨S262144x4, .f32⟩
  | 67 => ⟨S64x4x4x4, .f32⟩
  | 68 => ⟨S6, .i32⟩
  | 69 => ⟨S_, .i32⟩
  | 70 => ⟨S6, .i32⟩
  | 71 => ⟨S6, .i32⟩
  | 72 => ⟨S262144x4, .f32⟩
  | 73 => ⟨S262144x4x1, .f32⟩
  | 74 => ⟨S1x1x6, .i32⟩
  | 75 => ⟨S1x1x6, .f32⟩
  | 76 => ⟨S262144x4x6, .f32⟩
  | 77 => ⟨S262144x4x6, .f32⟩
  | 78 => ⟨S262144x4x6, .f32⟩
  | 79 => ⟨S262144x4x1, .f32⟩
  | 80 => ⟨S262144x4x6, .f32⟩
  | 81 => ⟨S262144x4x6, .f32⟩
  | 82 => ⟨S262144x4x6, .f32⟩
  | 83 => ⟨S_, .f32⟩
  | 84 => ⟨S262144x4x6, .f32⟩
  | 85 => ⟨S262144x4x6, .f32⟩
  | 86 => ⟨S_, .f32⟩
  | 87 => ⟨S_, .f32⟩
  | 88 => ⟨S262144x4x6, .f32⟩
  | 89 => ⟨S262144x4x6, .f32⟩
  | 90 => ⟨S262144x4x6, .f32⟩
  | 91 => ⟨S262144x4x6, .f32⟩
  | 92 => ⟨S262144x4x6, .f32⟩
  | 93 => ⟨S_, .f32⟩
  | 94 => ⟨S262144x4x6, .f32⟩
  | 95 => ⟨S262144x4x6, .f32⟩
  | 96 => ⟨S_, .f32⟩
  | 97 => ⟨S_, .f32⟩
  | 98 => ⟨S262144x4x6, .f32⟩
  | 99 => ⟨S262144x4x6, .f32⟩
  | 100 => ⟨S262144x4x6, .f32⟩
  | 101 => ⟨S262144x4x6, .f32⟩
  | 102 => ⟨S262144x4x6, .f32⟩
  | 103 => ⟨S_, .f32⟩
  | 104 => ⟨S262144x4x6, .f32⟩
  | 105 => ⟨S262144x4x6, .f32⟩
  | 106 => ⟨S_, .f32⟩
  | 107 => ⟨S_, .f32⟩
  | 108 => ⟨S262144x4x6, .f32⟩
  | 109 => ⟨S262144x4x6, .f32⟩
  | 110 => ⟨S262144x4x6, .f32⟩
  | 111 => ⟨S262144x4x6, .f32⟩
  | 112 => ⟨S262144x4x6, .f32⟩
  | 113 => ⟨S_, .f32⟩
  | 114 => ⟨S262144x4x6, .f32⟩
  | 115 => ⟨S262144x4x6, .f32⟩
  | 116 => ⟨S262144x4x6, .f32⟩
  | 117 => ⟨S_, .f32⟩
  | 118 => ⟨S262144x4x6, .f32⟩
  | 119 => ⟨S262144x4x6, .f32⟩
  | 120 => ⟨S262144x4x6, .f32⟩
  | 121 => ⟨S_, .f32⟩
  | 122 => ⟨S262144x4x6, .f32⟩
  | 123 => ⟨S262144x4x6, .f32⟩
  | 124 => ⟨S262144x4x6, .i32⟩
  | 125 => ⟨S262144x1x6, .i32⟩
  | 126 => ⟨S262144x6, .i32⟩
  | 127 => ⟨S_, .i32⟩
  | _ => ⟨S1x1x64x64x64, .f32⟩

abbrev hbmTy0_2 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S262144x6, .i32⟩
  | 6 => ⟨S262144x6, .i32⟩
  | 7 => ⟨S_, .i32⟩
  | 8 => ⟨S262144x6, .i32⟩
  | 9 => ⟨S262144x6, .i1⟩
  | 10 => ⟨S_, .i32⟩
  | 11 => ⟨S262144x6, .i32⟩
  | 12 => ⟨S262144x6, .i1⟩
  | 13 => ⟨S_, .i32⟩
  | 14 => ⟨S_, .i1⟩
  | 15 => ⟨S262144x6, .i1⟩
  | 16 => ⟨S262144x6, .i1⟩
  | 17 => ⟨S262144x6, .i1⟩
  | 18 => ⟨S262144x6, .i32⟩
  | 19 => ⟨S262144x6, .i32⟩
  | 20 => ⟨S262144x6, .i32⟩
  | 21 => ⟨S_, .i32⟩
  | 22 => ⟨S262144x6, .i32⟩
  | 23 => ⟨S262144x6, .i1⟩
  | 24 => ⟨S_, .i32⟩
  | 25 => ⟨S262144x6, .i32⟩
  | 26 => ⟨S262144x6, .i32⟩
  | 27 => ⟨S262144x6, .i32⟩
  | 28 => ⟨S262144x1x6, .i32⟩
  | 29 => ⟨S262144x6, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S262144x6, .i32⟩
  | 37 => ⟨S262144x6, .i32⟩
  | 38 => ⟨S_, .i32⟩
  | 39 => ⟨S262144x6, .i32⟩
  | 40 => ⟨S262144x6, .i1⟩
  | 41 => ⟨S_, .i32⟩
  | 42 => ⟨S262144x6, .i32⟩
  | 43 => ⟨S262144x6, .i1⟩
  | 44 => ⟨S_, .i32⟩
  | 45 => ⟨S_, .i1⟩
  | 46 => ⟨S262144x6, .i1⟩
  | 47 => ⟨S262144x6, .i1⟩
  | 48 => ⟨S262144x6, .i1⟩
  | 49 => ⟨S262144x6, .i32⟩
  | 50 => ⟨S262144x6, .i32⟩
  | 51 => ⟨S262144x6, .i32⟩
  | 52 => ⟨S_, .i32⟩
  | 53 => ⟨S262144x6, .i32⟩
  | 54 => ⟨S262144x6, .i1⟩
  | 55 => ⟨S_, .i32⟩
  | 56 => ⟨S262144x6, .i32⟩
  | 57 => ⟨S262144x6, .i32⟩
  | 58 => ⟨S262144x6, .i32⟩
  | 59 => ⟨S262144x1x6, .i32⟩
  | 60 => ⟨S262144x6, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S262144x6, .i32⟩
  | 68 => ⟨S262144x6, .i32⟩
  | 69 => ⟨S_, .i32⟩
  | 70 => ⟨S262144x6, .i32⟩
  | 71 => ⟨S262144x6, .i1⟩
  | 72 => ⟨S_, .i32⟩
  | 73 => ⟨S262144x6, .i32⟩
  | 74 => ⟨S262144x6, .i1⟩
  | 75 => ⟨S_, .i32⟩
  | 76 => ⟨S_, .i1⟩
  | 77 => ⟨S262144x6, .i1⟩
  | 78 => ⟨S262144x6, .i1⟩
  | 79 => ⟨S262144x6, .i1⟩
  | 80 => ⟨S262144x6, .i32⟩
  | 81 => ⟨S262144x6, .i32⟩
  | 82 => ⟨S262144x6, .i32⟩
  | 83 => ⟨S_, .i32⟩
  | 84 => ⟨S262144x6, .i32⟩
  | 85 => ⟨S262144x6, .i1⟩
  | 86 => ⟨S_, .i32⟩
  | 87 => ⟨S262144x6, .i32⟩
  | 88 => ⟨S262144x6, .i32⟩
  | 89 => ⟨S262144x6, .i32⟩
  | 90 => ⟨S262144x1x6, .i32⟩
  | 91 => ⟨S262144x6, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S262144x6, .i32⟩
  | 99 => ⟨S262144x6, .i32⟩
  | 100 => ⟨S_, .i32⟩
  | 101 => ⟨S262144x6, .i32⟩
  | 102 => ⟨S262144x6, .i1⟩
  | 103 => ⟨S_, .i32⟩
  | 104 => ⟨S262144x6, .i32⟩
  | 105 => ⟨S262144x6, .i1⟩
  | 106 => ⟨S_, .i32⟩
  | 107 => ⟨S_, .i1⟩
  | 108 => ⟨S262144x6, .i1⟩
  | 109 => ⟨S262144x6, .i1⟩
  | 110 => ⟨S262144x6, .i1⟩
  | 111 => ⟨S262144x6, .i32⟩
  | 112 => ⟨S262144x6, .i32⟩
  | 113 => ⟨S262144x6, .i32⟩
  | 114 => ⟨S_, .i32⟩
  | 115 => ⟨S262144x6, .i32⟩
  | 116 => ⟨S262144x6, .i1⟩
  | 117 => ⟨S_, .i32⟩
  | 118 => ⟨S262144x6, .i32⟩
  | 119 => ⟨S262144x6, .i32⟩
  | 120 => ⟨S262144x6, .i32⟩
  | 121 => ⟨S262144x6x1x1x1, .i32⟩
  | 122 => ⟨S262144x1x6x1x1, .i32⟩
  | 123 => ⟨S262144x1x1x6x1, .i32⟩
  | 124 => ⟨S262144x1x1x1x6, .i32⟩
  | 125 => ⟨S_, .i32⟩
  | 126 => ⟨S262144x6x1x1x1, .i32⟩
  | 127 => ⟨S262144x6x1x1x1, .i1⟩
  | _ => ⟨S1x1x64x64x64, .f32⟩

abbrev hbmTy0_3 (i : Nat) : BufTy := match i % 128 with
  | 0 => ⟨S_, .i32⟩
  | 1 => ⟨S262144x6x1x1x1, .i32⟩
  | 2 => ⟨S262144x6x1x1x1, .i32⟩
  | 3 => ⟨S262144x6x1x1x1, .i32⟩
  | 4 => ⟨S_, .i32⟩
  | 5 => ⟨S262144x1x6x1x1, .i32⟩
  | 6 => ⟨S262144x1x6x1x1, .i1⟩
  | 7 => ⟨S_, .i32⟩
  | 8 => ⟨S262144x1x6x1x1, .i32⟩
  | 9 => ⟨S262144x1x6x1x1, .i32⟩
  | 10 => ⟨S262144x1x6x1x1, .i32⟩
  | 11 => ⟨S_, .i32⟩
  | 12 => ⟨S262144x1x1x6x1, .i32⟩
  | 13 => ⟨S262144x1x1x6x1, .i1⟩
  | 14 => ⟨S_, .i32⟩
  | 15 => ⟨S262144x1x1x6x1, .i32⟩
  | 16 => ⟨S262144x1x1x6x1, .i32⟩
  | 17 => ⟨S262144x1x1x6x1, .i32⟩
  | 18 => ⟨S_, .i32⟩
  | 19 => ⟨S262144x1x1x1x6, .i32⟩
  | 20 => ⟨S262144x1x1x1x6, .i1⟩
  | 21 => ⟨S_, .i32⟩
  | 22 => ⟨S262144x1x1x1x6, .i32⟩
  | 23 => ⟨S262144x1x1x1x6, .i32⟩
  | 24 => ⟨S262144x1x1x1x6, .i32⟩
  | 25 => ⟨S262144x6x6x6x6, .i32⟩
  | 26 => ⟨S262144x6x6x6x6, .i32⟩
  | 27 => ⟨S262144x6x6x6x6, .i32⟩
  | 28 => ⟨S262144x6x6x6x6, .i32⟩
  | 29 => ⟨S262144x6x6x6x6x1, .i32⟩
  | 30 => ⟨S262144x6x6x6x6x1, .i32⟩
  | 31 => ⟨S262144x6x6x6x6x1, .i32⟩
  | 32 => ⟨S262144x6x6x6x6x1, .i32⟩
  | 33 => ⟨S262144x6x6x6x6x4, .i32⟩
  | 34 => ⟨S262144x6x6x6x6, .f32⟩
  | 35 => ⟨S262144x1x6, .f32⟩
  | 36 => ⟨S262144x6, .f32⟩
  | 37 => ⟨S262144x1x1x1x6, .f32⟩
  | 38 => ⟨S262144x6x6x6x6, .f32⟩
  | 39 => ⟨S262144x6x6x6x6, .f32⟩
  | 40 => ⟨S_, .f32⟩
  | 41 => ⟨S262144x6x6x6, .f32⟩
  | 42 => ⟨S262144x1x6, .f32⟩
  | 43 => ⟨S262144x6, .f32⟩
  | 44 => ⟨S262144x1x1x6, .f32⟩
  | 45 => ⟨S262144x6x6x6, .f32⟩
  | 46 => ⟨S262144x6x6x6, .f32⟩
  | 47 => ⟨S_, .f32⟩
  | 48 => ⟨S262144x6x6, .f32⟩
  | 49 => ⟨S262144x1x6, .f32⟩
  | 50 => ⟨S262144x6, .f32⟩
  | 51 => ⟨S262144x1x6, .f32⟩
  | 52 => ⟨S262144x6x6, .f32⟩
  | 53 => ⟨S262144x6x6, .f32⟩
  | 54 => ⟨S_, .f32⟩
  | 55 => ⟨S262144x6, .f32⟩
  | 56 => ⟨S262144x1x6, .f32⟩
  | 57 => ⟨S262144x6, .f32⟩
  | 58 => ⟨S262144x6, .f32⟩
  | 59 => ⟨S_, .f32⟩
  | 60 => ⟨S262144, .f32⟩
  | 61 => ⟨S_, .f32⟩
  | 62 => ⟨S_, .f32⟩
  | 63 => ⟨S262144, .f32⟩
  | 64 => ⟨S262144, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S262144, .f32⟩
  | 73 => ⟨S262144, .f32⟩
  | 74 => ⟨S64x1x4096, .f32⟩
  | _ => ⟨S1x1x64x64x64, .f32⟩

abbrev hbmTy (i : Nat) : BufTy := match i / 128 with
  | 0 => hbmTy0_0 i
  | 1 => hbmTy0_1 i
  | 2 => hbmTy0_2 i
  | 3 => hbmTy0_3 i
  | _ => ⟨S1x1x64x64x64, .f32⟩

abbrev bufTy : (tb : Table) → Fin (tcTables nBuf tb) → BufTy
  | .hbm, ⟨i, _⟩ => hbmTy i
  | _, _ => ⟨S1x1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v3 : Ref sig .tc := ⟨.hbm, 26, rfl⟩
abbrev main_cst_1 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_cst_5 : Ref sig .tc := ⟨.hbm, 44, rfl⟩
abbrev main_v17 : Ref sig .tc := ⟨.hbm, 45, rfl⟩
abbrev main_v18 : Ref sig .tc := ⟨.hbm, 46, rfl⟩
abbrev main_cst_6 : Ref sig .tc := ⟨.hbm, 47, rfl⟩
abbrev main_v19 : Ref sig .tc := ⟨.hbm, 48, rfl⟩
abbrev main_v20 : Ref sig .tc := ⟨.hbm, 49, rfl⟩
abbrev main_cst_7 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_8 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_9 : Ref sig .tc := ⟨.hbm, 59, rfl⟩
abbrev main_v28 : Ref sig .tc := ⟨.hbm, 60, rfl⟩
abbrev main_v29 : Ref sig .tc := ⟨.hbm, 61, rfl⟩
abbrev main_cst_10 : Ref sig .tc := ⟨.hbm, 62, rfl⟩
abbrev main_v30 : Ref sig .tc := ⟨.hbm, 63, rfl⟩
abbrev main_cst_11 : Ref sig .tc := ⟨.hbm, 64, rfl⟩
abbrev main_v31 : Ref sig .tc := ⟨.hbm, 65, rfl⟩
abbrev main_v32 : Ref sig .tc := ⟨.hbm, 66, rfl⟩
abbrev main_c : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_cst : Ref sig .tc := ⟨.hbm, 71, rfl⟩
abbrev main_call1_v3 : Ref sig .tc := ⟨.hbm, 72, rfl⟩
abbrev main_call1_v4 : Ref sig .tc := ⟨.hbm, 73, rfl⟩
abbrev main_call1_cst_0 : Ref sig .tc := ⟨.hbm, 74, rfl⟩
abbrev main_call1_v5 : Ref sig .tc := ⟨.hbm, 75, rfl⟩
abbrev main_call1_v6 : Ref sig .tc := ⟨.hbm, 76, rfl⟩
abbrev main_call1_cst_1 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_v33 : Ref sig .tc := ⟨.hbm, 84, rfl⟩
abbrev main_v34 : Ref sig .tc := ⟨.hbm, 85, rfl⟩
abbrev main_cst_12 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_call2_call0_cst : Ref sig .tc := ⟨.hbm, 101, rfl⟩
abbrev main_call2_call0_v0 : Ref sig .tc := ⟨.hbm, 102, rfl⟩
abbrev main_v49 : Ref sig .tc := ⟨.hbm, 103, rfl⟩
abbrev main_cst_13 : Ref sig .tc := ⟨.hbm, 104, rfl⟩
abbrev main_v50 : Ref sig .tc := ⟨.hbm, 105, rfl⟩
abbrev main_v51 : Ref sig .tc := ⟨.hbm, 106, rfl⟩
abbrev main_cst_14 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_15 : Ref sig .tc := ⟨.hbm, 112, rfl⟩
abbrev main_cst_16 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_cst : Ref sig .tc := ⟨.hbm, 117, rfl⟩
abbrev main_call3_v3 : Ref sig .tc := ⟨.hbm, 118, rfl⟩
abbrev main_call3_v4 : Ref sig .tc := ⟨.hbm, 119, rfl⟩
abbrev main_call3_cst_0 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_cst_1 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_v15 : Ref sig .tc := ⟨.hbm, 132, rfl⟩
abbrev main_call3_v16 : Ref sig .tc := ⟨.hbm, 133, rfl⟩
abbrev main_v56 : Ref sig .tc := ⟨.hbm, 134, rfl⟩
abbrev main_cst_17 : Ref sig .tc := ⟨.hbm, 135, rfl⟩
abbrev main_cst_18 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_cst : Ref sig .tc := ⟨.hbm, 140, rfl⟩
abbrev main_call4_v3 : Ref sig .tc := ⟨.hbm, 141, rfl⟩
abbrev main_call4_v4 : Ref sig .tc := ⟨.hbm, 142, rfl⟩
abbrev main_call4_cst_0 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_cst_1 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_v12 : Ref sig .tc := ⟨.hbm, 152, rfl⟩
abbrev main_call4_v13 : Ref sig .tc := ⟨.hbm, 153, rfl⟩
abbrev main_call4_v14 : Ref sig .tc := ⟨.hbm, 154, rfl⟩
abbrev main_call4_v15 : Ref sig .tc := ⟨.hbm, 155, rfl⟩
abbrev main_call4_v16 : Ref sig .tc := ⟨.hbm, 156, rfl⟩
abbrev main_v57 : Ref sig .tc := ⟨.hbm, 157, rfl⟩
abbrev main_cst_19 : Ref sig .tc := ⟨.hbm, 158, rfl⟩
abbrev main_cst_20 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_cst : Ref sig .tc := ⟨.hbm, 163, rfl⟩
abbrev main_call5_v3 : Ref sig .tc := ⟨.hbm, 164, rfl⟩
abbrev main_call5_v4 : Ref sig .tc := ⟨.hbm, 165, rfl⟩
abbrev main_call5_cst_0 : Ref sig .tc := ⟨.hbm, 166, rfl⟩
abbrev main_call5_v5 : Ref sig .tc := ⟨.hbm, 167, rfl⟩
abbrev main_call5_v6 : Ref sig .tc := ⟨.hbm, 168, rfl⟩
abbrev main_call5_v7 : Ref sig .tc := ⟨.hbm, 169, rfl⟩
abbrev main_call5_cst_1 : Ref sig .tc := ⟨.hbm, 170, rfl⟩
abbrev main_call5_v8 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_v12 : Ref sig .tc := ⟨.hbm, 175, rfl⟩
abbrev main_call5_v13 : Ref sig .tc := ⟨.hbm, 176, rfl⟩
abbrev main_call5_v14 : Ref sig .tc := ⟨.hbm, 177, rfl⟩
abbrev main_call5_v15 : Ref sig .tc := ⟨.hbm, 178, rfl⟩
abbrev main_call5_v16 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_cst_21 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_c_22 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_cst_23 : Ref sig .tc := ⟨.hbm, 211, rfl⟩
abbrev main_v87 : Ref sig .tc := ⟨.hbm, 212, rfl⟩
abbrev main_v88 : Ref sig .tc := ⟨.hbm, 213, rfl⟩
abbrev main_cst_24 : Ref sig .tc := ⟨.hbm, 214, rfl⟩
abbrev main_call6_v0 : Ref sig .tc := ⟨.hbm, 215, rfl⟩
abbrev main_call6_v1 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_v92 : Ref sig .tc := ⟨.hbm, 220, rfl⟩
abbrev main_cst_25 : Ref sig .tc := ⟨.hbm, 221, rfl⟩
abbrev main_v93 : Ref sig .tc := ⟨.hbm, 222, rfl⟩
abbrev main_v94 : Ref sig .tc := ⟨.hbm, 223, rfl⟩
abbrev main_cst_26 : Ref sig .tc := ⟨.hbm, 224, rfl⟩
abbrev main_call7_v0 : Ref sig .tc := ⟨.hbm, 225, rfl⟩
abbrev main_call7_v1 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_cst_27 : Ref sig .tc := ⟨.hbm, 231, rfl⟩
abbrev main_v99 : Ref sig .tc := ⟨.hbm, 232, rfl⟩
abbrev main_v100 : Ref sig .tc := ⟨.hbm, 233, rfl⟩
abbrev main_cst_28 : Ref sig .tc := ⟨.hbm, 234, rfl⟩
abbrev main_call8_v0 : Ref sig .tc := ⟨.hbm, 235, rfl⟩
abbrev main_call8_v1 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_cst_29 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_cst_30 : Ref sig .tc := ⟨.hbm, 245, rfl⟩
abbrev main_v108 : Ref sig .tc := ⟨.hbm, 246, rfl⟩
abbrev main_v109 : Ref sig .tc := ⟨.hbm, 247, rfl⟩
abbrev main_v110 : Ref sig .tc := ⟨.hbm, 248, rfl⟩
abbrev main_cst_31 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_c_32 : Ref sig .tc := ⟨.hbm, 255, rfl⟩
abbrev main_call9_v0 : Ref sig .tc := ⟨.hbm, 256, rfl⟩
abbrev main_call9_c : Ref sig .tc := ⟨.hbm, 257, rfl⟩
abbrev main_call9_v1 : Ref sig .tc := ⟨.hbm, 258, rfl⟩
abbrev main_call9_c_0 : Ref sig .tc := ⟨.hbm, 259, rfl⟩
abbrev main_call9_v2 : Ref sig .tc := ⟨.hbm, 260, rfl⟩
abbrev main_call9_v3 : Ref sig .tc := ⟨.hbm, 261, rfl⟩
abbrev main_call9_v4 : Ref sig .tc := ⟨.hbm, 262, rfl⟩
abbrev main_call9_c_1 : Ref sig .tc := ⟨.hbm, 263, rfl⟩
abbrev main_call9_v5 : Ref sig .tc := ⟨.hbm, 264, rfl⟩
abbrev main_call9_v6 : Ref sig .tc := ⟨.hbm, 265, rfl⟩
abbrev main_call9_c_2 : Ref sig .tc := ⟨.hbm, 266, rfl⟩
abbrev main_call9_v7 : Ref sig .tc := ⟨.hbm, 267, rfl⟩
abbrev main_call9_v8 : Ref sig .tc := ⟨.hbm, 268, rfl⟩
abbrev main_call9_c_3 : Ref sig .tc := ⟨.hbm, 269, rfl⟩
abbrev main_call9_v9 : Ref sig .tc := ⟨.hbm, 270, rfl⟩
abbrev main_call9_v10 : Ref sig .tc := ⟨.hbm, 271, rfl⟩
abbrev main_call9_v11 : Ref sig .tc := ⟨.hbm, 272, rfl⟩
abbrev main_call9_v12 : Ref sig .tc := ⟨.hbm, 273, rfl⟩
abbrev main_call9_v13 : Ref sig .tc := ⟨.hbm, 274, rfl⟩
abbrev main_call9_v14 : Ref sig .tc := ⟨.hbm, 275, rfl⟩
abbrev main_v116 : Ref sig .tc := ⟨.hbm, 276, rfl⟩
abbrev main_c_33 : Ref sig .tc := ⟨.hbm, 277, rfl⟩
abbrev main_v117 : Ref sig .tc := ⟨.hbm, 278, rfl⟩
abbrev main_v118 : Ref sig .tc := ⟨.hbm, 279, rfl⟩
abbrev main_c_34 : Ref sig .tc := ⟨.hbm, 280, rfl⟩
abbrev main_v119 : Ref sig .tc := ⟨.hbm, 281, rfl⟩
abbrev main_v120 : Ref sig .tc := ⟨.hbm, 282, rfl⟩
abbrev main_v121 : Ref sig .tc := ⟨.hbm, 283, rfl⟩
abbrev main_v122 : Ref sig .tc := ⟨.hbm, 284, rfl⟩
abbrev main_v123 : Ref sig .tc := ⟨.hbm, 285, rfl⟩
abbrev main_c_35 : Ref sig .tc := ⟨.hbm, 286, rfl⟩
abbrev main_call11_v0 : Ref sig .tc := ⟨.hbm, 287, rfl⟩
abbrev main_call11_c : Ref sig .tc := ⟨.hbm, 288, rfl⟩
abbrev main_call11_v1 : Ref sig .tc := ⟨.hbm, 289, rfl⟩
abbrev main_call11_c_0 : Ref sig .tc := ⟨.hbm, 290, rfl⟩
abbrev main_call11_v2 : Ref sig .tc := ⟨.hbm, 291, rfl⟩
abbrev main_call11_v3 : Ref sig .tc := ⟨.hbm, 292, rfl⟩
abbrev main_call11_v4 : Ref sig .tc := ⟨.hbm, 293, rfl⟩
abbrev main_call11_c_1 : Ref sig .tc := ⟨.hbm, 294, rfl⟩
abbrev main_call11_v5 : Ref sig .tc := ⟨.hbm, 295, rfl⟩
abbrev main_call11_v6 : Ref sig .tc := ⟨.hbm, 296, rfl⟩
abbrev main_call11_c_2 : Ref sig .tc := ⟨.hbm, 297, rfl⟩
abbrev main_call11_v7 : Ref sig .tc := ⟨.hbm, 298, rfl⟩
abbrev main_call11_v8 : Ref sig .tc := ⟨.hbm, 299, rfl⟩
abbrev main_call11_c_3 : Ref sig .tc := ⟨.hbm, 300, rfl⟩
abbrev main_call11_v9 : Ref sig .tc := ⟨.hbm, 301, rfl⟩
abbrev main_call11_v10 : Ref sig .tc := ⟨.hbm, 302, rfl⟩
abbrev main_call11_v11 : Ref sig .tc := ⟨.hbm, 303, rfl⟩
abbrev main_call11_v12 : Ref sig .tc := ⟨.hbm, 304, rfl⟩
abbrev main_call11_v13 : Ref sig .tc := ⟨.hbm, 305, rfl⟩
abbrev main_call11_v14 : Ref sig .tc := ⟨.hbm, 306, rfl⟩
abbrev main_v124 : Ref sig .tc := ⟨.hbm, 307, rfl⟩
abbrev main_c_36 : Ref sig .tc := ⟨.hbm, 308, rfl⟩
abbrev main_v125 : Ref sig .tc := ⟨.hbm, 309, rfl⟩
abbrev main_v126 : Ref sig .tc := ⟨.hbm, 310, rfl⟩
abbrev main_c_37 : Ref sig .tc := ⟨.hbm, 311, rfl⟩
abbrev main_v127 : Ref sig .tc := ⟨.hbm, 312, rfl⟩
abbrev main_v128 : Ref sig .tc := ⟨.hbm, 313, rfl⟩
abbrev main_v129 : Ref sig .tc := ⟨.hbm, 314, rfl⟩
abbrev main_v130 : Ref sig .tc := ⟨.hbm, 315, rfl⟩
abbrev main_v131 : Ref sig .tc := ⟨.hbm, 316, rfl⟩
abbrev main_c_38 : Ref sig .tc := ⟨.hbm, 317, rfl⟩
abbrev main_call13_v0 : Ref sig .tc := ⟨.hbm, 318, rfl⟩
abbrev main_call13_c : Ref sig .tc := ⟨.hbm, 319, rfl⟩
abbrev main_call13_v1 : Ref sig .tc := ⟨.hbm, 320, rfl⟩
abbrev main_call13_c_0 : Ref sig .tc := ⟨.hbm, 321, rfl⟩
abbrev main_call13_v2 : Ref sig .tc := ⟨.hbm, 322, rfl⟩
abbrev main_call13_v3 : Ref sig .tc := ⟨.hbm, 323, rfl⟩
abbrev main_call13_v4 : Ref sig .tc := ⟨.hbm, 324, rfl⟩
abbrev main_call13_c_1 : Ref sig .tc := ⟨.hbm, 325, rfl⟩
abbrev main_call13_v5 : Ref sig .tc := ⟨.hbm, 326, rfl⟩
abbrev main_call13_v6 : Ref sig .tc := ⟨.hbm, 327, rfl⟩
abbrev main_call13_c_2 : Ref sig .tc := ⟨.hbm, 328, rfl⟩
abbrev main_call13_v7 : Ref sig .tc := ⟨.hbm, 329, rfl⟩
abbrev main_call13_v8 : Ref sig .tc := ⟨.hbm, 330, rfl⟩
abbrev main_call13_c_3 : Ref sig .tc := ⟨.hbm, 331, rfl⟩
abbrev main_call13_v9 : Ref sig .tc := ⟨.hbm, 332, rfl⟩
abbrev main_call13_v10 : Ref sig .tc := ⟨.hbm, 333, rfl⟩
abbrev main_call13_v11 : Ref sig .tc := ⟨.hbm, 334, rfl⟩
abbrev main_call13_v12 : Ref sig .tc := ⟨.hbm, 335, rfl⟩
abbrev main_call13_v13 : Ref sig .tc := ⟨.hbm, 336, rfl⟩
abbrev main_call13_v14 : Ref sig .tc := ⟨.hbm, 337, rfl⟩
abbrev main_v132 : Ref sig .tc := ⟨.hbm, 338, rfl⟩
abbrev main_c_39 : Ref sig .tc := ⟨.hbm, 339, rfl⟩
abbrev main_v133 : Ref sig .tc := ⟨.hbm, 340, rfl⟩
abbrev main_v134 : Ref sig .tc := ⟨.hbm, 341, rfl⟩
abbrev main_c_40 : Ref sig .tc := ⟨.hbm, 342, rfl⟩
abbrev main_v135 : Ref sig .tc := ⟨.hbm, 343, rfl⟩
abbrev main_v136 : Ref sig .tc := ⟨.hbm, 344, rfl⟩
abbrev main_v137 : Ref sig .tc := ⟨.hbm, 345, rfl⟩
abbrev main_v138 : Ref sig .tc := ⟨.hbm, 346, rfl⟩
abbrev main_v139 : Ref sig .tc := ⟨.hbm, 347, rfl⟩
abbrev main_c_41 : Ref sig .tc := ⟨.hbm, 348, rfl⟩
abbrev main_call15_v0 : Ref sig .tc := ⟨.hbm, 349, rfl⟩
abbrev main_call15_c : Ref sig .tc := ⟨.hbm, 350, rfl⟩
abbrev main_call15_v1 : Ref sig .tc := ⟨.hbm, 351, rfl⟩
abbrev main_call15_c_0 : Ref sig .tc := ⟨.hbm, 352, rfl⟩
abbrev main_call15_v2 : Ref sig .tc := ⟨.hbm, 353, rfl⟩
abbrev main_call15_v3 : Ref sig .tc := ⟨.hbm, 354, rfl⟩
abbrev main_call15_v4 : Ref sig .tc := ⟨.hbm, 355, rfl⟩
abbrev main_call15_c_1 : Ref sig .tc := ⟨.hbm, 356, rfl⟩
abbrev main_call15_v5 : Ref sig .tc := ⟨.hbm, 357, rfl⟩
abbrev main_call15_v6 : Ref sig .tc := ⟨.hbm, 358, rfl⟩
abbrev main_call15_c_2 : Ref sig .tc := ⟨.hbm, 359, rfl⟩
abbrev main_call15_v7 : Ref sig .tc := ⟨.hbm, 360, rfl⟩
abbrev main_call15_v8 : Ref sig .tc := ⟨.hbm, 361, rfl⟩
abbrev main_call15_c_3 : Ref sig .tc := ⟨.hbm, 362, rfl⟩
abbrev main_call15_v9 : Ref sig .tc := ⟨.hbm, 363, rfl⟩
abbrev main_call15_v10 : Ref sig .tc := ⟨.hbm, 364, rfl⟩
abbrev main_call15_v11 : Ref sig .tc := ⟨.hbm, 365, rfl⟩
abbrev main_call15_v12 : Ref sig .tc := ⟨.hbm, 366, rfl⟩
abbrev main_call15_v13 : Ref sig .tc := ⟨.hbm, 367, rfl⟩
abbrev main_call15_v14 : Ref sig .tc := ⟨.hbm, 368, rfl⟩
abbrev main_v140 : Ref sig .tc := ⟨.hbm, 369, rfl⟩
abbrev main_c_42 : Ref sig .tc := ⟨.hbm, 370, rfl⟩
abbrev main_v141 : Ref sig .tc := ⟨.hbm, 371, rfl⟩
abbrev main_v142 : Ref sig .tc := ⟨.hbm, 372, rfl⟩
abbrev main_c_43 : Ref sig .tc := ⟨.hbm, 373, rfl⟩
abbrev main_v143 : Ref sig .tc := ⟨.hbm, 374, rfl⟩
abbrev main_v144 : Ref sig .tc := ⟨.hbm, 375, rfl⟩
abbrev main_v145 : Ref sig .tc := ⟨.hbm, 376, rfl⟩
abbrev main_v146 : Ref sig .tc := ⟨.hbm, 377, rfl⟩
abbrev main_v147 : Ref sig .tc := ⟨.hbm, 378, rfl⟩
abbrev main_v148 : Ref sig .tc := ⟨.hbm, 379, rfl⟩
abbrev main_v149 : Ref sig .tc := ⟨.hbm, 380, rfl⟩
abbrev main_c_44 : Ref sig .tc := ⟨.hbm, 381, rfl⟩
abbrev main_v150 : Ref sig .tc := ⟨.hbm, 382, rfl⟩
abbrev main_v151 : Ref sig .tc := ⟨.hbm, 383, rfl⟩
abbrev main_c_45 : Ref sig .tc := ⟨.hbm, 384, rfl⟩
abbrev main_v152 : Ref sig .tc := ⟨.hbm, 385, rfl⟩
abbrev main_v153 : Ref sig .tc := ⟨.hbm, 386, rfl⟩
abbrev main_v154 : Ref sig .tc := ⟨.hbm, 387, rfl⟩
abbrev main_c_46 : Ref sig .tc := ⟨.hbm, 388, rfl⟩
abbrev main_v155 : Ref sig .tc := ⟨.hbm, 389, rfl⟩
abbrev main_v156 : Ref sig .tc := ⟨.hbm, 390, rfl⟩
abbrev main_c_47 : Ref sig .tc := ⟨.hbm, 391, rfl⟩
abbrev main_v157 : Ref sig .tc := ⟨.hbm, 392, rfl⟩
abbrev main_v158 : Ref sig .tc := ⟨.hbm, 393, rfl⟩
abbrev main_v159 : Ref sig .tc := ⟨.hbm, 394, rfl⟩
abbrev main_c_48 : Ref sig .tc := ⟨.hbm, 395, rfl⟩
abbrev main_v160 : Ref sig .tc := ⟨.hbm, 396, rfl⟩
abbrev main_v161 : Ref sig .tc := ⟨.hbm, 397, rfl⟩
abbrev main_c_49 : Ref sig .tc := ⟨.hbm, 398, rfl⟩
abbrev main_v162 : Ref sig .tc := ⟨.hbm, 399, rfl⟩
abbrev main_v163 : Ref sig .tc := ⟨.hbm, 400, rfl⟩
abbrev main_v164 : Ref sig .tc := ⟨.hbm, 401, rfl⟩
abbrev main_c_50 : Ref sig .tc := ⟨.hbm, 402, rfl⟩
abbrev main_v165 : Ref sig .tc := ⟨.hbm, 403, rfl⟩
abbrev main_v166 : Ref sig .tc := ⟨.hbm, 404, rfl⟩
abbrev main_c_51 : Ref sig .tc := ⟨.hbm, 405, rfl⟩
abbrev main_v167 : Ref sig .tc := ⟨.hbm, 406, rfl⟩
abbrev main_v168 : Ref sig .tc := ⟨.hbm, 407, rfl⟩
abbrev main_v169 : Ref sig .tc := ⟨.hbm, 408, rfl⟩
abbrev main_v170 : Ref sig .tc := ⟨.hbm, 409, rfl⟩
abbrev main_v171 : Ref sig .tc := ⟨.hbm, 410, rfl⟩
abbrev main_v172 : Ref sig .tc := ⟨.hbm, 411, rfl⟩
abbrev main_v173 : Ref sig .tc := ⟨.hbm, 412, rfl⟩
abbrev main_v174 : Ref sig .tc := ⟨.hbm, 413, rfl⟩
abbrev main_v175 : Ref sig .tc := ⟨.hbm, 414, rfl⟩
abbrev main_v176 : Ref sig .tc := ⟨.hbm, 415, rfl⟩
abbrev main_v177 : Ref sig .tc := ⟨.hbm, 416, rfl⟩
abbrev main_v178 : Ref sig .tc := ⟨.hbm, 417, rfl⟩
abbrev main_v179 : Ref sig .tc := ⟨.hbm, 418, rfl⟩
abbrev main_v180 : Ref sig .tc := ⟨.hbm, 419, rfl⟩
abbrev main_v181 : Ref sig .tc := ⟨.hbm, 420, rfl⟩
abbrev main_v182 : Ref sig .tc := ⟨.hbm, 421, rfl⟩
abbrev main_v183 : Ref sig .tc := ⟨.hbm, 422, rfl⟩
abbrev main_v184 : Ref sig .tc := ⟨.hbm, 423, rfl⟩
abbrev main_cst_52 : Ref sig .tc := ⟨.hbm, 424, rfl⟩
abbrev main_v185 : Ref sig .tc := ⟨.hbm, 425, rfl⟩
abbrev main_v186 : Ref sig .tc := ⟨.hbm, 426, rfl⟩
abbrev main_v187 : Ref sig .tc := ⟨.hbm, 427, rfl⟩
abbrev main_v188 : Ref sig .tc := ⟨.hbm, 428, rfl⟩
abbrev main_v189 : Ref sig .tc := ⟨.hbm, 429, rfl⟩
abbrev main_v190 : Ref sig .tc := ⟨.hbm, 430, rfl⟩
abbrev main_cst_53 : Ref sig .tc := ⟨.hbm, 431, rfl⟩
abbrev main_v191 : Ref sig .tc := ⟨.hbm, 432, rfl⟩
abbrev main_v192 : Ref sig .tc := ⟨.hbm, 433, rfl⟩
abbrev main_v193 : Ref sig .tc := ⟨.hbm, 434, rfl⟩
abbrev main_v194 : Ref sig .tc := ⟨.hbm, 435, rfl⟩
abbrev main_v195 : Ref sig .tc := ⟨.hbm, 436, rfl⟩
abbrev main_v196 : Ref sig .tc := ⟨.hbm, 437, rfl⟩
abbrev main_cst_54 : Ref sig .tc := ⟨.hbm, 438, rfl⟩
abbrev main_v197 : Ref sig .tc := ⟨.hbm, 439, rfl⟩
abbrev main_v198 : Ref sig .tc := ⟨.hbm, 440, rfl⟩
abbrev main_v199 : Ref sig .tc := ⟨.hbm, 441, rfl⟩
abbrev main_v200 : Ref sig .tc := ⟨.hbm, 442, rfl⟩
abbrev main_cst_55 : Ref sig .tc := ⟨.hbm, 443, rfl⟩
abbrev main_v201 : Ref sig .tc := ⟨.hbm, 444, rfl⟩
abbrev main_cst_56 : Ref sig .tc := ⟨.hbm, 445, rfl⟩
abbrev main_v202 : Ref sig .tc := ⟨.hbm, 446, rfl⟩
abbrev main_v203 : Ref sig .tc := ⟨.hbm, 447, rfl⟩
abbrev main_v204 : Ref sig .tc := ⟨.hbm, 448, rfl⟩
abbrev main_cst_57 : Ref sig .tc := ⟨.hbm, 449, rfl⟩
abbrev main_v205 : Ref sig .tc := ⟨.hbm, 450, rfl⟩
abbrev main_cst_58 : Ref sig .tc := ⟨.hbm, 451, rfl⟩
abbrev main_v206 : Ref sig .tc := ⟨.hbm, 452, rfl⟩
abbrev main_v207 : Ref sig .tc := ⟨.hbm, 453, rfl⟩
abbrev main_cst_59 : Ref sig .tc := ⟨.hbm, 454, rfl⟩
abbrev main_v208 : Ref sig .tc := ⟨.hbm, 455, rfl⟩
abbrev main_v209 : Ref sig .tc := ⟨.hbm, 456, rfl⟩
abbrev main_v210 : Ref sig .tc := ⟨.hbm, 457, rfl⟩
abbrev main_v211 : Ref sig .tc := ⟨.hbm, 458, rfl⟩

abbrev nD : Nat := 1
abbrev τ : Topo := Topo.v7x

variable {F : FTy → Type} [FloatOps F]
-- ==== Proof.K.Runs.lean ====
/- The printed kernel's body in each of its four cases: it runs to its end and leaves the inputs as they were. -/
module

public import proofs.«01_k».proof.Proof.K.Base

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1600000 in
/-- The body at the first point. -/
theorem kernelRunA (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
    (hc0 : atInit (grid0.coords t)) (hc1 : atHist (grid0.coords t)) (hc2 : ¬atApply (grid0.coords t)) (hc3 : ¬atNorm (grid0.coords t))
    (x0 : Vec F S64x4 .f32) (x1 : Vec F S16x1x4096 .f32) (x2 : Vec F S16x4096 .f32) (x3 : Vec F S4096x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__fused_kernel (grid0.coords t) arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  iapply Hk
  isplitl [H0]; · iexists _; isplitr; swap; iexact H0; ipureintro; exact harg1.read_unread _
  isplitl [H1]; · iexists _; isplitr; swap; iexact H1; ipureintro; exact harg2.read_unread _
  isplitl [H2]; · iexists _; isplitr; swap; iexact H2; ipureintro; exact harg3.read_unread _
  isplitl [H3]; · iexists _; isplitr; swap; iexact H3; ipureintro; exact harg4.read_unread _
  isplitl [H4]; · iexists _, _; isplitr; swap; iexact H4; ipureintro; rfl
  isplitl [HS0]; · iexists _, _; isplitr; swap; iexact HS0; ipureintro; rfl
  isplitl [HS1]; · iexists _, _; isplitr; swap; iexact HS1; ipureintro; rfl
  iexists _, _; isplitr; swap; iexact HS2; ipureintro; rfl

set_option maxHeartbeats 1600000 in
/-- The body at a later histogram point. -/
theorem kernelRunB (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
    (hc0 : ¬atInit (grid0.coords t)) (hc1 : atHist (grid0.coords t)) (hc2 : ¬atApply (grid0.coords t)) (hc3 : ¬atNorm (grid0.coords t))
    (x0 : Vec F S64x4 .f32) (x1 : Vec F S16x1x4096 .f32) (x2 : Vec F S16x4096 .f32) (x3 : Vec F S4096x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__fused_kernel (grid0.coords t) arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  iapply Hk
  isplitl [H0]; · iexists _; isplitr; swap; iexact H0; ipureintro; exact harg1.read_unread _
  isplitl [H1]; · iexists _; isplitr; swap; iexact H1; ipureintro; exact harg2.read_unread _
  isplitl [H2]; · iexists _; isplitr; swap; iexact H2; ipureintro; exact harg3.read_unread _
  isplitl [H3]; · iexists _; isplitr; swap; iexact H3; ipureintro; exact harg4.read_unread _
  isplitl [H4]; · iexists _, _; isplitr; swap; iexact H4; ipureintro; rfl
  isplitl [HS0]; · iexists _, _; isplitr; swap; iexact HS0; ipureintro; rfl
  isplitl [HS1]; · iexists _, _; isplitr; swap; iexact HS1; ipureintro; rfl
  iexists _, _; isplitr; swap; iexact HS2; ipureintro; rfl

set_option maxHeartbeats 1600000 in
/-- The body at a point that applies the tables. -/
theorem kernelRunC (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
    (hc0 : ¬atInit (grid0.coords t)) (hc1 : ¬atHist (grid0.coords t)) (hc2 : atApply (grid0.coords t)) (hc3 : ¬atNorm (grid0.coords t))
    (x0 : Vec F S64x4 .f32) (x1 : Vec F S16x1x4096 .f32) (x2 : Vec F S16x4096 .f32) (x3 : Vec F S4096x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__fused_kernel (grid0.coords t) arg1 harg1 arg2 harg2 arg3 harg3 arg4 harg4 arg5 harg5 arg6 harg6 arg7 harg7 arg8 harg8) K := by
  haveI : Fact (atApply (grid0.coords t)) := ⟨hc2⟩
  simp only [cc0__fused_kernel_eq_skeleton]; unfold cc0__fused_kernel_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part6_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  iapply Hk
  isplitl [H0]; · iexists _; isplitr; swap; iexact H0; ipureintro; exact harg1.read_unread _
  isplitl [H1]; · iexists _; isplitr; swap; iexact H1; ipureintro; exact harg2.read_unread _
  isplitl [H2]; · iexists _; isplitr; swap; iexact H2; ipureintro; exact harg3.read_unread _
  isplitl [H3]; · iexists _; isplitr; swap; iexact H3; ipureintro; exact harg4.read_unread _
  isplitl [H4]; · iexists _, _; isplitr; swap; iexact H4; ipureintro; rfl
  isplitl [HS0]; · iexists _, _; isplitr; swap; iexact HS0; ipureintro; rfl
  isplitl [HS1]; · iexists _, _; isplitr; swap; iexact HS1; ipureintro; rfl
  iexists _, _; isplitr; swap; iexact HS2; ipureintro; rfl

set_option maxHeartbeats 1600000 in
/-- The body at the last point. -/
theorem kernelRunD (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
    (hc0 : ¬atInit (grid0.coords t)) (hc1 : ¬atHist (grid0.coords t)) (hc2 : ¬atApply (grid0.coords t)) (hc3 : atNorm (grid0.coords t))
    (x0 : Vec F S64x4 .f32) (x1 : Vec F S16x1x4096 .f32) (x2 : Vec F S16x4096 .f32) (x3 : Vec F S4096x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__fused_kernel (grid0.coords t) arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  iapply Hk
  isplitl [H0]; · iexists _; isplitr; swap; iexact H0; ipureintro; exact harg1.read_unread _
  isplitl [H1]; · iexists _; isplitr; swap; iexact H1; ipureintro; exact harg2.read_unread _
  isplitl [H2]; · iexists _; isplitr; swap; iexact H2; ipureintro; exact harg3.read_unread _
  isplitl [H3]; · iexists _; isplitr; swap; iexact H3; ipureintro; exact harg4.read_unread _
  isplitl [H4]; · iexists _, _; isplitr; swap; iexact H4; ipureintro; rfl
  isplitl [HS0]; · iexists _, _; isplitr; swap; iexact HS0; ipureintro; rfl
  isplitl [HS1]; · iexists _, _; isplitr; swap; iexact HS1; ipureintro; rfl
  iexists _, _; isplitr; swap; iexact HS2; ipureintro; rfl

end Cert.Kernel.Body

end
-- ==== Proof.K.Body.lean ====
/- The printed kernel runs to its end with its argument unchanged. -/
module

public import proofs.«01_k».proof.Proof.K.Runs

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data: of the scratch and of the result nothing is named -/

/-- The result's window, of which nothing is named. -/
def forgotten : Fin 5 → Bool := fun w => w.val == 4

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- The body's inputs, handed over and taken back. -/
abbrev inputs (c : Dev nD) (t : Fin cfg0.N) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t))

/-- At every point the body runs from the inputs, with the rest at some contents, to the same. -/
theorem step (c : Dev nD) (t : Fin cfg0.N) (K : PUnit → sProp 𝕄) :
    iprop(owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t) ∗ (∃ d, owns (c : Thread nD τ) (ms0_4 t) fullShare d) ∗ (∃ d, owns (c : Thread nD τ) scC fullShare d) ∗ (∃ d, owns (c : Thread nD τ) scU fullShare d) ∗ (∃ d, owns (c : Thread nD τ) scM fullShare d)
        ∗ (iprop(owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t) ∗ (∃ d, owns (c : Thread nD τ) (ms0_4 t) fullShare d) ∗ (∃ d, owns (c : Thread nD τ) scC fullShare d) ∗ (∃ d, owns (c : Thread nD τ) scU fullShare d) ∗ (∃ d, owns (c : Thread nD τ) scM fullShare d)) -∗ K ⟨⟩))
      ⊢ wp frame (wpE (defs₀ (F := F)) Variants.none c none) Set.univ (bodyAt0 t) K := by
  have hN : t.val < 9 := lt_of_lt_of_eq t.isLt (show cfg0.N = 9 from N_0)
  unfold bodyAt0
  by_cases h0 : t.val = 0
  · exact kernelRunA c t _ _ _ _ _ _ _ _ _ _ _ _ _ _ _ _ ((atInit_iff t).mpr h0) ((atHist_iff t).mpr (by omega)) (fun h => by have := (atApply_iff t).mp h; omega) (fun h => by have := (atNorm_iff t).mp h; omega) _ _ _ _ Set.univ K
  by_cases h1 : t.val < 4
  · exact kernelRunB c t _ _ _ _ _ _ _ _ _ _ _ _ _ _ _ _ (fun h => by have := (atInit_iff t).mp h; omega) ((atHist_iff t).mpr (by omega)) (fun h => by have := (atApply_iff t).mp h; omega) (fun h => by have := (atNorm_iff t).mp h; omega) _ _ _ _ Set.univ K
  by_cases h2 : t.val = 8
  · exact kernelRunD c t _ _ _ _ _ _ _ _ _ _ _ _ _ _ _ _ (fun h => by have := (atInit_iff t).mp h; omega) (fun h => by have := (atHist_iff t).mp h; omega) (fun h => by have := (atApply_iff t).mp h; omega) ((atNorm_iff t).mpr h2) _ _ _ _ Set.univ K
  · exact kernelRunC c t _ _ _ _ _ _ _ _ _ _ _ _ _ _ _ _ (fun h => by have := (atInit_iff t).mp h; omega) (fun h => by have := (atHist_iff t).mp h; omega) ((atApply_iff t).mpr (by omega)) (fun h => by have := (atNorm_iff t).mp h; omega) _ _ _ _ Set.univ K

/-- The same with the invariant, anything else framed. -/
theorem sound (c : Dev nD) (t : Fin cfg0.N) (R : sProp 𝕄) :
    iprop(R ∗ Pipeline.ΦA spec0 c ∗ inputs m c t ∗ (∃ d, owns (c : Thread nD τ) (ms0_4 t) fullShare d))
      ⊢ wp frame (wpE (defs₀ (F := F)) Variants.none c none) Set.univ (bodyAt0 t) (fun _ => iprop(R ∗ Pipeline.ΦA spec0 c ∗ inputs m c t ∗ (∃ d, owns (c : Thread nD τ) (ms0_4 t) fullShare d))) := by
  unfold inputs; rw [PhiA0_eq]
  iintro ⟨HR, ⟨⟨HS0, HS1, HS2⟩, Hg⟩, ⟨H0, H1, H2, H3⟩, H4⟩
  iapply (step m c t)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HR]; · iexact HR
  isplitl [HS0 HS1 HS2 Hg]
  · isplitl [HS0 HS1 HS2]
    · isplitl [HS0]; · iexact HS0
      isplitl [HS1]; · iexact HS1
      iexact HS2
    iexact Hg
  isplitl [H0 H1 H2 H3]
  · isplitl [H0]; · iexact H0
    isplitl [H1]; · iexact H1
    isplitl [H2]; · iexact H2
    iexact H3
  iexact H4

/-! ## The body obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl]
  rw [show (dats m 0 c).leavesExact 0 t = owns (c : Thread nD τ) (ms0_0 t) fullShare (iblk m c 0 t) from by
    unfold Dat.leavesExact; rw [show cfg0.idle 0 (cfg0.grid.coords t) = false from rfl, after0_0]]
  rw [show (dats m 0 c).leavesExact 1 t = owns (c : Thread nD τ) (ms0_1 t) fullShare (iblk m c 1 t) from by
    unfold Dat.leavesExact; rw [show cfg0.idle 1 (cfg0.grid.coords t) = false from rfl, after0_1]]
  rw [show (dats m 0 c).leavesExact 2 t = owns (c : Thread nD τ) (ms0_2 t) fullShare (iblk m c 2 t) from by
    unfold Dat.leavesExact; rw [show cfg0.idle 2 (cfg0.grid.coords t) = false from rfl, after0_2]]
  rw [show (dats m 0 c).leavesExact 3 t = owns (c : Thread nD τ) (ms0_3 t) fullShare (iblk m c 3 t) from by
    unfold Dat.leavesExact; rw [show cfg0.idle 3 (cfg0.grid.coords t) = false from rfl, after0_3]]
  refine BIBase.Entails.trans ?_ ((sound m c t ((dats m 0 c).owesAt () t.castSucc)).trans (wp_mono _ _ _ fun _ => ?_))
  · iintro ⟨HP, Ho, ⟨%d0, H0⟩, ⟨%d1, H1⟩, ⟨%d2, H2⟩, ⟨%d3, H3⟩, H4⟩
    isplitl [Ho]; · iexact Ho
    isplitl [HP]; · iexact HP
    isplitl [H0 H1 H2 H3]
    · isplitl [H0]; · iexact H0
      isplitl [H1]; · iexact H1
      isplitl [H2]; · iexact H2
      iexact H3
    iexact H4
  · iintro ⟨Ho, HP, ⟨H0, H1, H2, H3⟩, H4⟩
    isplitl [HP]; · iexact HP
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => (Pipeline.RDat.FramePost (cfgs 0) (fun c => (dats m 0 c).toRForget forgotten) (V m)) r ∧ r.2.sem = fun _ => 0) :=
  Pipeline.θ_run_frame_forget (Q' := _) cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The argument ends unchanged and the counters at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun r h => ⟨fun c => ((h.1 c).2 main_arg0 (Pipeline.mem_restRefs_of main_arg0 (by decide) (by decide))).trans (V_main_arg0 m c), h.2⟩) (run_main m ρ)

end Cert.Kernel.Body

end
-- ==== Proof.KI.Base.lean ====
/- The idealized kernel's body at a grid point: which of its four branches run there, the offsets it computes,
   and the scratch buffers it keeps between points. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The branch that clears the scratch, taken at the first point. -/
abbrev atInit (i : grid0.Coords) : Prop := (Scalar.cmpi .ne (Scalar.extui (Scalar.cmpi .eq (BitVec.ofNat 32 (i 0).val) 0#32)) 0#32) = 1#1
/-- The branch that adds sixteen tiles' tables to the scratch. -/
abbrev atHist (i : grid0.Coords) : Prop := (Scalar.cmpi .ne (Scalar.extui (Scalar.cmpi .slt (BitVec.ofNat 32 (i 0).val) 4#32)) 0#32) = 1#1
/-- The branch that applies the tables to sixteen slices. -/
abbrev atApply (i : grid0.Coords) : Prop := k0_cond3 i = 1#1
/-- The branch that normalises and writes the result. -/
abbrev atNorm (i : grid0.Coords) : Prop := k0_cond4 i = 1#1

theorem atInit_iff : ∀ t : Fin cfg0.N, atInit (grid0.coords t) ↔ t.val = 0 :=
  (by decide +kernel : ∀ t : Fin grid0.N, atInit (grid0.coords t) ↔ t.val = 0)
theorem atHist_iff : ∀ t : Fin cfg0.N, atHist (grid0.coords t) ↔ t.val < 4 :=
  (by decide +kernel : ∀ t : Fin grid0.N, atHist (grid0.coords t) ↔ t.val < 4)
theorem atApply_iff : ∀ t : Fin cfg0.N, atApply (grid0.coords t) ↔ (4 ≤ t.val ∧ t.val ≤ 7) :=
  (by decide +kernel : ∀ t : Fin grid0.N, atApply (grid0.coords t) ↔ (4 ≤ t.val ∧ t.val ≤ 7))
theorem atNorm_iff : ∀ t : Fin cfg0.N, atNorm (grid0.coords t) ↔ t.val = 8 :=
  (by decide +kernel : ∀ t : Fin grid0.N, atNorm (grid0.coords t) ↔ t.val = 8)

/-- The row of the sliding table that the unrolled iteration `r` works on. -/
def rowOf (i : grid0.Coords) (r : ℕ) : ℕ := ((i 0).val - 4) * 16 + r

theorem off_row : ∀ t : Fin cfg0.N, atApply (grid0.coords t) → ∀ r : Fin 16,
    k0_off1 (grid0.coords t) (BitVec.ofNat 32 r.val) = ![rowOf (grid0.coords t) r.val, 0]
      ∧ k0_off2 (grid0.coords t) (BitVec.ofNat 32 r.val) = ![rowOf (grid0.coords t) r.val, 1]
      ∧ k0_off3 (grid0.coords t) (BitVec.ofNat 32 r.val) = ![rowOf (grid0.coords t) r.val, 2]
      ∧ k0_off4 (grid0.coords t) (BitVec.ofNat 32 r.val) = ![rowOf (grid0.coords t) r.val, 3]
      ∧ k0_off5 (grid0.coords t) (BitVec.ofNat 32 r.val) = ![rowOf (grid0.coords t) r.val, 0] := by
  have key : ∀ t : Fin grid0.N, atApply (grid0.coords t) → ∀ r : Fin 16,
      k0_off1 (grid0.coords t) (BitVec.ofNat 32 r.val) = ![rowOf (grid0.coords t) r.val, 0]
      ∧ k0_off2 (grid0.coords t) (BitVec.ofNat 32 r.val) = ![rowOf (grid0.coords t) r.val, 1]
      ∧ k0_off3 (grid0.coords t) (BitVec.ofNat 32 r.val) = ![rowOf (grid0.coords t) r.val, 2]
      ∧ k0_off4 (grid0.coords t) (BitVec.ofNat 32 r.val) = ![rowOf (grid0.coords t) r.val, 3]
      ∧ k0_off5 (grid0.coords t) (BitVec.ofNat 32 r.val) = ![rowOf (grid0.coords t) r.val, 0] := by
    decide +kernel
  exact key

/-- The row that iteration `r` reads and writes, as arithmetic on the point. -/
theorem off5_eq (t : Fin cfg0.N) (h : atApply (grid0.coords t)) (r : Fin 16) :
    k0_off5 (grid0.coords t) (BitVec.ofNat 32 r.val) = ![16 * ((grid0.coords t 0).val - 4) + r.val, 0] := by
  rw [(off_row t h r).2.2.2.2]; unfold rowOf; rw [Nat.mul_comm]

instance closedOff5_0 (t : Fin cfg0.N) [h : Fact (atApply (grid0.coords t))] : ClosedOff (k0_off5 (grid0.coords t) 0#32) :=
  ⟨![16 * ((grid0.coords t 0).val - 4) + 0, 0], off5_eq t h.out 0⟩
instance closedOff5_1 (t : Fin cfg0.N) [h : Fact (atApply (grid0.coords t))] : ClosedOff (k0_off5 (grid0.coords t) 1#32) :=
  ⟨![16 * ((grid0.coords t 0).val - 4) + 1, 0], off5_eq t h.out 1⟩
instance closedOff5_2 (t : Fin cfg0.N) [h : Fact (atApply (grid0.coords t))] : ClosedOff (k0_off5 (grid0.coords t) 2#32) :=
  ⟨![16 * ((grid0.coords t 0).val - 4) + 2, 0], off5_eq t h.out 2⟩
instance closedOff5_3 (t : Fin cfg0.N) [h : Fact (atApply (grid0.coords t))] : ClosedOff (k0_off5 (grid0.coords t) 3#32) :=
  ⟨![16 * ((grid0.coords t 0).val - 4) + 3, 0], off5_eq t h.out 3⟩
instance closedOff5_4 (t : Fin cfg0.N) [h : Fact (atApply (grid0.coords t))] : ClosedOff (k0_off5 (grid0.coords t) 4#32) :=
  ⟨![16 * ((grid0.coords t 0).val - 4) + 4, 0], off5_eq t h.out 4⟩
instance closedOff5_5 (t : Fin cfg0.N) [h : Fact (atApply (grid0.coords t))] : ClosedOff (k0_off5 (grid0.coords t) 5#32) :=
  ⟨![16 * ((grid0.coords t 0).val - 4) + 5, 0], off5_eq t h.out 5⟩
instance closedOff5_6 (t : Fin cfg0.N) [h : Fact (atApply (grid0.coords t))] : ClosedOff (k0_off5 (grid0.coords t) 6#32) :=
  ⟨![16 * ((grid0.coords t 0).val - 4) + 6, 0], off5_eq t h.out 6⟩
instance closedOff5_7 (t : Fin cfg0.N) [h : Fact (atApply (grid0.coords t))] : ClosedOff (k0_off5 (grid0.coords t) 7#32) :=
  ⟨![16 * ((grid0.coords t 0).val - 4) + 7, 0], off5_eq t h.out 7⟩
instance closedOff5_8 (t : Fin cfg0.N) [h : Fact (atApply (grid0.coords t))] : ClosedOff (k0_off5 (grid0.coords t) 8#32) :=
  ⟨![16 * ((grid0.coords t 0).val - 4) + 8, 0], off5_eq t h.out 8⟩
instance closedOff5_9 (t : Fin cfg0.N) [h : Fact (atApply (grid0.coords t))] : ClosedOff (k0_off5 (grid0.coords t) 9#32) :=
  ⟨![16 * ((grid0.coords t 0).val - 4) + 9, 0], off5_eq t h.out 9⟩
instance closedOff5_10 (t : Fin cfg0.N) [h : Fact (atApply (grid0.coords t))] : ClosedOff (k0_off5 (grid0.coords t) 10#32) :=
  ⟨![16 * ((grid0.coords t 0).val - 4) + 10, 0], off5_eq t h.out 10⟩
instance closedOff5_11 (t : Fin cfg0.N) [h : Fact (atApply (grid0.coords t))] : ClosedOff (k0_off5 (grid0.coords t) 11#32) :=
  ⟨![16 * ((grid0.coords t 0).val - 4) + 11, 0], off5_eq t h.out 11⟩
instance closedOff5_12 (t : Fin cfg0.N) [h : Fact (atApply (grid0.coords t))] : ClosedOff (k0_off5 (grid0.coords t) 12#32) :=
  ⟨![16 * ((grid0.coords t 0).val - 4) + 12, 0], off5_eq t h.out 12⟩
instance closedOff5_13 (t : Fin cfg0.N) [h : Fact (atApply (grid0.coords t))] : ClosedOff (k0_off5 (grid0.coords t) 13#32) :=
  ⟨![16 * ((grid0.coords t 0).val - 4) + 13, 0], off5_eq t h.out 13⟩
instance closedOff5_14 (t : Fin cfg0.N) [h : Fact (atApply (grid0.coords t))] : ClosedOff (k0_off5 (grid0.coords t) 14#32) :=
  ⟨![16 * ((grid0.coords t 0).val - 4) + 14, 0], off5_eq t h.out 14⟩
instance closedOff5_15 (t : Fin cfg0.N) [h : Fact (atApply (grid0.coords t))] : ClosedOff (k0_off5 (grid0.coords t) 15#32) :=
  ⟨![16 * ((grid0.coords t 0).val - 4) + 15, 0], off5_eq t h.out 15⟩

theorem off6_eq : ∀ t : Fin cfg0.N, atNorm (grid0.coords t) → k0_off6 (grid0.coords t) = ![0, 0] :=
  (by decide +kernel : ∀ t : Fin grid0.N, atNorm (grid0.coords t) → k0_off6 (grid0.coords t) = ![0, 0])

/-- Each window's staging memref at a point. -/
abbrev ms0_0 (t : Fin cfg0.N) : Memref sig .tc .smem S64x4 .f32 := win0_0.stage (cfg0.slots t 0)
abbrev ms0_1 (t : Fin cfg0.N) : Memref sig .tc .vmem S16x1x4096 .f32 := win0_1.stage (cfg0.slots t 1)
abbrev ms0_2 (t : Fin cfg0.N) : Memref sig .tc .vmem S16x4096 .f32 := win0_2.stage (cfg0.slots t 2)
abbrev ms0_3 (t : Fin cfg0.N) : Memref sig .tc .vmem S4096x16 .f32 := win0_3.stage (cfg0.slots t 3)
abbrev ms0_4 (t : Fin cfg0.N) : Memref sig .tc .vmem S64x1x4096 .f32 := win0_4.stage (cfg0.slots t 4)

/-- The scratch buffers: the tables, the rows before normalising, the running least and greatest value. -/
abbrev scC : Memref sig .tc .vmem S72x64 .f32 := Memref.whole cc0_scratch0
abbrev scU : Memref sig .tc .vmem S64x4096 .f32 := Memref.whole cc0_scratch1
abbrev scM : Memref sig .tc .smem S2 .f32 := Memref.whole cc0_scratch2

/-- The launch's invariant, the scratch as owned memrefs. -/
theorem PhiA0_eq (c : Dev nD) :
    (Pipeline.ΦA spec0 c : sProp 𝕄)
      = iprop(iprop((∃ d, owns (c : Thread nD τ) scC fullShare d) ∗ (∃ d, owns (c : Thread nD τ) scU fullShare d) ∗ (∃ d, owns (c : Thread nD τ) scM fullShare d)) ∗ (∃ r, prngReg c r)) := by
  unfold Pipeline.ΦA; rw [scopedRest0_eq]; simp only [scC, scU, scM, owns_whole]; try rfl

end Cert.KernelIdeal.Body

end
-- ==== Proof.KI.Pure.lean ====
/- The kernel's steps as functions of arrays: a row of the sliding tables applied to a slice, the histogram step
   of a layer of tiles, the last normalisation. -/
module

public import proofs.«01_k».proof.Proof.KI.Base
public import Idealize.ShloMosaic.Lib.ValueIdxCore

@[expose] public section

set_option maxRecDepth 16384

noncomputable section

namespace Cert.KernelIdeal.Body

open Idealize.ShloMosaic Idealize.ShloMosaic.TcCoe
open Cert.KernelIdeal.Gen
open Idealize.ShloMosaic.ValueIdx

variable {F : FTy → Type} [FloatOps F] [Named F]

/-! ## One slice through the tables -/

/-- A polynomial of degree five in `f`, by Horner's rule. -/
def horner (f : FVec F S1x4096 .f32) (c0 c1 c2 c3 c4 c5 : F .f32) : FVec F S1x4096 .f32 :=
  addf (broadcast S1x4096 c0) (mulf f (addf (broadcast S1x4096 c1) (mulf f (addf (broadcast S1x4096 c2) (mulf f
    (addf (broadcast S1x4096 c3) (mulf f (addf (broadcast S1x4096 c4) (mulf f (broadcast S1x4096 c5))))))))))

/-- The bin coordinates of a slice. -/
def binPos (v : Vec F S1x1x4096 .f32) : FVec F S1x4096 .f32 :=
  mulf (shapeCast S1x4096 v shapeCasts_S1x1x4096_S1x4096) (broadcast S1x4096 (Scalar.ofBits .f32 0x427C0000#32))

/-- Their fractional parts. -/
def binFrac (v : Vec F S1x1x4096 .f32) : FVec F S1x4096 .f32 := subf (binPos v) (floor (binPos v))

/-- The table with a one where the row is the bin's number plus two. -/
def onehot (v : Vec F S1x1x4096 .f32) : FVec F S72x4096 .f32 :=
  sitofp .f32 (extui 32 (cmpi .eq (broadcastTo S72x4096 (iota .tc S72x1 32 [0] iota_S72x1_d0_w32) broadcasts_S72x1_S72x4096)
    (broadcastTo S72x4096 (addi (fptosi 32 (floor (binPos v))) (broadcast S1x4096 2#32)) broadcasts_S1x4096_S72x4096)) natLt_1_32)

/-- Four layers of tables, mixed. -/
def mixed (m0 m1 m2 m3 : F .f32) (c0 c1 c2 c3 : Vec F S72x16 .f32) : FVec F S72x16 .f32 :=
  addf (addf (addf (mulf (broadcast S72x16 m0) c0) (mulf (broadcast S72x16 m1) c1)) (mulf (broadcast S72x16 m2) c2))
    (mulf (broadcast S72x16 m3) c3)

/-- A table next to its five shifts by one to five rows. -/
def shifted (c : FVec F S72x16 .f32) : FVec F S72x96 .f32 :=
  concatenate S72x96 1 [⟨S72x16, c⟩,
    ⟨S72x16, concatenate S72x16 0 [⟨S71x16, extractStridedSlice S71x16 ![1, 0] c slices_S72x16_o1_0_S71x16⟩, ⟨S1x16, broadcast S1x16 (Scalar.ofBits .f32 0x00000000#32 : F .f32)⟩] concatenates_S71x16_S1x16_S72x16_d0⟩,
    ⟨S72x16, concatenate S72x16 0 [⟨S70x16, extractStridedSlice S70x16 ![2, 0] c slices_S72x16_o2_0_S70x16⟩, ⟨S2x16, broadcast S2x16 (Scalar.ofBits .f32 0x00000000#32 : F .f32)⟩] concatenates_S70x16_S2x16_S72x16_d0⟩,
    ⟨S72x16, concatenate S72x16 0 [⟨S69x16, extractStridedSlice S69x16 ![3, 0] c slices_S72x16_o3_0_S69x16⟩, ⟨S3x16, broadcast S3x16 (Scalar.ofBits .f32 0x00000000#32 : F .f32)⟩] concatenates_S69x16_S3x16_S72x16_d0⟩,
    ⟨S72x16, concatenate S72x16 0 [⟨S68x16, extractStridedSlice S68x16 ![4, 0] c slices_S72x16_o4_0_S68x16⟩, ⟨S4x16, broadcast S4x16 (Scalar.ofBits .f32 0x00000000#32 : F .f32)⟩] concatenates_S68x16_S4x16_S72x16_d0⟩,
    ⟨S72x16, concatenate S72x16 0 [⟨S67x16, extractStridedSlice S67x16 ![5, 0] c slices_S72x16_o5_0_S67x16⟩, ⟨S5x16, broadcast S5x16 (Scalar.ofBits .f32 0x00000000#32 : F .f32)⟩] concatenates_S67x16_S5x16_S72x16_d0⟩]
    concatenates_S72x16_S72x16_S72x16_S72x16_S72x16_S72x16_S72x96_d1

/-- What the one-hot table picks of the shifted tables. -/
def picked (c : FVec F S72x16 .f32) (v : Vec F S1x1x4096 .f32) : FVec F S96x4096 .f32 :=
  matmul dot_S72x96_S72x4096_S96x4096_0_0_1_1_n_n none (shifted c) (onehot v) (constant S96x4096 .f32 0x00000000#32)

/-- A tap's weight over every tile. -/
def spread (w : FVec F S1x4096 .f32) : FVec F S16x4096 .f32 := broadcastTo S16x4096 w broadcasts_S1x4096_S16x4096

/-- The six taps' weighted sum. -/
def tapSum (f : FVec F S1x4096 .f32) (s : FVec F S96x4096 .f32) : FVec F S16x4096 .f32 :=
  addf (addf (addf (addf (addf
    (mulf (spread (horner f (Named.named κ "p1" 0x3C088889#32) (Named.named κ "m5" 0xBD2AAAAB#32) (Named.named κ "p10" 0x3DAAAAAB#32) (Named.named κ "m10" 0xBDAAAAAB#32) (Named.named κ "p5" 0x3D2AAAAB#32) (Named.named κ "m1" 0xBC088889#32)))
      (extractStridedSlice S16x4096 ![0, 0] s slices_S96x4096_o0_0_S16x4096))
    (mulf (spread (horner f (Named.named κ "p26" 0x3E5DDDDE#32) (Named.named κ "m50" 0xBED55555#32) (Named.named κ "p20" 0x3E2AAAAB#32) (Named.named κ "p20" 0x3E2AAAAB#32) (Named.named κ "m20" 0xBE2AAAAB#32) (Named.named κ "p5" 0x3D2AAAAB#32)))
      (extractStridedSlice S16x4096 ![16, 0] s slices_S96x4096_o16_0_S16x4096)))
    (mulf (spread (horner f (Named.named κ "p66" 0x3F0CCCCD#32) (Scalar.ofBits .f32 0x00000000#32) (Scalar.ofBits .f32 0xBF000000#32) (Scalar.ofBits .f32 0x00000000#32) (Scalar.ofBits .f32 0x3E800000#32) (Named.named κ "m10" 0xBDAAAAAB#32)))
      (extractStridedSlice S16x4096 ![32, 0] s slices_S96x4096_o32_0_S16x4096)))
    (mulf (spread (horner f (Named.named κ "p26" 0x3E5DDDDE#32) (Named.named κ "p50" 0x3ED55555#32) (Named.named κ "p20" 0x3E2AAAAB#32) (Named.named κ "m20" 0xBE2AAAAB#32) (Named.named κ "m20" 0xBE2AAAAB#32) (Named.named κ "p10" 0x3DAAAAAB#32)))
      (extractStridedSlice S16x4096 ![48, 0] s slices_S96x4096_o48_0_S16x4096)))
    (mulf (spread (horner f (Named.named κ "p1" 0x3C088889#32) (Named.named κ "p5" 0x3D2AAAAB#32) (Named.named κ "p10" 0x3DAAAAAB#32) (Named.named κ "p10" 0x3DAAAAAB#32) (Named.named κ "p5" 0x3D2AAAAB#32) (Named.named κ "m5" 0xBD2AAAAB#32)))
      (extractStridedSlice S16x4096 ![64, 0] s slices_S96x4096_o64_0_S16x4096)))
    (mulf (spread (horner f (Scalar.ofBits .f32 0x00000000#32) (Scalar.ofBits .f32 0x00000000#32) (Scalar.ofBits .f32 0x00000000#32) (Scalar.ofBits .f32 0x00000000#32) (Scalar.ofBits .f32 0x00000000#32) (Named.named κ "p1" 0x3C088889#32)))
      (extractStridedSlice S16x4096 ![80, 0] s slices_S96x4096_o80_0_S16x4096))

/-- A slice through the mixed tables, summed over the tiles with their weights. -/
def rowPure (v : Vec F S1x1x4096 .f32) (m0 m1 m2 m3 : F .f32) (c0 c1 c2 c3 : Vec F S72x16 .f32) (kl : Vec F S16x4096 .f32) :
    FVec F S1x4096 .f32 :=
  shapeCast S1x4096 (multiReduction .add [0] S4096
    (mulf (tapSum (binFrac v) (picked (mixed m0 m1 m2 m3 c0 c1 c2 c3) v)) (shapeCast S16x4096 kl shapeCasts_S16x4096_S16x4096))
    0x00000000#32 reduces_S16x4096_S4096 (.inl rfl) rfl) shapeCasts_S4096_S1x4096

/-- The least value of a row. -/
def rowMin (u : FVec F S1x4096 .f32) : F .f32 :=
  extractAt ![0, 0, 0] (shapeCast S1x1x1 (multiReduction .minimumf [1, 2] S1 (shapeCast S1x1x4096 u shapeCasts_S1x4096_S1x1x4096)
    0x7F800000#32 reduces_S1x1x4096_S1 (.inl rfl) rfl) shapeCasts_S1_S1x1x1) inpos_S1x1x1_p0_0_0

/-- The greatest value of a row. -/
def rowMax (u : FVec F S1x4096 .f32) : F .f32 :=
  extractAt ![0, 0, 0] (shapeCast S1x1x1 (multiReduction .maximumf [1, 2] S1 (shapeCast S1x1x4096 u shapeCasts_S1x4096_S1x1x4096)
    0xFF800000#32 reduces_S1x1x4096_S1 (.inl rfl) rfl) shapeCasts_S1_S1x1x1) inpos_S1x1x1_p0_0_0

/-- The unrolled iterations of a point. -/
def iters : List (Fin 16) := [0, 1, 2, 3, 4, 5, 6, 7, 8, 9, 10, 11, 12, 13, 14, 15]

/-- A point's sixteen rows folded into a least value. -/
def minOver (rows : Fin 16 → FVec F S1x4096 .f32) (a : F .f32) : F .f32 := iters.foldl (fun a r => Scalar.minimumf a (rowMin (rows r))) a
/-- A point's sixteen rows folded into a greatest value. -/
def maxOver (rows : Fin 16 → FVec F S1x4096 .f32) (a : F .f32) : F .f32 := iters.foldl (fun a r => Scalar.maximumf a (rowMax (rows r))) a

/-! ## The parts of the arrays that the steps read -/

/-- A slice of a block of sixteen. -/
def slab (x1 : Vec F S16x1x4096 .f32) (r : Fin 16) : Vec F S1x1x4096 .f32 := fun j => x1 (ix3 r 0 (j 2))
/-- Sixteen columns of the scratch tables, from column `o`. -/
def cols (xs0 : Vec F S72x64 .f32) (o : Fin 4) : Vec F S72x16 .f32 := fun j => xs0 (ix2 (j 0) ⟨16 * o.val + (j 1).val, by have := (j 1).isLt; change (j 1).val < 16 at this; omega⟩)

/-- The slice number `d`, iteration `r` of its point, through the tables. -/
def rowOut (x0 : Vec F S64x4 .f32) (x1 : Vec F S16x1x4096 .f32) (x2 : Vec F S16x4096 .f32) (xs0 : Vec F S72x64 .f32) (d : Fin 64) (r : Fin 16) :
    FVec F S1x4096 .f32 :=
  rowPure (slab x1 r) (x0 (ix2 d 0)) (x0 (ix2 d 1)) (x0 (ix2 d 2)) (x0 (ix2 d 3)) (cols xs0 0) (cols xs0 1) (cols xs0 2) (cols xs0 3) x2

/-- The slice that iteration `r` of block `k` works on. -/
def sliceNo (k : ℕ) (r : Fin 16) : Fin 64 := ⟨(16 * k + r.val) % 64, Nat.mod_lt _ (by omega)⟩

/-- The rows before normalising after block `k`. -/
def stepU (k : ℕ) (x0 : Vec F S64x4 .f32) (x1 : Vec F S16x1x4096 .f32) (x2 : Vec F S16x4096 .f32) (xs0 : Vec F S72x64 .f32) (xs1 : Vec F S64x4096 .f32) :
    Vec F S64x4096 .f32 := fun y =>
  if (y 0).val / 16 = k then rowOut x0 x1 x2 xs0 (y 0) ⟨(y 0).val % 16, Nat.mod_lt _ (by omega)⟩ (ix2 0 (y 1)) else xs1 y

/-- The least and greatest value after block `k`. -/
def stepM (k : ℕ) (x0 : Vec F S64x4 .f32) (x1 : Vec F S16x1x4096 .f32) (x2 : Vec F S16x4096 .f32) (xs0 : Vec F S72x64 .f32) (xs2 : Vec F S2 .f32) :
    Vec F S2 .f32 := fun y =>
  if (y 0).val = 0 then minOver (fun r => rowOut x0 x1 x2 xs0 (sliceNo k r) r) (xs2 (ix1 0))
  else maxOver (fun r => rowOut x0 x1 x2 xs0 (sliceNo k r) r) (xs2 (ix1 1))

/-! ## The histogram step -/

/-- The bins' centres. -/
def centres : FVec F S64x1 .f32 :=
  mulf (sitofp .f32 (iota .tc S64x1 32 [0] iota_S64x1_d0_w32)) (broadcast S64x1 (Named.named κ "inv63" 0x3C820821#32))

/-- What one slice adds to every bin of every tile. -/
def sliceHist (v : Vec F S1x1x4096 .f32) (s : Vec F S4096x16 .f32) : FVec F S64x16 .f32 :=
  matmul dot_S64x4096_S4096x16_S64x16_1_0_0_1_n_n none
    (exp (mulf (mulf (subf (broadcastTo S64x4096 (shapeCast S1x4096 v shapeCasts_S1x1x4096_S1x4096) broadcasts_S1x4096_S64x4096) (broadcastTo S64x4096 (centres (F := F)) broadcasts_S64x1_S64x4096))
      (subf (broadcastTo S64x4096 (shapeCast S1x4096 v shapeCasts_S1x1x4096_S1x4096) broadcasts_S1x4096_S64x4096) (broadcastTo S64x4096 (centres (F := F)) broadcasts_S64x1_S64x4096)))
      (broadcast S64x4096 (Scalar.ofBits .f32 0xC8F42400#32))))
    (shapeCast S4096x16 s shapeCasts_S4096x16_S4096x16) (constant S64x16 .f32 0x00000000#32)

/-- The sixteen slices' sum. -/
def sumHist (v : Fin 16 → Vec F S1x1x4096 .f32) (s : Vec F S4096x16 .f32) : FVec F S64x16 .f32 :=
  iters.foldl (fun a r => addf a (sliceHist (v r) s)) (broadcast S64x16 (Scalar.ofBits .f32 0x00000000#32))

/-- A column's sum over the bins. -/
def overBins (h : FVec F S64x16 .f32) : FVec F S1x16 .f32 :=
  shapeCast S1x16 (multiReduction .add [0] S16 h 0x00000000#32 reduces_S64x16_S16 (.inl rfl) rfl) shapeCasts_S16_S1x16

/-- The clipped histogram of a sum. -/
def clipHist (p : FVec F S64x16 .f32) : FVec F S64x16 .f32 :=
  minimumf (mulf (divf (mulf p (broadcast S64x16 (Scalar.ofBits .f32 0x39800000#32)))
      (broadcastTo S64x16 (addf (overBins (mulf p (broadcast S64x16 (Scalar.ofBits .f32 0x39800000#32)))) (broadcast S1x16 (Scalar.ofBits .f32 0x2EDBE6FF#32))) broadcasts_S1x16_S64x16))
    (broadcast S64x16 (Scalar.ofBits .f32 0x45800000#32))) (broadcast S64x16 (Scalar.ofBits .f32 0x43800000#32))

/-- What clipping took off. -/
def excess (h : FVec F S64x16 .f32) : FVec F S1x16 .f32 := subf (broadcast S1x16 (Scalar.ofBits .f32 0x45800000#32)) (overBins h)
/-- Every bin's share of it. -/
def share (h : FVec F S64x16 .f32) : FVec F S1x16 .f32 := floor (mulf (excess h) (broadcast S1x16 (Scalar.ofBits .f32 0x3C800000#32)))
/-- What the shares leave over. -/
def left (h : FVec F S64x16 .f32) : FVec F S1x16 .f32 := subf (excess h) (mulf (share h) (broadcast S1x16 (Scalar.ofBits .f32 0x42800000#32)))
/-- The histogram with the excess spread over the bins. -/
def respread (h : FVec F S64x16 .f32) : FVec F S64x16 .f32 :=
  addf (addf h (broadcastTo S64x16 (share h) broadcasts_S1x16_S64x16))
    (sitofp .f32 (extui 32 (cmpf .olt (broadcastTo S64x16 (sitofp .f32 (iota .tc S64x1 32 [0] iota_S64x1_d0_w32) : FVec F S64x1 .f32) broadcasts_S64x1_S64x16)
      (broadcastTo S64x16 (left h) broadcasts_S1x16_S64x16)) natLt_1_32))

/-- The lower triangle of ones. -/
def triangle : FVec F S64x64 .f32 :=
  sitofp .f32 (extui 32 (cmpi .sge (iota .tc S64x64 32 [0] iota_S64x64_d0_w32) (iota .tc S64x64 32 [1] iota_S64x64_d1_w32)) natLt_1_32)

/-- The running sums, scaled. -/
def cumul (h : FVec F S64x16 .f32) : FVec F S64x16 .f32 :=
  mulf (matmul dot_S64x64_S64x16_S64x16_1_0_0_1_n_n none (triangle (F := F)) h (constant S64x16 .f32 0x00000000#32)) (broadcast S64x16 (Scalar.ofBits .f32 0x3C7C0000#32))

/-- A table with its first four rows before it and its last four behind it, both reversed. -/
def mirrored (c : FVec F S64x16 .f32) : FVec F S72x16 .f32 :=
  concatenate S72x16 0 [⟨S1x16, extractStridedSlice S1x16 ![3, 0] c slices_S64x16_o3_0_S1x16⟩, ⟨S1x16, extractStridedSlice S1x16 ![2, 0] c slices_S64x16_o2_0_S1x16⟩,
    ⟨S1x16, extractStridedSlice S1x16 ![1, 0] c slices_S64x16_o1_0_S1x16⟩, ⟨S1x16, extractStridedSlice S1x16 ![0, 0] c slices_S64x16_o0_0_S1x16⟩, ⟨S64x16, c⟩,
    ⟨S1x16, extractStridedSlice S1x16 ![63, 0] c slices_S64x16_o63_0_S1x16⟩, ⟨S1x16, extractStridedSlice S1x16 ![62, 0] c slices_S64x16_o62_0_S1x16⟩,
    ⟨S1x16, extractStridedSlice S1x16 ![61, 0] c slices_S64x16_o61_0_S1x16⟩, ⟨S1x16, extractStridedSlice S1x16 ![60, 0] c slices_S64x16_o60_0_S1x16⟩]
    concatenates_S1x16_S1x16_S1x16_S1x16_S64x16_S1x16_S1x16_S1x16_S1x16_S72x16_d0

/-- The scratch tables with layer `i`'s added. -/
def addLayer (i : grid0.Coords) (c : FVec F S64x16 .f32) (old : Vec F S72x64 .f32) : FVec F S72x64 .f32 :=
  shapeCast S72x64 (addf old (mulf (concatenate S72x64 1 [⟨S72x16, mirrored c⟩, ⟨S72x16, mirrored c⟩, ⟨S72x16, mirrored c⟩, ⟨S72x16, mirrored c⟩] concatenates_S72x16_S72x16_S72x16_S72x16_S72x64_d1)
    (sitofp .f32 (extui 32 (andi (cmpi .sge (iota .tc S72x64 32 [1] iota_S72x64_d1_w32) (broadcast S72x64 (Scalar.muli (BitVec.ofNat 32 (i 0).val) 16#32)))
      (cmpi .slt (iota .tc S72x64 32 [1] iota_S72x64_d1_w32) (broadcast S72x64 (Scalar.addi (Scalar.muli (BitVec.ofNat 32 (i 0).val) 16#32) 16#32)))) natLt_1_32)))) shapeCasts_S72x64_S72x64

/-- A layer's running sums from its sixteen slices. -/
def layerOf (x1 : Vec F S16x1x4096 .f32) (x3 : Vec F S4096x16 .f32) : FVec F S64x16 .f32 := cumul (respread (clipHist (sumHist (slab x1) x3)))

/-- The scratch tables after a histogram step. -/
def stepC (i : grid0.Coords) (x1 : Vec F S16x1x4096 .f32) (x3 : Vec F S4096x16 .f32) (old : Vec F S72x64 .f32) : Vec F S72x64 .f32 := addLayer i (layerOf x1 x3) old

/-- The tables before the first step. -/
def noTables : Vec F S72x64 .f32 := broadcast S72x64 (Scalar.ofBits .f32 0x00000000#32)

/-- The least and greatest value before the first row. -/
def noRows : Vec F S2 .f32 := fun y => if (y 0).val = 0 then Scalar.ofBits .f32 0x7F800000#32 else Scalar.ofBits .f32 0xFF800000#32

/-- The normalised rows. -/
def normed (xs1 : Vec F S64x4096 .f32) (xs2 : Vec F S2 .f32) : Vec F S64x1x4096 .f32 := k0_pay4 (xs2 (ix1 0)) (xs2 (ix1 1)) xs1

end Cert.KernelIdeal.Body

end
-- ==== Proof.KI.RunC.lean ====
/- The body at a point that applies the tables: sixteen rows written, and the least and greatest value carried on. -/
module

public import proofs.«01_k».proof.Proof.KI.Pure
public import Idealize.ShloMosaic.Lib.WritesUnit
public import Idealize.ShloMosaic.Lib.CellWrites
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

/-! ## What the loads read -/

/-- Loading a slice of the block. -/
theorem load_slab (arg2 : Memref sig .tc .vmem S16x1x4096 .f32) (harg2 : arg2.IsWhole) (x1 : Vec F S16x1x4096 .f32) (r : Fin 16)
    (inb : ∀ a, (![r.val, 0, 0] : Fin 3 → ℕ) a + S1x1x4096.size a ≤ S16x1x4096.size a) :
    View.readAt (Elt F) arg2.view (Rect.unit (s := S16x1x4096) ![r.val, 0, 0] S1x1x4096.size inb).toLoadRect (harg2.unread x1) = slab x1 r := by
  rw [View.readAt_eq_ld, harg2.read_unread]
  funext j
  unfold View.ld slab
  congr 1
  funext a
  have h0 : (j 0).val < 1 := (j 0).isLt
  have h1 : (j 1).val < 1 := (j 1).isLt
  apply Fin.ext
  fin_cases a
  · change r.val + 1 * (j 0).val = r.val; omega
  · change 0 + 1 * (j 1).val = 0; omega
  · change 0 + 1 * (j 2).val = (j 2).val; omega

/-- Loading sixteen columns of the scratch tables. -/
theorem load_cols (arg6 : Memref sig .tc .vmem S72x64 .f32) (harg6 : arg6.IsWhole) (xs0 : Vec F S72x64 .f32) (o : Fin 4) (off : Fin 2 → ℕ)
    (inb : ∀ a, off a + S72x16.size a ≤ S72x64.size a) (h : off = ![0, 16 * o.val]) :
    View.readAt (Elt F) arg6.view (Rect.unit (s := S72x64) off S72x16.size inb).toLoadRect (harg6.unread xs0) = cols xs0 o := by
  subst h
  rw [View.readAt_eq_ld, harg6.read_unread]
  funext j
  unfold View.ld cols
  congr 1
  funext a
  apply Fin.ext
  fin_cases a
  · change 0 + 1 * (j 0).val = (j 0).val; omega
  · change 16 * o.val + 1 * (j 1).val = 16 * o.val + (j 1).val; omega

/-- Loading a word of the mixing weights. -/
theorem load_word (arg1 : Memref sig .tc .smem S64x4 .f32) (harg1 : arg1.IsWhole) (x0 : Vec F S64x4 .f32) (d : Fin 64) (k : Fin 4) (off : Fin 2 → ℕ)
    (inb : ∀ a, off a + S1x1.size a ≤ S64x4.size a) (h : off = ![d.val, k.val]) (j : S1x1.Idx) :
    View.readAt (Elt F) arg1.view (Rect.unit (s := S64x4) off S1x1.size inb).toLoadRect (harg1.unread x0) j = x0 (ix2 d k) := by
  subst h
  rw [View.readAt_eq_ld, harg1.read_unread]
  unfold View.ld
  congr 1
  have h0 : (j 0).val < 1 := (j 0).isLt
  have h1 : (j 1).val < 1 := (j 1).isLt
  funext a
  apply Fin.ext
  fin_cases a
  · change d.val + 1 * (j 0).val = d.val; omega
  · change k.val + 1 * (j 1).val = k.val; omega

/-- Loading a cell of the running least and greatest value. -/
theorem load_cell (arg8 : Memref sig .tc .smem S2 .f32) (harg8 : arg8.IsWhole) (xs2 : Vec F S2 .f32) (k : Fin 2) (off : Fin 1 → ℕ)
    (inb : ∀ a, off a + S1.size a ≤ S2.size a) (h : off = ![k.val]) (j : S1.Idx) :
    View.readAt (Elt F) arg8.view (Rect.unit (s := S2) off S1.size inb).toLoadRect (harg8.unread xs2) j = xs2 (ix1 k) := by
  subst h
  rw [View.readAt_eq_ld, harg8.read_unread]
  unfold View.ld
  congr 1
  have h0 : (j 0).val < 1 := (j 0).isLt
  funext a
  apply Fin.ext
  fin_cases a
  change k.val + 1 * (j 0).val = k.val; omega

/-- A slice of the block lies in it. -/
theorem slab_inb (r : Fin 16) : ∀ a, (![r.val, 0, 0] : Fin 3 → ℕ) a + S1x1x4096.size a ≤ S16x1x4096.size a := by
  have := r.isLt
  intro a
  fin_cases a
  · change r.val + 1 ≤ 16; omega
  · change 0 + 1 ≤ 1; omega
  · change 0 + 4096 ≤ 4096; omega

/-- Loading a whole array. -/
theorem load_all {sp : Space} {s : Shape} (m : Memref sig .tc sp s .f32) (h : m.IsWhole) (x : Vec F s .f32) (off : Fin s.rank → ℕ)
    (inb : ∀ a, off a + s.size a ≤ s.size a) :
    View.readAt (Elt F) m.view (Rect.unit (s := s) off s.size inb).toLoadRect (h.unread x) = x := by
  rw [View.readAt_full, h.read_unread]

/-- The slice of iteration `r` at point `t`. -/
theorem sliceNo_val (t : Fin cfg0.N) (h : atApply (grid0.coords t)) (r : Fin 16) :
    (sliceNo ((grid0.coords t 0).val - 4) r).val = rowOf (grid0.coords t) r.val := by
  have hb : (grid0.coords t 0).val < 9 := (grid0.coords t 0).isLt
  have ha : ∀ t : Fin grid0.N, atApply (grid0.coords t) → (grid0.coords t 0).val - 4 ≤ 3 := by decide +kernel
  have := ha t h
  have := r.isLt
  unfold sliceNo rowOf
  show (16 * _ + _) % 64 = _
  omega

/-- Iteration `r`'s row, from what it loads. -/
theorem row_of_loads (t : Fin cfg0.N) (h : atApply (grid0.coords t)) (arg1 : Memref sig .tc .smem S64x4 .f32) (harg1 : arg1.IsWhole) (arg2 : Memref sig .tc .vmem S16x1x4096 .f32) (harg2 : arg2.IsWhole)
    (arg3 : Memref sig .tc .vmem S16x4096 .f32) (harg3 : arg3.IsWhole) (arg6 : Memref sig .tc .vmem S72x64 .f32) (harg6 : arg6.IsWhole)
    (x0 : Vec F S64x4 .f32) (x1 : Vec F S16x1x4096 .f32) (x2 : Vec F S16x4096 .f32) (xs0 : Vec F S72x64 .f32) (r : Fin 16) (inb) (j1 j2 j3 j4 : S1x1.Idx) :
    rowPure (View.readAt (Elt F) arg2.view (Rect.unit (s := S16x1x4096) ![r.val, 0, 0] S1x1x4096.size inb).toLoadRect (harg2.unread x1))
      (View.readAt (Elt F) arg1.view (Rect.unit (s := S64x4) (k0_off1 (grid0.coords t) (BitVec.ofNat 32 r.val)) S1x1.size (k0_off1_inb _ h r)).toLoadRect (harg1.unread x0) j1)
      (View.readAt (Elt F) arg1.view (Rect.unit (s := S64x4) (k0_off2 (grid0.coords t) (BitVec.ofNat 32 r.val)) S1x1.size (k0_off2_inb _ h r)).toLoadRect (harg1.unread x0) j2)
      (View.readAt (Elt F) arg1.view (Rect.unit (s := S64x4) (k0_off3 (grid0.coords t) (BitVec.ofNat 32 r.val)) S1x1.size (k0_off3_inb _ h r)).toLoadRect (harg1.unread x0) j3)
      (View.readAt (Elt F) arg1.view (Rect.unit (s := S64x4) (k0_off4 (grid0.coords t) (BitVec.ofNat 32 r.val)) S1x1.size (k0_off4_inb _ h r)).toLoadRect (harg1.unread x0) j4)
      (View.readAt (Elt F) arg6.view (Rect.unit (s := S72x64) ![0, 0] S72x16.size inb_S72x64_S72x16_0_0).toLoadRect (harg6.unread xs0))
      (View.readAt (Elt F) arg6.view (Rect.unit (s := S72x64) ![0, 16] S72x16.size inb_S72x64_S72x16_0_16).toLoadRect (harg6.unread xs0))
      (View.readAt (Elt F) arg6.view (Rect.unit (s := S72x64) ![0, 32] S72x16.size inb_S72x64_S72x16_0_32).toLoadRect (harg6.unread xs0))
      (View.readAt (Elt F) arg6.view (Rect.unit (s := S72x64) ![0, 48] S72x16.size inb_S72x64_S72x16_0_48).toLoadRect (harg6.unread xs0))
      (View.readAt (Elt F) arg3.view (Rect.unit (s := S16x4096) ![0, 0] S16x4096.size inb_S16x4096_S16x4096_0_0).toLoadRect (harg3.unread x2))
      = rowOut x0 x1 x2 xs0 (sliceNo ((grid0.coords t 0).val - 4) r) r := by
  unfold rowOut
  have e := sliceNo_val t h r
  obtain ⟨h1, h2, h3, h4, -⟩ := off_row t h r
  rw [load_slab, load_all, load_word arg1 harg1 x0 (sliceNo ((grid0.coords t 0).val - 4) r) 0 _ _ (by rw [h1, e]; rfl), load_word arg1 harg1 x0 (sliceNo ((grid0.coords t 0).val - 4) r) 1 _ _ (by rw [h2, e]; rfl),
    load_word arg1 harg1 x0 (sliceNo ((grid0.coords t 0).val - 4) r) 2 _ _ (by rw [h3, e]; rfl), load_word arg1 harg1 x0 (sliceNo ((grid0.coords t 0).val - 4) r) 3 _ _ (by rw [h4, e]; rfl)]
  rw [load_cols arg6 harg6 xs0 0 _ inb_S72x64_S72x16_0_0 rfl, load_cols arg6 harg6 xs0 1 _ inb_S72x64_S72x16_0_16 rfl, load_cols arg6 harg6 xs0 2 _ inb_S72x64_S72x16_0_32 rfl, load_cols arg6 harg6 xs0 3 _ inb_S72x64_S72x16_0_48 rfl]

/-- The rows' function at a position of iteration `r`'s row. -/
theorem rowOut_emb (t : Fin cfg0.N) (h : atApply (grid0.coords t)) (x0 : Vec F S64x4 .f32) (x1 : Vec F S16x1x4096 .f32) (x2 : Vec F S16x4096 .f32) (xs0 : Vec F S72x64 .f32) (r : Fin 16)
    (x : S1x4096.Idx) :
    rowOut x0 x1 x2 xs0 ((Rect.unit (s := S64x4096) (k0_off5 (grid0.coords t) (BitVec.ofNat 32 r.val)) S1x4096.size (k0_off5_inb _ h r)).emb x 0)
      ⟨((Rect.unit (s := S64x4096) (k0_off5 (grid0.coords t) (BitVec.ofNat 32 r.val)) S1x4096.size (k0_off5_inb _ h r)).emb x 0).val % 16, Nat.mod_lt _ (by omega)⟩
      (ix2 0 ((Rect.unit (s := S64x4096) (k0_off5 (grid0.coords t) (BitVec.ofNat 32 r.val)) S1x4096.size (k0_off5_inb _ h r)).emb x 1))
      = rowOut x0 x1 x2 xs0 (sliceNo ((grid0.coords t 0).val - 4) r) r x := by
  have e := sliceNo_val t h r
  have e5 := off5_eq t h r
  have hx : (x 0).val < 1 := (x 0).isLt
  have h0 : ((Rect.unit (s := S64x4096) (k0_off5 (grid0.coords t) (BitVec.ofNat 32 r.val)) S1x4096.size (k0_off5_inb _ h r)).emb x 0) = sliceNo ((grid0.coords t 0).val - 4) r := by
    apply Fin.ext
    rw [e]
    change k0_off5 (grid0.coords t) (BitVec.ofNat 32 r.val) 0 + 1 * (x 0).val = _
    rw [e5]; unfold rowOf
    change 16 * _ + r.val + _ = _
    omega
  have hr : (⟨(sliceNo ((grid0.coords t 0).val - 4) r).val % 16, Nat.mod_lt _ (by omega)⟩ : Fin 16) = r := by
    apply Fin.ext
    have := r.isLt
    change (sliceNo ((grid0.coords t 0).val - 4) r).val % 16 = _
    rw [e]; unfold rowOf; omega
  have hx1 : (ix2 0 ((Rect.unit (s := S64x4096) (k0_off5 (grid0.coords t) (BitVec.ofNat 32 r.val)) S1x4096.size (k0_off5_inb _ h r)).emb x 1) : S1x4096.Idx) = x := by
    funext a
    apply Fin.ext
    fin_cases a
    · change 0 = (x 0).val; omega
    · change k0_off5 (grid0.coords t) (BitVec.ofNat 32 r.val) 1 + 1 * (x 1).val = _
      rw [e5]
      change 0 + 1 * (x 1).val = (x 1).val
      omega
  rw [h0, hr, hx1]

/-- The piece that iteration `r` stores agrees with the rows' function. -/
theorem piece_ok (t : Fin cfg0.N) (h : atApply (grid0.coords t)) (x0 : Vec F S64x4 .f32) (x1 : Vec F S16x1x4096 .f32) (x2 : Vec F S16x4096 .f32) (xs0 : Vec F S72x64 .f32) (r : Fin 16)
    (w : FVec F S1x4096 .f32) (hw : w = rowOut x0 x1 x2 xs0 (sliceNo ((grid0.coords t 0).val - 4) r) r) (x : S1x4096.Idx) :
    shapeCast S1x4096 w shapeCasts_S1x4096_S1x4096 x = (fun y : S64x4096.Idx => rowOut x0 x1 x2 xs0 (y 0) ⟨(y 0).val % 16, Nat.mod_lt _ (by omega)⟩ (ix2 0 (y 1)))
      ((Rect.unit (s := S64x4096) (k0_off5 (grid0.coords t) (BitVec.ofNat 32 r.val)) S1x4096.size (k0_off5_inb _ h r)).emb x) := by
  rw [show shapeCast S1x4096 w shapeCasts_S1x4096_S1x4096 = w from funext fun i => congrArg w (Shape.reshapeEquiv_self _ i), hw]
  exact (rowOut_emb t h x0 x1 x2 xs0 r x).symm

/-- Which positions iteration `r` stores. -/
theorem mem_piece (t : Fin cfg0.N) (h : atApply (grid0.coords t)) (y : S64x4096.Idx) (r : Fin 16) :
    y ∈ (Rect.unit (s := S64x4096) (k0_off5 (grid0.coords t) (BitVec.ofNat 32 r.val)) S1x4096.size (k0_off5_inb _ h r)).set ↔ (y 0).val = 16 * ((grid0.coords t 0).val - 4) + r.val := by
  rw [Rect.mem_set_unit, off5_eq t h r]
  have h1 : (y 1).val < 4096 := (y 1).isLt
  constructor
  · intro hh
    have h0 := hh 0
    change 16 * _ + r.val ≤ (y 0).val ∧ (y 0).val < 16 * _ + r.val + 1 at h0
    omega
  · intro hh a
    fin_cases a
    · change 16 * _ + r.val ≤ (y 0).val ∧ (y 0).val < 16 * _ + r.val + 1; omega
    · change 0 ≤ (y 1).val ∧ (y 1).val < 0 + 4096; omega

set_option maxHeartbeats 2484000 in
theorem kernelRunC (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
   (hc0 : ¬atInit (grid0.coords t)) (hc1 : ¬atHist (grid0.coords t)) (hc2 : atApply (grid0.coords t)) (hc3 : ¬atNorm (grid0.coords t))
    (x0 : Vec F S64x4 .f32) (x1 : Vec F S16x1x4096 .f32) (x2 : Vec F S16x4096 .f32) (x3 : Vec F S4096x16 .f32) (xs0 : Vec F S72x64 .f32) (xs1 : Vec F S64x4096 .f32) (xs2 : Vec F S2 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare (stepU ((grid0.coords t 0).val - 4) x0 x1 x2 xs0 xs1) ∗ owns (c : Thread nD τ) arg8 fullShare (stepM ((grid0.coords t 0).val - 4) x0 x1 x2 xs0 xs2)) -∗ K ⟨⟩))
          ⊢ wp frame (wpE (defs₀ (F := F)) Variants.none c none) E (cc0__fused_kernel (grid0.coords t) arg1 harg1 arg2 harg2 arg3 harg3 arg4 harg4 arg5 harg5 arg6 harg6 arg7 harg7 arg8 harg8) K := by
    haveI : Fact (atApply (grid0.coords t)) := ⟨hc2⟩
    simp only [cc0__fused_kernel_eq_skeleton]; unfold cc0__fused_kernel_skel
    simp only [k0_part78_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1; obtain rfl := harg8.eq_unread hfs2
    sl_exec (disch := first | sl_exact hc0 | sl_exact hc1 | sl_exact hc2 | sl_exact hc3)
    sl_step
    iapply Hk
    isplitl [H0]; · iexists _; isplitr; swap; iexact H0; ipureintro; exact harg1.read_unread _
    isplitl [H1]; · iexists _; isplitr; swap; iexact H1; ipureintro; exact harg2.read_unread _
    isplitl [H2]; · iexists _; isplitr; swap; iexact H2; ipureintro; exact harg3.read_unread _
    isplitl [H3]; · iexists _; isplitr; swap; iexact H3; ipureintro; exact harg4.read_unread _
    isplitl [H4]; · iexists _, _; isplitr; swap; iexact H4; ipureintro; rfl
    isplitl [HS0]; · iexists _; isplitr; swap; iexact HS0; ipureintro; exact harg6.read_unread _
    isplitl [HS1]
    · iexists _; isplitr; swap; iexact HS1; ipureintro
      funext y
      unfold stepU
      split_ifs with hy
      · refine (View.read_writes_apply_of_pieces (Val := Elt F) (e := .f32) arg7.view _ (fun y : S64x4096.Idx => rowOut x0 x1 x2 xs0 (y 0) ⟨(y 0).val % 16, Nat.mod_lt _ (by omega)⟩ (ix2 0 (y 1))) _ ?_ y ?_)
        · simp only [List.forall_mem_cons, List.not_mem_nil, false_imp_iff, implies_true, and_true]
          have row := fun r inb => row_of_loads t hc2 arg1 harg1 arg2 harg2 arg3 harg3 arg6 harg6 x0 x1 x2 xs0 r inb (Shape.Idx.first (s := S1x1) (by decide)) (Shape.Idx.first (s := S1x1) (by decide)) (Shape.Idx.first (s := S1x1) (by decide)) (Shape.Idx.first (s := S1x1) (by decide))
          have ok := fun (r : Fin 16) inb => piece_ok t hc2 x0 x1 x2 xs0 r _ (row r inb)
          exact ⟨ok 15 inb_S16x1x4096_S1x1x4096_15_0_0, ok 14 inb_S16x1x4096_S1x1x4096_14_0_0, ok 13 inb_S16x1x4096_S1x1x4096_13_0_0, ok 12 inb_S16x1x4096_S1x1x4096_12_0_0, ok 11 inb_S16x1x4096_S1x1x4096_11_0_0, ok 10 inb_S16x1x4096_S1x1x4096_10_0_0, ok 9 inb_S16x1x4096_S1x1x4096_9_0_0, ok 8 inb_S16x1x4096_S1x1x4096_8_0_0, ok 7 inb_S16x1x4096_S1x1x4096_7_0_0, ok 6 inb_S16x1x4096_S1x1x4096_6_0_0, ok 5 inb_S16x1x4096_S1x1x4096_5_0_0, ok 4 inb_S16x1x4096_S1x1x4096_4_0_0, ok 3 inb_S16x1x4096_S1x1x4096_3_0_0, ok 2 inb_S16x1x4096_S1x1x4096_2_0_0, ok 1 inb_S16x1x4096_S1x1x4096_1_0_0, ok 0 inb_S16x1x4096_S1x1x4096_0_0_0⟩
        · simp only [List.exists_mem_cons_iff, List.not_mem_nil, false_and, exists_false]
          exact (or_congr (mem_piece t hc2 y 15) (or_congr (mem_piece t hc2 y 14) (or_congr (mem_piece t hc2 y 13) (or_congr (mem_piece t hc2 y 12) (or_congr (mem_piece t hc2 y 11) (or_congr (mem_piece t hc2 y 10) (or_congr (mem_piece t hc2 y 9) (or_congr (mem_piece t hc2 y 8) (or_congr (mem_piece t hc2 y 7) (or_congr (mem_piece t hc2 y 6) (or_congr (mem_piece t hc2 y 5) (or_congr (mem_piece t hc2 y 4) (or_congr (mem_piece t hc2 y 3) (or_congr (mem_piece t hc2 y 2) (or_congr (mem_piece t hc2 y 1) ((or_iff_left (b := False) id).trans (mem_piece t hc2 y 0))))))))))))))))).mpr (by first | omega | (change _ = 16 * _ + 15 ∨ _ = 16 * _ + 14 ∨ _ = 16 * _ + 13 ∨ _ = 16 * _ + 12 ∨ _ = 16 * _ + 11 ∨ _ = 16 * _ + 10 ∨ _ = 16 * _ + 9 ∨ _ = 16 * _ + 8 ∨ _ = 16 * _ + 7 ∨ _ = 16 * _ + 6 ∨ _ = 16 * _ + 5 ∨ _ = 16 * _ + 4 ∨ _ = 16 * _ + 3 ∨ _ = 16 * _ + 2 ∨ _ = 16 * _ + 1 ∨ _ = 16 * _ + 0; omega))
      · rw [View.read_writes_apply_of_forall_not_mem, harg7.read_unread]
        simp only [List.forall_mem_cons, List.not_mem_nil, false_imp_iff, implies_true, and_true]
        have no := fun r : Fin 16 => mt (mem_piece t hc2 y r).mp (fun e => hy (by have := r.isLt; omega))
        exact ⟨no 15, no 14, no 13, no 12, no 11, no 10, no 9, no 8, no 7, no 6, no 5, no 4, no 3, no 2, no 1, no 0⟩
    · iexists _; isplitr; swap; iexact HS2; ipureintro
      funext y
      unfold stepM
      have hy : (y 0).val < 2 := (y 0).isLt
      have row : (fun r : Fin 16 => rowPure (View.readAt (Elt F) arg2.view (Rect.unit (s := S16x1x4096) ![r.val, 0, 0] S1x1x4096.size (slab_inb r)).toLoadRect (harg2.unread x1))
          (View.readAt (Elt F) arg1.view (Rect.unit (s := S64x4) (k0_off1 (grid0.coords t) (BitVec.ofNat 32 r.val)) S1x1.size (k0_off1_inb _ hc2 r)).toLoadRect (harg1.unread x0) (Shape.Idx.first (s := S1x1) (by decide)))
          (View.readAt (Elt F) arg1.view (Rect.unit (s := S64x4) (k0_off2 (grid0.coords t) (BitVec.ofNat 32 r.val)) S1x1.size (k0_off2_inb _ hc2 r)).toLoadRect (harg1.unread x0) (Shape.Idx.first (s := S1x1) (by decide)))
          (View.readAt (Elt F) arg1.view (Rect.unit (s := S64x4) (k0_off3 (grid0.coords t) (BitVec.ofNat 32 r.val)) S1x1.size (k0_off3_inb _ hc2 r)).toLoadRect (harg1.unread x0) (Shape.Idx.first (s := S1x1) (by decide)))
          (View.readAt (Elt F) arg1.view (Rect.unit (s := S64x4) (k0_off4 (grid0.coords t) (BitVec.ofNat 32 r.val)) S1x1.size (k0_off4_inb _ hc2 r)).toLoadRect (harg1.unread x0) (Shape.Idx.first (s := S1x1) (by decide)))
          (View.readAt (Elt F) arg6.view (Rect.unit (s := S72x64) ![0, 0] S72x16.size inb_S72x64_S72x16_0_0).toLoadRect (harg6.unread xs0))
          (View.readAt (Elt F) arg6.view (Rect.unit (s := S72x64) ![0, 16] S72x16.size inb_S72x64_S72x16_0_16).toLoadRect (harg6.unread xs0))
          (View.readAt (Elt F) arg6.view (Rect.unit (s := S72x64) ![0, 32] S72x16.size inb_S72x64_S72x16_0_32).toLoadRect (harg6.unread xs0))
          (View.readAt (Elt F) arg6.view (Rect.unit (s := S72x64) ![0, 48] S72x16.size inb_S72x64_S72x16_0_48).toLoadRect (harg6.unread xs0))
          (View.readAt (Elt F) arg3.view (Rect.unit (s := S16x4096) ![0, 0] S16x4096.size inb_S16x4096_S16x4096_0_0).toLoadRect (harg3.unread x2)))
          = fun r => rowOut x0 x1 x2 xs0 (sliceNo ((grid0.coords t 0).val - 4) r) r := funext fun r => row_of_loads t hc2 arg1 harg1 arg2 harg2 arg3 harg3 arg6 harg6 x0 x1 x2 xs0 r _ _ _ _ _
      rw [← row, ← load_cell arg8 harg8 xs2 0 _ inb_S2_S1_0 rfl (Shape.Idx.first (s := S1) (by decide)), ← load_cell arg8 harg8 xs2 1 _ inb_S2_S1_1 rfl (Shape.Idx.first (s := S1) (by decide))]
      rw [View.read_writes_cons_cell]
      by_cases h1 : (y 0).val = 1
      · rw [if_pos (show (y 0).val = (![1] : Fin 1 → ℕ) 0 from h1), if_neg (by omega)]
        rfl
      · rw [if_neg (show ¬ (y 0).val = (![1] : Fin 1 → ℕ) 0 from h1), if_pos (by omega)]
        refine (View.read_writes_cons_cell (d := ![2]) arg8.view _ inb_S2_S1_0 _ _ y).trans ?_
        rw [if_pos (show (y 0).val = (![0] : Fin 1 → ℕ) 0 by change (y 0).val = 0; omega)]
        rfl

end Cert.KernelIdeal.Body

end
-- ==== Proof.KI.RunH.lean ====
/- The body at a point that builds tables: a layer's running sums from its sixteen slices, added to the scratch. -/
module

public import proofs.«01_k».proof.Proof.KI.RunC
public import Idealize.ShloMosaic.Lib.WritesUnit
public import Idealize.ShloMosaic.Lib.CellWrites
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

/-- The sixteen slices' loads are the block's slices. -/
theorem slabs_of_loads (arg2 : Memref sig .tc .vmem S16x1x4096 .f32) (harg2 : arg2.IsWhole) (x1 : Vec F S16x1x4096 .f32) :
    (fun r : Fin 16 => View.readAt (Elt F) arg2.view (Rect.unit (s := S16x1x4096) ![r.val, 0, 0] S1x1x4096.size (slab_inb r)).toLoadRect (harg2.unread x1)) = slab x1 :=
  funext fun r => load_slab arg2 harg2 x1 r (slab_inb r)

/-- A step's tables, over what it loads, are `stepC`. -/
theorem stepC_of_loads (i : grid0.Coords) (arg2 : Memref sig .tc .vmem S16x1x4096 .f32) (harg2 : arg2.IsWhole) (arg4 : Memref sig .tc .vmem S4096x16 .f32) (harg4 : arg4.IsWhole)
    (x1 : Vec F S16x1x4096 .f32) (x3 : Vec F S4096x16 .f32) (old : Vec F S72x64 .f32) :
    addLayer i (cumul (respread (clipHist (sumHist (fun r : Fin 16 => View.readAt (Elt F) arg2.view (Rect.unit (s := S16x1x4096) ![r.val, 0, 0] S1x1x4096.size (slab_inb r)).toLoadRect (harg2.unread x1))
      (View.readAt (Elt F) arg4.view (Rect.unit (s := S4096x16) ![0, 0] S4096x16.size inb_S4096x16_S4096x16_0_0).toLoadRect (harg4.unread x3)))))) old = stepC i x1 x3 old := by
  rw [slabs_of_loads, load_all arg4 harg4 x3]; rfl

/-- Loading the whole tables. -/
theorem load_tables (arg6 : Memref sig .tc .vmem S72x64 .f32) (harg6 : arg6.IsWhole) (xs0 : Vec F S72x64 .f32) :
    View.readAt (Elt F) arg6.view (Rect.unit (s := S72x64) ![0, 0] S72x64.size inb_S72x64_S72x64_0_0).toLoadRect (harg6.unread xs0) = xs0 :=
  load_all arg6 harg6 xs0 _ _

set_option maxHeartbeats 1600000 in
/-- The body at a later histogram point: the layer is added to the tables. -/
theorem kernelRunB (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
    (hc0 : ¬atInit (grid0.coords t)) (hc1 : atHist (grid0.coords t)) (hc2 : ¬atApply (grid0.coords t)) (hc3 : ¬atNorm (grid0.coords t))
    (x0 : Vec F S64x4 .f32) (x1 : Vec F S16x1x4096 .f32) (x2 : Vec F S16x4096 .f32) (x3 : Vec F S4096x16 .f32) (xs0 : Vec F S72x64 .f32) (xs1 : Vec F S64x4096 .f32) (xs2 : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare (stepC (grid0.coords t) x1 x3 xs0) ∗ owns (c : Thread nD τ) arg7 fullShare xs1 ∗ owns (c : Thread nD τ) arg8 fullShare xs2) -∗ K ⟨⟩))
      ⊢ wp frame (wpE (defs₀ (F := F)) Variants.none c none) E (cc0__fused_kernel (grid0.coords t) arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg6.eq_unread hfs0; obtain rfl := harg7.eq_unread hfs1; obtain rfl := harg8.eq_unread hfs2
  sl_exec (disch := first | sl_exact hc0 | sl_exact hc1 | sl_exact hc2 | sl_exact hc3)
  sl_step
  iapply Hk
  isplitl [H0]; · iexists _; isplitr; swap; iexact H0; ipureintro; exact harg1.read_unread _
  isplitl [H1]; · iexists _; isplitr; swap; iexact H1; ipureintro; exact harg2.read_unread _
  isplitl [H2]; · iexists _; isplitr; swap; iexact H2; ipureintro; exact harg3.read_unread _
  isplitl [H3]; · iexists _; isplitr; swap; iexact H3; ipureintro; exact harg4.read_unread _
  isplitl [H4]; · iexists _, _; isplitr; swap; iexact H4; ipureintro; rfl
  isplitl [HS0]
  · iexists _; isplitr; swap; iexact HS0; ipureintro
    refine (View.read_writes_full arg6.view _ inb_S72x64_S72x64_0_0 _ _).trans ?_
    refine (congrArg (fun z => k0_pay2 (grid0.coords t) _ _ _ _ z) (load_tables arg6 harg6 xs0)).trans ?_
    rw [← stepC_of_loads (grid0.coords t) arg2 harg2 arg4 harg4]
    rfl
  isplitl [HS1]; · iexists _; isplitr; swap; iexact HS1; ipureintro; exact harg7.read_unread _
  iexists _; isplitr; swap; iexact HS2; ipureintro; exact harg8.read_unread _

set_option maxHeartbeats 1600000 in
/-- The body at the first point: the scratch is cleared and the first layer added. -/
theorem kernelRunA (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
    (hc0 : atInit (grid0.coords t)) (hc1 : atHist (grid0.coords t)) (hc2 : ¬atApply (grid0.coords t)) (hc3 : ¬atNorm (grid0.coords t))
    (x0 : Vec F S64x4 .f32) (x1 : Vec F S16x1x4096 .f32) (x2 : Vec F S16x4096 .f32) (x3 : Vec F S4096x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare (stepC (grid0.coords t) x1 x3 noTables) ∗ (∃ d, owns (c : Thread nD τ) arg7 fullShare d) ∗ owns (c : Thread nD τ) arg8 fullShare noRows) -∗ K ⟨⟩))
      ⊢ wp frame (wpE (defs₀ (F := F)) Variants.none c none) E (cc0__fused_kernel (grid0.coords t) arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  iapply Hk
  isplitl [H0]; · iexists _; isplitr; swap; iexact H0; ipureintro; exact harg1.read_unread _
  isplitl [H1]; · iexists _; isplitr; swap; iexact H1; ipureintro; exact harg2.read_unread _
  isplitl [H2]; · iexists _; isplitr; swap; iexact H2; ipureintro; exact harg3.read_unread _
  isplitl [H3]; · iexists _; isplitr; swap; iexact H3; ipureintro; exact harg4.read_unread _
  isplitl [H4]; · iexists _, _; isplitr; swap; iexact H4; ipureintro; rfl
  isplitl [HS0]
  · iexists _; isplitr; swap; iexact HS0; ipureintro
    refine (View.read_writes_full arg6.view _ inb_S72x64_S72x64_0_0 _ _).trans ?_
    rw [← stepC_of_loads (grid0.coords t) arg2 harg2 arg4 harg4]
    have e : kernelRunA.sl.v256 (F := F) c arg6 = noTables := by
      delta kernelRunA.sl.v256
      refine (View.readCov_full (Val := Elt F) arg6.view inb_S72x64_S72x64_0_0 inb_S72x64_S72x64_0_0 _ _).trans ?_
      exact funext fun i => congrArg (noTables (F := F)) (Shape.reshapeEquiv_self _ i)
    refine (congrArg (fun z => k0_pay2 (grid0.coords t) _ _ _ _ z) e).trans ?_
    rfl
  isplitl [HS1]; · iexists _, _; isplitr; swap; iexact HS1; ipureintro; rfl
  · iexists _; isplitr; swap; iexact HS2; ipureintro
    funext y
    unfold noRows
    have hy : (y 0).val < 2 := (y 0).isLt
    rw [View.read_writes_cons_cell]
    by_cases h1 : (y 0).val = 1
    · rw [if_pos (show (y 0).val = (![1] : Fin 1 → ℕ) 0 from h1), if_neg (by omega)]
    · rw [if_neg (show ¬ (y 0).val = (![1] : Fin 1 → ℕ) 0 from h1), if_pos (by omega)]
      refine (View.read_writes_cons_cell (d := ![2]) arg8.view _ inb_S2_S1_0 _ _ y).trans ?_
      rw [if_pos (show (y 0).val = (![0] : Fin 1 → ℕ) 0 by change (y 0).val = 0; omega)]

end Cert.KernelIdeal.Body

end
-- ==== Proof.KI.RunD.lean ====
/- The body at the last point: the rows normalised into the result. -/
module

public import proofs.«01_k».proof.Proof.KI.RunH
public import Idealize.ShloMosaic.Lib.WritesUnit
public import Idealize.ShloMosaic.Lib.CellWrites
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

/-- Loading all the rows. -/
theorem load_rows (arg7 : Memref sig .tc .vmem S64x4096 .f32) (harg7 : arg7.IsWhole) (xs1 : Vec F S64x4096 .f32) (off : Fin 2 → ℕ)
    (inb : ∀ a, off a + S64x4096.size a ≤ S64x4096.size a) (_h : off = ![0, 0]) :
    View.readAt (Elt F) arg7.view (Rect.unit (s := S64x4096) off S64x4096.size inb).toLoadRect (harg7.unread xs1) = xs1 :=
  load_all arg7 harg7 xs1 _ _

set_option maxHeartbeats 1600000 in
/-- The body at the last point: the rows normalised into the result. -/
theorem kernelRunD (c : Dev nD) (t : Fin cfg0.N) (arg1 : Memref sig .tc .smem S64x4 .f32) (harg1 : arg1.IsWhole) (arg2 : Memref sig .tc .vmem S16x1x4096 .f32) (harg2 : arg2.IsWhole) (arg3 : Memref sig .tc .vmem S16x4096 .f32) (harg3 : arg3.IsWhole) (arg4 : Memref sig .tc .vmem S4096x16 .f32) (harg4 : arg4.IsWhole) (arg5 : Memref sig .tc .vmem S64x1x4096 .f32) (harg5 : arg5.IsWhole) (arg6 : Memref sig .tc .vmem S72x64 .f32) (harg6 : arg6.IsWhole) (arg7 : Memref sig .tc .vmem S64x4096 .f32) (harg7 : arg7.IsWhole) (arg8 : Memref sig .tc .smem S2 .f32) (harg8 : arg8.IsWhole)
    (hc0 : ¬atInit (grid0.coords t)) (hc1 : ¬atHist (grid0.coords t)) (hc2 : ¬atApply (grid0.coords t)) (hc3 : atNorm (grid0.coords t))
    (x0 : Vec F S64x4 .f32) (x1 : Vec F S16x1x4096 .f32) (x2 : Vec F S16x4096 .f32) (x3 : Vec F S4096x16 .f32) (xs0 : Vec F S72x64 .f32) (xs1 : Vec F S64x4096 .f32) (xs2 : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (normed xs1 xs2) ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc0__fused_kernel (grid0.coords t) arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg6.eq_unread hfs0; obtain rfl := harg7.eq_unread hfs1; obtain rfl := harg8.eq_unread hfs2
  sl_exec (disch := first | sl_exact hc0 | sl_exact hc1 | sl_exact hc2 | sl_exact hc3)
  sl_step
  iapply Hk
  isplitl [H0]; · iexists _; isplitr; swap; iexact H0; ipureintro; exact harg1.read_unread _
  isplitl [H1]; · iexists _; isplitr; swap; iexact H1; ipureintro; exact harg2.read_unread _
  isplitl [H2]; · iexists _; isplitr; swap; iexact H2; ipureintro; exact harg3.read_unread _
  isplitl [H3]; · iexists _; isplitr; swap; iexact H3; ipureintro; exact harg4.read_unread _
  isplitl [H4]
  · iexists _; isplitr; swap; iexact H4; ipureintro
    refine (View.read_writes_full arg5.view _ inb_S64x1x4096_S64x1x4096_0_0_0 _ _).trans ?_
    refine (congrArg (fun z => k0_pay4 _ _ z) (load_rows arg7 harg7 xs1 _ _ (off6_eq t hc3))).trans ?_
    unfold normed
    rw [← load_cell arg8 harg8 xs2 0 _ inb_S2_S1_0 rfl (Shape.Idx.first (s := S1) (by decide)), ← load_cell arg8 harg8 xs2 1 _ inb_S2_S1_1 rfl (Shape.Idx.first (s := S1) (by decide))]
    rfl
  isplitl [HS0]; · iexists _; isplitr; swap; iexact HS0; ipureintro; exact harg6.read_unread _
  isplitl [HS1]; · iexists _; isplitr; swap; iexact HS1; ipureintro; exact harg7.read_unread _
  iexists _; isplitr; swap; iexact HS2; ipureintro; exact harg8.read_unread _

end Cert.KernelIdeal.Body

end
-- ==== Proof.KI.Body.lean ====
/- The body at every grid point: what the scratch holds point by point, and what the last point leaves in the result. -/
module

public import proofs.«01_k».proof.Proof.KI.RunD
public import Idealize.ShloMosaic.Lib.Pipeline.DatRel
public import Idealize.ShloMosaic.Lib.Pipeline.ArrRel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch holds before each point -/

/-- The tables before point `n`. -/
def tablesAt (c : Dev nD) : ℕ → Vec F S72x64 .f32
  | 0 => noTables
  | n + 1 => if h : n < 4 then stepC (grid0.coords ⟨n, Nat.lt_of_lt_of_le h (by decide)⟩) (iblk m c 1 ⟨n, Nat.lt_of_lt_of_le h (by decide)⟩) (iblk m c 3 ⟨n, Nat.lt_of_lt_of_le h (by decide)⟩) (tablesAt c n) else tablesAt c n

/-- The rows before point `n`, of what the buffer held at first. -/
def rowsAt (c : Dev nD) (u : Vec F S64x4096 .f32) : ℕ → Vec F S64x4096 .f32
  | 0 => u
  | n + 1 => if h : 4 ≤ n ∧ n ≤ 7 then stepU ((grid0.coords (⟨n, Nat.lt_of_le_of_lt h.2 (by decide)⟩ : Fin cfg0.N) 0).val - 4) (iblk m c 0 ⟨n, Nat.lt_of_le_of_lt h.2 (by decide)⟩) (iblk m c 1 ⟨n, Nat.lt_of_le_of_lt h.2 (by decide)⟩) (iblk m c 2 ⟨n, Nat.lt_of_le_of_lt h.2 (by decide)⟩) (tablesAt m c n) (rowsAt c u n) else rowsAt c u n

/-- The least and greatest value before point `n`. -/
def boundsAt (c : Dev nD) : ℕ → Vec F S2 .f32
  | 0 => noRows
  | n + 1 => if h : 4 ≤ n ∧ n ≤ 7 then stepM ((grid0.coords (⟨n, Nat.lt_of_le_of_lt h.2 (by decide)⟩ : Fin cfg0.N) 0).val - 4) (iblk m c 0 ⟨n, Nat.lt_of_le_of_lt h.2 (by decide)⟩) (iblk m c 1 ⟨n, Nat.lt_of_le_of_lt h.2 (by decide)⟩) (iblk m c 2 ⟨n, Nat.lt_of_le_of_lt h.2 (by decide)⟩) (tablesAt m c n) (boundsAt c n) else boundsAt c n

theorem tablesAt_hist (c : Dev nD) (t : Fin cfg0.N) (h : t.val < 4) :
    tablesAt m c (t.val + 1) = stepC (grid0.coords t) (iblk m c 1 t) (iblk m c 3 t) (tablesAt m c t.val) := dif_pos h
theorem tablesAt_stay (c : Dev nD) (n : ℕ) (h : ¬ n < 4) : tablesAt m c (n + 1) = tablesAt m c n := dif_neg h
theorem rowsAt_apply (c : Dev nD) (u : Vec F S64x4096 .f32) (t : Fin cfg0.N) (h : 4 ≤ t.val ∧ t.val ≤ 7) :
    rowsAt m c u (t.val + 1) = stepU ((grid0.coords t 0).val - 4) (iblk m c 0 t) (iblk m c 1 t) (iblk m c 2 t) (tablesAt m c t.val) (rowsAt m c u t.val) := dif_pos h
theorem rowsAt_stay (c : Dev nD) (u : Vec F S64x4096 .f32) (n : ℕ) (h : ¬ (4 ≤ n ∧ n ≤ 7)) : rowsAt m c u (n + 1) = rowsAt m c u n := dif_neg h
theorem boundsAt_apply (c : Dev nD) (t : Fin cfg0.N) (h : 4 ≤ t.val ∧ t.val ≤ 7) :
    boundsAt m c (t.val + 1) = stepM ((grid0.coords t 0).val - 4) (iblk m c 0 t) (iblk m c 1 t) (iblk m c 2 t) (tablesAt m c t.val) (boundsAt m c t.val) := dif_pos h
theorem boundsAt_stay (c : Dev nD) (n : ℕ) (h : ¬ (4 ≤ n ∧ n ≤ 7)) : boundsAt m c (n + 1) = boundsAt m c n := dif_neg h

/-- The scratch at a point after the first. -/
def held (c : Dev nD) (n : ℕ) : sProp 𝕄 :=
  iprop((owns (c : Thread nD τ) scC fullShare (tablesAt m c n) ∗ (∃ u, owns (c : Thread nD τ) scU fullShare (rowsAt m c u n)) ∗ owns (c : Thread nD τ) scM fullShare (boundsAt m c n)) ∗ (∃ r, prngReg c r))

/-- The invariant before point `n`: nothing known of the scratch before the first. -/
def PhiS (c : Dev nD) (n : ℕ) : sProp 𝕄 := if n = 0 then Pipeline.ΦA spec0 c else held m c n

theorem PhiS_zero (c : Dev nD) : PhiS m c 0 = Pipeline.ΦA spec0 c := if_pos rfl
theorem PhiS_pos (c : Dev nD) (n : ℕ) (h : n ≠ 0) : PhiS m c n = held m c n := if_neg h

/-! ## The pipeline's proof data -/

/-- The result's window, of which only what the last point leaves is named. -/
def marked : Fin 5 → Bool := fun w => w.val == 4

/-- What the last point leaves in the result's window: the rows normalised. -/
def Result (c : Dev nD) (X : Vec F S64x1x4096 .f32) : Prop := ∃ u : Vec F S64x4096 .f32, X = normed (rowsAt m c u 8) (boundsAt m c 8)

/-- Of a marked window, what is left at the last point. -/
def Rl (c : Dev nD) (w : Fin cfg0.W) (t : Fin cfg0.N) (X : (cfg0.win w).block.Idx → Elt F (cfg0.win w).elt) : Prop :=
  match w, X with
  | ⟨4, _⟩, X => t.val = 8 → Result m c X
  | _, _ => True

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- The body's inputs, handed over and taken back. -/
abbrev inputs (c : Dev nD) (t : Fin cfg0.N) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t))

/-- What the body leaves in the result's window. -/
abbrev outLeft (c : Dev nD) (t : Fin cfg0.N) : sProp 𝕄 := iprop(∃ X, ⌜Rl m c 4 t X⌝ ∗ owns (c : Thread nD τ) (ms0_4 t) fullShare X)

/-- Before the last point nothing is said of the result's window. -/
theorem outLeft_of (c : Dev nD) (t : Fin cfg0.N) (h : t.val ≠ 8) : iprop(∃ d, owns (c : Thread nD τ) (ms0_4 t) fullShare d) ⊢ outLeft m c t := by
  iintro ⟨%d, H⟩
  iexists d; isplitr
  · ipureintro; exact fun e => absurd e h
  · iexact H

/-- At every point the body takes the invariant on and leaves the inputs as they were. -/
theorem sound (c : Dev nD) (t : Fin cfg0.N) (R : sProp 𝕄) :
    iprop(R ∗ PhiS m c t.val ∗ inputs m c t ∗ (∃ d, owns (c : Thread nD τ) (ms0_4 t) fullShare d))
      ⊢ wp frame (wpE (defs₀ (F := F)) Variants.none c none) Set.univ (bodyAt0 t) (fun _ => iprop(R ∗ held m c (t.val + 1) ∗ inputs m c t ∗ outLeft m c t)) := by
  have hN : t.val < 9 := lt_of_lt_of_eq t.isLt (show cfg0.N = 9 from N_0)
  unfold bodyAt0 inputs held
  by_cases h0 : t.val = 0
  · rw [h0, PhiS_zero, PhiA0_eq, ← h0]
    iintro ⟨HR, ⟨⟨HS0, HS1, HS2⟩, Hg⟩, ⟨H0, H1, H2, H3⟩, H4⟩
    iapply (kernelRunA c t _ _ _ _ _ _ _ _ _ _ _ _ _ _ _ _ ((atInit_iff t).mpr h0) ((atHist_iff t).mpr (by omega)) (fun h => by have := (atApply_iff t).mp h; omega) (fun h => by have := (atNorm_iff t).mp h; omega) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, ⟨%u, HS1⟩, HS2⟩
    isplitl [HR]; · iexact HR
    isplitl [HS0 HS1 HS2 Hg]
    · rw [tablesAt_hist m c t (by omega), boundsAt_stay m c t.val (by omega), h0]
      isplitl [HS0 HS1 HS2]
      · isplitl [HS0]; · iexact HS0
        isplitl [HS1]; · iexists u; iexact HS1
        iexact HS2
      iexact Hg
    isplitl [H0 H1 H2 H3]
    · isplitl [H0]; · iexact H0
      isplitl [H1]; · iexact H1
      isplitl [H2]; · iexact H2
      iexact H3
    iapply (outLeft_of m c t (by omega)); iexact H4
  rw [PhiS_pos m c _ h0]; unfold held
  by_cases h1 : t.val < 4
  · iintro ⟨HR, ⟨⟨HS0, ⟨%u, HS1⟩, HS2⟩, Hg⟩, ⟨H0, H1, H2, H3⟩, H4⟩
    iapply (kernelRunB c t _ _ _ _ _ _ _ _ _ _ _ _ _ _ _ _ (fun h => h0 ((atInit_iff t).mp h)) ((atHist_iff t).mpr h1) (fun h => by have := (atApply_iff t).mp h; omega) (fun h => by have := (atNorm_iff t).mp h; omega) (iblk m c 0 t) (iblk m c 1 t) (iblk m c 2 t) (iblk m c 3 t) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HR]; · iexact HR
    isplitl [HS0 HS1 HS2 Hg]
    · rw [tablesAt_hist m c t h1, boundsAt_stay m c t.val (by omega)]
      isplitl [HS0 HS1 HS2]
      · isplitl [HS0]; · iexact HS0
        isplitl [HS1]; · iexists u; rw [rowsAt_stay m c u t.val (by omega)]; iexact HS1
        iexact HS2
      iexact Hg
    isplitl [H0 H1 H2 H3]
    · isplitl [H0]; · iexact H0
      isplitl [H1]; · iexact H1
      isplitl [H2]; · iexact H2
      iexact H3
    iapply (outLeft_of m c t (by omega)); iexact H4
  by_cases h2 : t.val = 8
  · iintro ⟨HR, ⟨⟨HS0, ⟨%u, HS1⟩, HS2⟩, Hg⟩, ⟨H0, H1, H2, H3⟩, H4⟩
    iapply (kernelRunD c t _ _ _ _ _ _ _ _ _ _ _ _ _ _ _ _ (fun h => h0 ((atInit_iff t).mp h)) (fun h => h1 ((atHist_iff t).mp h)) (fun h => by have := (atApply_iff t).mp h; omega) ((atNorm_iff t).mpr h2) (iblk m c 0 t) (iblk m c 1 t) (iblk m c 2 t) (iblk m c 3 t) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HR]; · iexact HR
    isplitl [HS0 HS1 HS2 Hg]
    · rw [tablesAt_stay m c t.val h1, boundsAt_stay m c t.val (by omega)]
      isplitl [HS0 HS1 HS2]
      · isplitl [HS0]; · iexact HS0
        isplitl [HS1]; · iexists u; rw [rowsAt_stay m c u t.val (by omega)]; iexact HS1
        iexact HS2
      iexact Hg
    isplitl [H0 H1 H2 H3]
    · isplitl [H0]; · iexact H0
      isplitl [H1]; · iexact H1
      isplitl [H2]; · iexact H2
      iexact H3
    iexists _; isplitr; swap; · iexact H4
    ipureintro; exact fun _ => ⟨u, by rw [h2]⟩
  · have h3 : 4 ≤ t.val ∧ t.val ≤ 7 := by omega
    iintro ⟨HR, ⟨⟨HS0, ⟨%u, HS1⟩, HS2⟩, Hg⟩, ⟨H0, H1, H2, H3⟩, H4⟩
    iapply (kernelRunC c t _ _ _ _ _ _ _ _ _ _ _ _ _ _ _ _ (fun h => h0 ((atInit_iff t).mp h)) (fun h => h1 ((atHist_iff t).mp h)) ((atApply_iff t).mpr h3) (fun h => h2 ((atNorm_iff t).mp h)) (iblk m c 0 t) (iblk m c 1 t) (iblk m c 2 t) (iblk m c 3 t) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HR]; · iexact HR
    isplitl [HS0 HS1 HS2 Hg]
    · rw [tablesAt_stay m c t.val h1, boundsAt_apply m c t h3]
      isplitl [HS0 HS1 HS2]
      · isplitl [HS0]; · iexact HS0
        isplitl [HS1]; · iexists u; rw [rowsAt_apply m c u t h3]; iexact HS1
        iexact HS2
      iexact Hg
    isplitl [H0 H1 H2 H3]
    · isplitl [H0]; · iexact H0
      isplitl [H1]; · iexact H1
      isplitl [H2]; · iexact H2
      iexact H3
    iapply (outLeft_of m c t (by omega)); iexact H4

/-! ## The body obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜((dats m 0 c).toRRel marked (Rl m c)).Finds 4 t Y⌝ ∗ owns (c : Thread nD τ) (ms0_4 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ outLeft m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl,
    show (dats m 0 c).Φ t.succ = held m c (t.val + 1) from (show _ = PhiS m c (t.val + 1) from rfl).trans (PhiS_pos m c _ (Nat.succ_ne_zero _)),
    show (dats m 0 c).Φ t.castSucc = PhiS m c t.val from rfl]
  rw [show (dats m 0 c).leavesExact 0 t = owns (c : Thread nD τ) (ms0_0 t) fullShare (iblk m c 0 t) from by
    unfold Dat.leavesExact; rw [show cfg0.idle 0 (cfg0.grid.coords t) = false from rfl, after0_0]]
  rw [show (dats m 0 c).leavesExact 1 t = owns (c : Thread nD τ) (ms0_1 t) fullShare (iblk m c 1 t) from by
    unfold Dat.leavesExact; rw [show cfg0.idle 1 (cfg0.grid.coords t) = false from rfl, after0_1]]
  rw [show (dats m 0 c).leavesExact 2 t = owns (c : Thread nD τ) (ms0_2 t) fullShare (iblk m c 2 t) from by
    unfold Dat.leavesExact; rw [show cfg0.idle 2 (cfg0.grid.coords t) = false from rfl, after0_2]]
  rw [show (dats m 0 c).leavesExact 3 t = owns (c : Thread nD τ) (ms0_3 t) fullShare (iblk m c 3 t) from by
    unfold Dat.leavesExact; rw [show cfg0.idle 3 (cfg0.grid.coords t) = false from rfl, after0_3]]
  refine BIBase.Entails.trans ?_ ((sound m c t ((dats m 0 c).owesAt () t.castSucc)).trans (wp_mono _ _ _ fun _ => ?_))
  · iintro ⟨HP, Ho, ⟨%d0, H0⟩, ⟨%d1, H1⟩, ⟨%d2, H2⟩, ⟨%d3, H3⟩, ⟨%Y, -, H4⟩⟩
    isplitl [Ho]; · iexact Ho
    isplitl [HP]; · iexact HP
    isplitl [H0 H1 H2 H3]
    · isplitl [H0]; · iexact H0
      isplitl [H1]; · iexact H1
      isplitl [H2]; · iexact H2
      iexact H3
    iexists Y; iexact H4
  · iintro ⟨Ho, HP, ⟨H0, H1, H2, H3⟩, H4⟩
    isplitl [HP]; · iexact HP
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by decide), PhiA0_eq]
  unfold held
  iintro ⟨⟨HS0, ⟨%u, HS1⟩, HS2⟩, Hg⟩
  isplitl [HS0 HS1 HS2]
  · isplitl [HS0]; · iexists _; iexact HS0
    isplitl [HS1]; · iexists _; iexact HS1
    iexists _; iexact HS2
  iexact Hg

/-! ## The run -/

/-- The launch at any proof data of this kind, of which some windows are held to a predicate. -/
theorem run_rel (fgt : Fin cfg0.W → Bool) (R : Dev nD → (w : Fin cfg0.W) → Fin cfg0.N → ((cfg0.win w).block.Idx → Elt F (cfg0.win w).elt) → Prop)
    (D : (p : Fin 1) → (c : Dev nD) → Dat τ (Elt F) Unit ℕ (UR sig nD τ) ℕ (cfgs p) c)
    (hbody : ∀ c, Pipeline.BodyObligationRel (D 0 c) (defs₀ (F := F)) Variants.none () Set.univ fgt (R c))
    (hshare : ∀ c w, (D 0 c).share w = fullShare) (howed : ∀ c t, (D 0 c).owed t = 0)
    (hA : ∀ c w, (D 0 c).A w = V m c (Pipeline.arrRef spec0 w))
    (hin : ∀ c, Pipeline.ΦA spec0 c ⊢ (D 0 c).Φ 0) (hout : ∀ c, (D 0 c).Φ (Fin.last cfg0.N) ⊢ Pipeline.ΦA spec0 c) :
    θ_run defs (onTc (τ := τ) (main (F := F))) (s₀ m ρ) (fun r => (Pipeline.RDat.FramePost (cfgs 0) (fun c => (D 0 c).toRRel fgt (R c)) (V m)) r ∧ r.2.sem = fun _ => 0) :=
  Pipeline.RDat.θ_run_frame_track (Q' := _) cfgs (0 : Fin 1) launch0 defs₀ Variants.none (fun c => (D 0 c).toRRel fgt (R c)) m ρ main
    (fun c => (hbody c).toRRel) hshare howed (V m) (hmain m Variants.none) hA hin hout

set_option backward.isDefEq.respectTransparency.types false in
theorem run_main : θ_run defs (onTc (τ := τ) (main (F := F))) (s₀ m ρ)
    (fun r => (Pipeline.RDat.FramePost (cfgs 0) (fun c => (dats m 0 c).toRRel marked (Rl m c)) (V m)) r ∧ r.2.sem = fun _ => 0) :=
  run_rel m ρ marked (Rl m) (dats m) (obligation m) (fun c => (dats m 0 c).share_full fun _ => rfl) (fun _ _ => rfl) (A_eq m) (hin m) (hout m)

/-- The argument ends unchanged, the counters at zero, and the result's array holds the rows normalised. -/
theorem final : θ_run defs (onTc (τ := τ) (main (F := F))) ⟨m, fun _ => 0, ρ⟩ (fun r =>
    (∀ c : Dev nD, (∃ X, Result m c X ∧ r.2.mem ((c.tc : Thread nD τ).loc main_v84) = X) ∧ r.2.mem ((c.tc : Thread nD τ).loc main_arg0) = m ((c.tc : Thread nD τ).loc main_arg0)) ∧ r.2.sem = fun _ => 0) := by
  refine (θ_run defs _ _).mono (fun r h => ⟨fun c => ⟨?_, ?_⟩, h.2⟩) (run_main m ρ)
  · obtain ⟨X, hL, hX⟩ := ((h.1 c).1 4).emb_eq_of_wholeAt (t₀ := (⟨8, by decide⟩ : Fin cfg0.N)) (by decide +kernel)
    have hR : Rl m c 4 ⟨8, by decide⟩ X := Pipeline.Dat.toRRel_leaves (dats m 0 c) (fgt := marked) (Rl := Rl m c) rfl hL
    exact ⟨X, hR rfl, funext fun j => hX j⟩
  · exact ((h.1 c).2 main_arg0 (Pipeline.mem_restRefs_of main_arg0 (by decide) (by decide))).trans (V_main_arg0 m c)

end Cert.KernelIdeal.Body

end
-- ==== Proof.R.Base.lean ====
/- What is asked of a stretch of the reference's operations, and how two stretches join. -/
module

public import proofs.«01_k».proof.Defs
public import proofs.«01_k».proof.Proof.Gen.ReferenceIdeal
public import Idealize.ShloMosaic.Lib.Claim
public import Idealize.ShloMosaic.Lib.StableHlo.RunRead

@[expose] public section

noncomputable section

namespace Cert.ReferenceIdeal.Body

open Idealize.ShloMosaic Idealize.SL.Sem Cert.ReferenceIdeal Idealize.ShloMosaic.StableHlo

variable {F : FTy → Type} [FloatOps F]

instance : Cert.ReferenceIdeal.Facts := Cert.ReferenceIdeal.Gen.facts

/-- A host program of the reference. -/
abbrev Prg (F : FTy → Type) [FloatOps F] := Prog (TpuEff nD τ sig (Elt F) (Pipeline.Sig Λ₀ (Fin 0) fun p => (pcfgs (F := F) p).Adm) .tc) PUnit

/-- A line that ends with an operation. -/
theorem isSeq_last {op : HloOp τ sig (Elt F)} :
    IsSeq (nD := nD) (hlo rfl op fun _ => .ret (⟨⟩ : PUnit) : Prg F) [op] := rfl

/-- Two lines, one after the other. -/
theorem isSeq_append {p q : Prg F} {l l' : List (HloOp τ sig (Elt F))} (h : IsSeq (nD := nD) p l) (h' : IsSeq (nD := nD) q l') :
    IsSeq (nD := nD) (p >>= fun _ => q) (l ++ l') := by
  unfold IsSeq at h h' ⊢
  rw [h, h', seq_append]

/-- What is asked of one stretch of the reference's operations. -/
structure Good (ops : List (HloOp τ sig (Elt F))) : Prop where
  bufs : ops.Forall fun op => op.bufs ⊆ tcRefs τ sig
  fresh : ∀ op ∈ ops, op.fresh = ∅
  arg : ∀ V : Valuation τ sig (Elt F), after ops V (Proc.devRef .tc main_arg0) = V (Proc.devRef .tc main_arg0)

theorem after_app (l l' : List (HloOp τ sig (Elt F))) (V : Valuation τ sig (Elt F)) :
    after (l ++ l') V = after l' (after l V) := by
  induction l generalizing V with
  | nil => rfl
  | cons op l ih => exact ih _

theorem Good.append {l l' : List (HloOp τ sig (Elt F))} (h : Good l) (h' : Good l') : Good (l ++ l') where
  bufs := List.forall_iff_forall_mem.mpr fun op ho => by
    rcases List.mem_append.mp ho with h1 | h1
    · exact List.forall_iff_forall_mem.mp h.bufs op h1
    · exact List.forall_iff_forall_mem.mp h'.bufs op h1
  fresh := fun op ho => by
    rcases List.mem_append.mp ho with h1 | h1
    · exact h.fresh op h1
    · exact h'.fresh op h1
  arg := fun V => by rw [after_app, h'.arg, h.arg]

end Cert.ReferenceIdeal.Body

end
-- ==== Proof.R.Pure.lean ====
/- The reference's stages as functions of arrays. -/
module

public import proofs.«01_k».proof.Proof.R.Base

@[expose] public section

noncomputable section

namespace Cert.ReferenceIdeal.Body

open Idealize.ShloMosaic Cert.ReferenceIdeal Cert.ReferenceIdeal.Facts₀ Cert.ReferenceIdeal.Facts

variable {F : FTy → Type} [FloatOps F]

/-- Two pieces of an evenly spaced line, its last point apart. -/
def cat64 (a : FVec F S63 .f32) (b : FVec F S1 .f32) : FVec F S64 .f32 := concatenate S64 0 [⟨S63, a⟩, ⟨S1, b⟩] concatenates_S63_S1_S64_d0
/-- Three coordinates side by side. -/
def cat3 (a b c : FVec F S64x64x64x1 .f32) : FVec F S64x64x64x3 .f32 :=
  concatenate S64x64x64x3 3 [⟨S64x64x64x1, a⟩, ⟨S64x64x64x1, b⟩, ⟨S64x64x64x1, c⟩] concatenates_S64x64x64x1_S64x64x64x1_S64x64x64x1_S64x64x64x3_d3
/-- A coordinate and three more. -/
def cat4 (a : FVec F S64x64x64x1 .f32) (b : FVec F S64x64x64x3 .f32) : FVec F S64x64x64x4 .f32 :=
  concatenate S64x64x64x4 3 [⟨S64x64x64x1, a⟩, ⟨S64x64x64x3, b⟩] concatenates_S64x64x64x1_S64x64x64x3_S64x64x64x4_d3
/-- Four index arrays side by side. -/
def catI (a b c d : S262144x6x6x6x6x1.Idx → BitVec 32) : S262144x6x6x6x6x4.Idx → BitVec 32 :=
  concatenate S262144x6x6x6x6x4 5 [⟨S262144x6x6x6x6x1, a⟩, ⟨S262144x6x6x6x6x1, b⟩, ⟨S262144x6x6x6x6x1, c⟩, ⟨S262144x6x6x6x6x1, d⟩] concatenates_S262144x6x6x6x6x1_S262144x6x6x6x6x1_S262144x6x6x6x6x1_S262144x6x6x6x6x1_S262144x6x6x6x6x4_d5

theorem cat64_eq (a : FVec F S63 .f32) (b : FVec F S1 .f32) (h) : concatenate S64 0 [⟨S63, a⟩, ⟨S1, b⟩] h = cat64 a b := rfl
theorem cat4_eq (a : FVec F S64x64x64x1 .f32) (b : FVec F S64x64x64x3 .f32) (h) : concatenate S64x64x64x4 3 [⟨S64x64x64x1, a⟩, ⟨S64x64x64x3, b⟩] h = cat4 a b := rfl
/-- What the operation that puts three coordinates side by side writes. -/
theorem read_cat3 (W : Valuation τ sig (Elt F)) (hxs hy) :
    (StableHlo.nary (τ := τ) ![main_v62, main_v63, main_v64] main_v65 (fun u => (concatenate S64x64x64x3 3 [⟨S64x64x64x1, (u 0 : (⟨S64x64x64x1, .f32⟩ : BufTy).Contents (Elt F))⟩, ⟨S64x64x64x1, (u 1 : (⟨S64x64x64x1, .f32⟩ : BufTy).Contents (Elt F))⟩, ⟨S64x64x64x1, (u 2 : (⟨S64x64x64x1, .f32⟩ : BufTy).Contents (Elt F))⟩] concatenates_S64x64x64x1_S64x64x64x1_S64x64x64x1_S64x64x64x3_d3 : (⟨S64x64x64x3, .f32⟩ : BufTy).Contents (Elt F))) hxs hy).result W (no_index (Proc.devRef .tc main_v65))
      = cat3 (W (Proc.devRef .tc main_v62)) (W (Proc.devRef .tc main_v63)) (W (Proc.devRef .tc main_v64)) := by
  rw [StableHlo.nary_result]; rfl

/-- What the operation that puts four index arrays side by side writes. -/
theorem read_catI (W : Valuation τ sig (Elt F)) (hxs hy) :
    (StableHlo.nary (τ := τ) ![main_v174, main_v175, main_v176, main_v177] main_v178 (fun u => (concatenate S262144x6x6x6x6x4 5 [⟨S262144x6x6x6x6x1, (u 0 : (⟨S262144x6x6x6x6x1, .i32⟩ : BufTy).Contents (Elt F))⟩, ⟨S262144x6x6x6x6x1, (u 1 : (⟨S262144x6x6x6x6x1, .i32⟩ : BufTy).Contents (Elt F))⟩, ⟨S262144x6x6x6x6x1, (u 2 : (⟨S262144x6x6x6x6x1, .i32⟩ : BufTy).Contents (Elt F))⟩, ⟨S262144x6x6x6x6x1, (u 3 : (⟨S262144x6x6x6x6x1, .i32⟩ : BufTy).Contents (Elt F))⟩] concatenates_S262144x6x6x6x6x1_S262144x6x6x6x6x1_S262144x6x6x6x6x1_S262144x6x6x6x6x1_S262144x6x6x6x6x4_d5 : (⟨S262144x6x6x6x6x4, .i32⟩ : BufTy).Contents (Elt F))) hxs hy).result W (no_index (Proc.devRef .tc main_v178))
      = catI (W (Proc.devRef .tc main_v174)) (W (Proc.devRef .tc main_v175)) (W (Proc.devRef .tc main_v176)) (W (Proc.devRef .tc main_v177)) := by
  rw [StableHlo.nary_result]; rfl

/-- The fractions of the line. -/
def ramp : FVec F S63 .f32 := Host.divf (sitofp .f32 (iotaInDim S63 32 0)) (broadcastInDim S63 ![] bcast_S_S63 (constant S_ .f32 0x427C0000#32))
/-- Sixty-four evenly spaced points. -/
def line (a b : FVec F S_ .f32) : FVec F S64 .f32 :=
  cat64 (addf (mulf (broadcastInDim S63 ![0] bcast_S1_S63_0 (shapeCast S1 a shapeCasts_S_S1)) (subf (broadcastInDim S63 ![] bcast_S_S63 (constant S_ .f32 0x3F800000#32)) ramp))
    (mulf (broadcastInDim S63 ![0] bcast_S1_S63_0 (shapeCast S1 b shapeCasts_S_S1)) ramp)) (broadcastInDim S1 ![] bcast_S_S1 b)

/-- The tiles' voxels. -/
def tiles (x : FVec F S1x1x64x64x64 .f32) : FVec F S1x1x64x4096 .f32 :=
  shapeCast S1x1x64x4096 (transpose S1x1x4x4x4x16x16x16 [0, 1, 2, 4, 6, 3, 5, 7] (shapeCast S1x1x4x16x4x16x4x16 x shapeCasts_S1x1x64x64x64_S1x1x4x16x4x16x4x16) transposes_S1x1x4x16x4x16x4x16_S1x1x4x4x4x16x16x16_0_1_2_4_6_3_5_7) shapeCasts_S1x1x4x4x4x16x16x16_S1x1x64x4096

/-- A voxel's distance to a bin's centre, in bandwidths. -/
def gaps (x : FVec F S1x1x64x64x64 .f32) : FVec F S1x1x64x4096x64 .f32 :=
  Host.divf (subf (broadcastInDim S1x1x64x4096x64 ![0, 1, 2, 3, 4] bcast_S1x1x64x4096x1_S1x1x64x4096x64_0_1_2_3_4 (broadcastInDim S1x1x64x4096x1 ![0, 1, 2, 3] bcast_S1x1x64x4096_S1x1x64x4096x1_0_1_2_3 (tiles x)))
      (broadcastInDim S1x1x64x4096x64 ![0, 1, 2, 3, 4] bcast_S1x1x1x1x64_S1x1x64x4096x64_0_1_2_3_4 (broadcastInDim S1x1x1x1x64 ![4] bcast_S64_S1x1x1x1x64_4 (line (constant S_ .f32 0x00000000#32) (constant S_ .f32 0x3F800000#32)))))
    (broadcastInDim S1x1x64x4096x64 ![] bcast_S_S1x1x64x4096x64 (Host.divf (constant S_ .f32 0x3F800000#32) (constant S_ .f32 0x447A0000#32)))

/-- The mean weight of every bin in every tile. -/
def meanWeights (x : FVec F S1x1x64x64x64 .f32) : FVec F S1x1x64x64 .f32 :=
  Host.divf (Host.reduceAdd (Host.exp (mulf (broadcastInDim S1x1x64x4096x64 ![] bcast_S_S1x1x64x4096x64 (constant S_ .f32 0xBF000000#32)) (mulf (gaps x) (gaps x)))) (constant S_ .f32 0x00000000#32) reducesTo_S1x1x64x4096x64_S1x1x64x64_d3 h_S_)
    (broadcastInDim S1x1x64x64 ![] bcast_S_S1x1x64x64 (constant S_ .f32 0x45800000#32))

/-- The histograms, clipped. -/
def clipped (x : FVec F S1x1x64x64x64 .f32) : FVec F S64x64 .f32 :=
  minimumf (shapeCast S64x64 (mulf (Host.divf (meanWeights x) (broadcastInDim S1x1x64x64 ![0, 1, 2, 3] bcast_S1x1x64x1_S1x1x64x64_0_1_2_3
      (addf (broadcastInDim S1x1x64x1 ![0, 1, 2] bcast_S1x1x64_S1x1x64x1_0_1_2 (Host.reduceAdd (meanWeights x) (constant S_ .f32 0x00000000#32) reducesTo_S1x1x64x64_S1x1x64_d3 h_S_))
        (broadcastInDim S1x1x64x1 ![] bcast_S_S1x1x64x1 (constant S_ .f32 0x2EDBE6FF#32)))))
      (broadcastInDim S1x1x64x64 ![] bcast_S_S1x1x64x64 (constant S_ .f32 0x45800000#32))) shapeCasts_S1x1x64x64_S64x64)
    (broadcastInDim S64x64 ![] bcast_S_S64x64 (constant S_ .f32 0x43800000#32))

/-- What clipping took off. -/
def excess (h : FVec F S64x64 .f32) : FVec F S64 .f32 :=
  subf (broadcastInDim S64 ![] bcast_S_S64 (constant S_ .f32 0x45800000#32)) (Host.reduceAdd h (constant S_ .f32 0x00000000#32) reducesTo_S64x64_S64_d1 h_S_)

/-- The divisor of the remainder, everywhere. -/
def sixtyFour : FVec F S_ .f32 := sitofp .f32 (constantI S_ 32 64#32)
/-- The remainder that truncates. -/
def rem0 (a : FVec F S64 .f32) : FVec F S64 .f32 := Host.remf a (broadcastInDim S64 ![] bcast_S_S64 sixtyFour)
/-- The remainder of a division by 64, of the divisor's sign. -/
def residual (a : FVec F S64 .f32) : FVec F S64 .f32 :=
  select (andi (cmpi .ne (cmpf .olt (rem0 a) (broadcastInDim S64 ![] bcast_S_S64 (constant S_ .f32 0x00000000#32)))
      (broadcastInDim S64 ![] bcast_S_S64 (cmpf .olt (sixtyFour (F := F)) (constant S_ .f32 0x00000000#32))))
      (cmpf .une (rem0 a) (broadcastInDim S64 ![] bcast_S_S64 (constant S_ .f32 0x00000000#32))))
    (addf (rem0 a) (broadcastInDim S64 ![] bcast_S_S64 sixtyFour)) (rem0 a)

/-- The histograms with every bin's even share of the excess. -/
def shared (h : FVec F S64x64 .f32) : FVec F S64x64 .f32 :=
  addf h (broadcastInDim S64x64 ![0, 1] bcast_S64x1_S64x64_0_1 (broadcastInDim S64x1 ![0] bcast_S64_S64x1_0
    (Host.divf (subf (excess h) (residual (excess h))) (broadcastInDim S64 ![] bcast_S_S64 (constant S_ .f32 0x42800000#32)))))
/-- The bins' numbers along every row. -/
def binNos : FVec F S64x64 .f32 :=
  broadcastInDim S64x64 ![0, 1] bcast_S1x64_S64x64_0_1 (sitofp .f32 (broadcastInDim S1x64 ![1] bcast_S64_S1x64_1 (iotaInDim S64 32 0)))
/-- What is left over, as a column. -/
def leftCol (h : FVec F S64x64 .f32) : FVec F S64x1 .f32 := broadcastInDim S64x1 ![0] bcast_S64_S64x1_0 (residual (excess h))

/-- The running sums, scaled, as a volume of tables: of the shared histograms, the bins' numbers and what is left over. -/
def tables (s b : FVec F S64x64 .f32) (l : FVec F S64x1 .f32) : FVec F S64x4x4x4 .f32 :=
  shapeCast S64x4x4x4 (transpose S1x1x64x4x4x4 [0, 1, 5, 2, 3, 4] (shapeCast S1x1x4x4x4x64
    (Host.divf (mulf (Host.reduceWindowAdd ![1, 64] ![1, 1] ![0, 63] ![0, 0]
        (addf s (uitofp .f32 (cmpf .olt b (broadcastInDim S64x64 ![0, 1] bcast_S64x1_S64x64_0_1 l))))
        (broadcastInDim S_ ![] bcast_S_S_ (constant S_ .f32 0x00000000#32)) reduceWindows_S64x64_S64x64_w1s1p0_0_w64s1p63_0 h_S_)
      (broadcastInDim S64x64 ![] bcast_S_S64x64 (constant S_ .f32 0x427C0000#32))) (broadcastInDim S64x64 ![] bcast_S_S64x64 (constant S_ .f32 0x45800000#32)))
    shapeCasts_S64x64_S1x1x4x4x4x64) transposes_S1x1x4x4x4x64_S1x1x64x4x4x4_0_1_5_2_3_4) shapeCasts_S1x1x64x4x4x4_S64x4x4x4

/-- The grid's coordinates along an axis. -/
def axisLine : FVec F S64 .f32 := line (constant S_ .f32 0xBF100000#32) (constant S_ .f32 0x40640000#32)

/-- The points at which the volume of tables is read. -/
def points (x : FVec F S1x1x64x64x64 .f32) : FVec F S262144x4 .f32 :=
  shapeCast S262144x4 (cat4
    (mulf (broadcastInDim S64x64x64x1 ![0, 1, 2] bcast_S64x64x64_S64x64x64x1_0_1_2 (shapeCast S64x64x64 x shapeCasts_S1x1x64x64x64_S64x64x64))
      (broadcastInDim S64x64x64x1 ![] bcast_S_S64x64x64x1 (constant S_ .f32 0x427C0000#32)))
    (cat3 (broadcastInDim S64x64x64x1 ![0, 1, 2] bcast_S64x64x64_S64x64x64x1_0_1_2 (broadcastInDim S64x64x64 ![0] bcast_S64_S64x64x64_0 axisLine))
      (broadcastInDim S64x64x64x1 ![0, 1, 2] bcast_S64x64x64_S64x64x64x1_0_1_2 (broadcastInDim S64x64x64 ![1] bcast_S64_S64x64x64_1 axisLine))
      (broadcastInDim S64x64x64x1 ![0, 1, 2] bcast_S64x64x64_S64x64x64x1_0_1_2 (broadcastInDim S64x64x64 ![2] bcast_S64_S64x64x64_2 axisLine))))
    shapeCasts_S64x64x64x4_S262144x4

/-- The six grid points about a point, axis by axis. -/
def near (p : FVec F S262144x4 .f32) : FVec F S262144x4x6 .f32 :=
  addf (broadcastInDim S262144x4x6 ![0, 1, 2] bcast_S262144x4x1_S262144x4x6_0_1_2 (broadcastInDim S262144x4x1 ![0, 1] bcast_S262144x4_S262144x4x1_0_1 (Host.floor p)))
    (broadcastInDim S262144x4x6 ![0, 1, 2] bcast_S1x1x6_S262144x4x6_0_1_2 (sitofp .f32 (broadcastInDim S1x1x6 ![2] bcast_S6_S1x1x6_2
      (addi (broadcastInDim S6 ![] bcast_S_S6 (constantI S_ 32 4294967294#32)) (iotaInDim S6 32 0)))))

/-- The distances to them. -/
def dists (p : FVec F S262144x4 .f32) : FVec F S262144x4x6 .f32 :=
  Host.absf (subf (broadcastInDim S262144x4x6 ![0, 1, 2] bcast_S262144x4x1_S262144x4x6_0_1_2 (broadcastInDim S262144x4x1 ![0, 1] bcast_S262144x4_S262144x4x1_0_1 p)) (near p))

/-- `max (c - d) 0`. -/
def ramped (c : BitVec 32) (d : FVec F S262144x4x6 .f32) : FVec F S262144x4x6 .f32 :=
  maximumf (broadcastInDim S262144x4x6 ![] bcast_S_S262144x4x6 (constant S_ .f32 0x00000000#32)) (subf (broadcastInDim S262144x4x6 ![] bcast_S_S262144x4x6 (constant S_ .f32 c)) d)
/-- The fifth power. -/
def pow5 (v : FVec F S262144x4x6 .f32) : FVec F S262144x4x6 .f32 := mulf v (mulf (mulf v v) (mulf v v))

/-- The quintic spline's weights, of the distances and the first power. -/
def weights (d q : FVec F S262144x4x6 .f32) : FVec F S262144x4x6 .f32 :=
  Host.divf (addf (subf q (mulf (broadcastInDim S262144x4x6 ![] bcast_S_S262144x4x6 (constant S_ .f32 0x40C00000#32)) (pow5 (ramped 0x40000000#32 d))))
      (mulf (broadcastInDim S262144x4x6 ![] bcast_S_S262144x4x6 (constant S_ .f32 0x41700000#32)) (pow5 (ramped 0x3F800000#32 d))))
    (broadcastInDim S262144x4x6 ![] bcast_S_S262144x4x6 (constant S_ .f32 0x42F00000#32))

/-- The grid points as integers. -/
def nearI (n : FVec F S262144x4x6 .f32) : S262144x4x6.Idx → BitVec 32 := fptosi 32 n

/-- The divisor, one in place of zero. -/
def divisor (k : BitVec 32) : S_.Idx → BitVec 32 := select (cmpi .eq (constantI S_ 32 k) (constantI S_ 32 0#32)) (constantI S_ 32 1#32) (constantI S_ 32 k)
/-- The remainder that truncates. -/
def remI0 (k : BitVec 32) (a : S262144x6.Idx → BitVec 32) : S262144x6.Idx → BitVec 32 := Host.remsi a (broadcastInDim S262144x6 ![] bcast_S_S262144x6 (divisor k))
/-- The remainder of the divisor's sign. -/
def remI (k : BitVec 32) (a : S262144x6.Idx → BitVec 32) : S262144x6.Idx → BitVec 32 :=
  select (andi (cmpi .ne (cmpi .slt (remI0 k a) (broadcastInDim S262144x6 ![] bcast_S_S262144x6 (constantI S_ 32 0#32)))
      (broadcastInDim S262144x6 ![] bcast_S_S262144x6 (cmpi .slt (divisor k) (constantI S_ 32 0#32))))
      (cmpi .ne (remI0 k a) (broadcastInDim S262144x6 ![] bcast_S_S262144x6 (constantI S_ 32 0#32))))
    (addi (remI0 k a) (broadcastInDim S262144x6 ![] bcast_S_S262144x6 (divisor k))) (remI0 k a)

/-- Whether a remainder lies in the second half. -/
def beyond (n : BitVec 32) (r : S262144x6.Idx → BitVec 32) : S262144x6.Idx → BitVec 1 := cmpi .sge r (broadcastInDim S262144x6 ![] bcast_S_S262144x6 (constantI S_ 32 n))
/-- Its mirror image. -/
def mirror (l : BitVec 32) (r : S262144x6.Idx → BitVec 32) : S262144x6.Idx → BitVec 32 := subi (broadcastInDim S262144x6 ![] bcast_S_S262144x6 (constantI S_ 32 l)) r
/-- An index reflected at the edges of `n` cells: `k = 2 n`, `l = 2 n - 1`. -/
def foldI (k n l : BitVec 32) (a : S262144x6.Idx → BitVec 32) : S262144x6.Idx → BitVec 32 := select (beyond n (remI k a)) (mirror l (remI k a)) (remI k a)

/-- The indices of one axis. -/
def axis0 (n : S262144x4x6.Idx → BitVec 32) : S262144x6.Idx → BitVec 32 := shapeCast S262144x6 (extractStridedSlice S262144x1x6 ![0, 0, 0] n slices_S262144x4x6_S262144x1x6_0_0_0) shapeCasts_S262144x1x6_S262144x6
def axis1 (n : S262144x4x6.Idx → BitVec 32) : S262144x6.Idx → BitVec 32 := shapeCast S262144x6 (extractStridedSlice S262144x1x6 ![0, 1, 0] n slices_S262144x4x6_S262144x1x6_0_1_0) shapeCasts_S262144x1x6_S262144x6
def axis2 (n : S262144x4x6.Idx → BitVec 32) : S262144x6.Idx → BitVec 32 := shapeCast S262144x6 (extractStridedSlice S262144x1x6 ![0, 2, 0] n slices_S262144x4x6_S262144x1x6_0_2_0) shapeCasts_S262144x1x6_S262144x6
def axis3 (n : S262144x4x6.Idx → BitVec 32) : S262144x6.Idx → BitVec 32 := shapeCast S262144x6 (extractStridedSlice S262144x1x6 ![0, 3, 0] n slices_S262144x4x6_S262144x1x6_0_3_0) shapeCasts_S262144x1x6_S262144x6

/-- An index array with its negative entries wrapped. -/
def wrap0 (a : S262144x6.Idx → BitVec 32) : S262144x6x6x6x6x1.Idx → BitVec 32 :=
  broadcastInDim S262144x6x6x6x6x1 ![0, 1, 2, 3, 4] bcast_S262144x6x6x6x6_S262144x6x6x6x6x1_0_1_2_3_4 (broadcastInDim S262144x6x6x6x6 ![0, 1, 2, 3, 4] bcast_S262144x6x1x1x1_S262144x6x6x6x6_0_1_2_3_4
    (select (cmpi .slt (broadcastInDim S262144x6x1x1x1 ![0, 1] bcast_S262144x6_S262144x6x1x1x1_0_1 a) (broadcastInDim S262144x6x1x1x1 ![] bcast_S_S262144x6x1x1x1 (constantI S_ 32 0#32)))
      (addi (broadcastInDim S262144x6x1x1x1 ![0, 1] bcast_S262144x6_S262144x6x1x1x1_0_1 a) (broadcastInDim S262144x6x1x1x1 ![] bcast_S_S262144x6x1x1x1 (constantI S_ 32 64#32)))
      (broadcastInDim S262144x6x1x1x1 ![0, 1] bcast_S262144x6_S262144x6x1x1x1_0_1 a)))
def wrap1 (a : S262144x6.Idx → BitVec 32) : S262144x6x6x6x6x1.Idx → BitVec 32 :=
  broadcastInDim S262144x6x6x6x6x1 ![0, 1, 2, 3, 4] bcast_S262144x6x6x6x6_S262144x6x6x6x6x1_0_1_2_3_4 (broadcastInDim S262144x6x6x6x6 ![0, 1, 2, 3, 4] bcast_S262144x1x6x1x1_S262144x6x6x6x6_0_1_2_3_4
    (select (cmpi .slt (broadcastInDim S262144x1x6x1x1 ![0, 2] bcast_S262144x6_S262144x1x6x1x1_0_2 a) (broadcastInDim S262144x1x6x1x1 ![] bcast_S_S262144x1x6x1x1 (constantI S_ 32 0#32)))
      (addi (broadcastInDim S262144x1x6x1x1 ![0, 2] bcast_S262144x6_S262144x1x6x1x1_0_2 a) (broadcastInDim S262144x1x6x1x1 ![] bcast_S_S262144x1x6x1x1 (constantI S_ 32 4#32)))
      (broadcastInDim S262144x1x6x1x1 ![0, 2] bcast_S262144x6_S262144x1x6x1x1_0_2 a)))
def wrap2 (a : S262144x6.Idx → BitVec 32) : S262144x6x6x6x6x1.Idx → BitVec 32 :=
  broadcastInDim S262144x6x6x6x6x1 ![0, 1, 2, 3, 4] bcast_S262144x6x6x6x6_S262144x6x6x6x6x1_0_1_2_3_4 (broadcastInDim S262144x6x6x6x6 ![0, 1, 2, 3, 4] bcast_S262144x1x1x6x1_S262144x6x6x6x6_0_1_2_3_4
    (select (cmpi .slt (broadcastInDim S262144x1x1x6x1 ![0, 3] bcast_S262144x6_S262144x1x1x6x1_0_3 a) (broadcastInDim S262144x1x1x6x1 ![] bcast_S_S262144x1x1x6x1 (constantI S_ 32 0#32)))
      (addi (broadcastInDim S262144x1x1x6x1 ![0, 3] bcast_S262144x6_S262144x1x1x6x1_0_3 a) (broadcastInDim S262144x1x1x6x1 ![] bcast_S_S262144x1x1x6x1 (constantI S_ 32 4#32)))
      (broadcastInDim S262144x1x1x6x1 ![0, 3] bcast_S262144x6_S262144x1x1x6x1_0_3 a)))
def wrap3 (a : S262144x6.Idx → BitVec 32) : S262144x6x6x6x6x1.Idx → BitVec 32 :=
  broadcastInDim S262144x6x6x6x6x1 ![0, 1, 2, 3, 4] bcast_S262144x6x6x6x6_S262144x6x6x6x6x1_0_1_2_3_4 (broadcastInDim S262144x6x6x6x6 ![0, 1, 2, 3, 4] bcast_S262144x1x1x1x6_S262144x6x6x6x6_0_1_2_3_4
    (select (cmpi .slt (broadcastInDim S262144x1x1x1x6 ![0, 4] bcast_S262144x6_S262144x1x1x1x6_0_4 a) (broadcastInDim S262144x1x1x1x6 ![] bcast_S_S262144x1x1x1x6 (constantI S_ 32 0#32)))
      (addi (broadcastInDim S262144x1x1x1x6 ![0, 4] bcast_S262144x6_S262144x1x1x1x6_0_4 a) (broadcastInDim S262144x1x1x1x6 ![] bcast_S_S262144x1x1x1x6 (constantI S_ 32 4#32)))
      (broadcastInDim S262144x1x1x1x6 ![0, 4] bcast_S262144x6_S262144x1x1x1x6_0_4 a)))

/-- The weights of one axis. -/
def wAxis0 (w : FVec F S262144x4x6 .f32) : FVec F S262144x6 .f32 := shapeCast S262144x6 (extractStridedSlice S262144x1x6 ![0, 0, 0] w slices_S262144x4x6_S262144x1x6_0_0_0) shapeCasts_S262144x1x6_S262144x6
def wAxis1 (w : FVec F S262144x4x6 .f32) : FVec F S262144x6 .f32 := shapeCast S262144x6 (extractStridedSlice S262144x1x6 ![0, 1, 0] w slices_S262144x4x6_S262144x1x6_0_1_0) shapeCasts_S262144x1x6_S262144x6
def wAxis2 (w : FVec F S262144x4x6 .f32) : FVec F S262144x6 .f32 := shapeCast S262144x6 (extractStridedSlice S262144x1x6 ![0, 2, 0] w slices_S262144x4x6_S262144x1x6_0_2_0) shapeCasts_S262144x1x6_S262144x6
def wAxis3 (w : FVec F S262144x4x6 .f32) : FVec F S262144x6 .f32 := shapeCast S262144x6 (extractStridedSlice S262144x1x6 ![0, 3, 0] w slices_S262144x4x6_S262144x1x6_0_3_0) shapeCasts_S262144x1x6_S262144x6

/-- The tables' values about every point, weighted along the last axis. -/
def gathered (t : FVec F S64x4x4x4 .f32) (f0 f1 f2 f3 : S262144x6.Idx → BitVec 32) (w : FVec F S262144x4x6 .f32) : FVec F S262144x6x6x6x6 .f32 :=
  mulf (Host.gather gather_S64x4x4x4_S262144x6x6x6x6x4_S262144x6x6x6x6_n_0123_n_n_0123_5_1111 t (catI (wrap0 f0) (wrap1 f1) (wrap2 f2) (wrap3 f3)))
    (broadcastInDim S262144x6x6x6x6 ![0, 1, 2, 3, 4] bcast_S262144x1x1x1x6_S262144x6x6x6x6_0_1_2_3_4 (broadcastInDim S262144x1x1x1x6 ![0, 4] bcast_S262144x6_S262144x1x1x1x6_0_4 (wAxis3 w)))

/-- Those, summed axis by axis. -/
def pulled (g : FVec F S262144x6x6x6x6 .f32) (z : FVec F S_ .f32) (w : FVec F S262144x4x6 .f32) : FVec F S262144 .f32 :=
  Host.reduceAdd (mulf (Host.reduceAdd (mulf (Host.reduceAdd (mulf (Host.reduceAdd g z reducesTo_S262144x6x6x6x6_S262144x6x6x6_d4 h_S_)
      (broadcastInDim S262144x6x6x6 ![0, 1, 2, 3] bcast_S262144x1x1x6_S262144x6x6x6_0_1_2_3 (broadcastInDim S262144x1x1x6 ![0, 3] bcast_S262144x6_S262144x1x1x6_0_3 (wAxis2 w))))
      (constant S_ .f32 0x00000000#32) reducesTo_S262144x6x6x6_S262144x6x6_d3 h_S_)
      (broadcastInDim S262144x6x6 ![0, 1, 2] bcast_S262144x1x6_S262144x6x6_0_1_2 (broadcastInDim S262144x1x6 ![0, 2] bcast_S262144x6_S262144x1x6_0_2 (wAxis1 w))))
      (constant S_ .f32 0x00000000#32) reducesTo_S262144x6x6_S262144x6_d2 h_S_) (wAxis0 w))
      (constant S_ .f32 0x00000000#32) reducesTo_S262144x6_S262144_d1 h_S_

/-- The least value. -/
def least (u : FVec F S262144 .f32) : FVec F S_ .f32 := Host.reduce FloatOps.minimumf u (constant S_ .f32 0x7F800000#32) reducesTo_S262144_S_d0 h_S_
/-- The greatest value. -/
def greatest (u : FVec F S262144 .f32) : FVec F S_ .f32 := Host.reduce FloatOps.maximumf u (constant S_ .f32 0xFF800000#32) reducesTo_S262144_S_d0 h_S_
/-- The values normalised. -/
def scaled (u : FVec F S262144 .f32) : FVec F S64x1x4096 .f32 :=
  shapeCast S64x1x4096 (Host.divf (subf u (broadcastInDim S262144 ![] bcast_S_S262144 (least u)))
    (broadcastInDim S262144 ![] bcast_S_S262144 (addf (subf (greatest u) (least u)) (constant S_ .f32 0x2EDBE6FF#32)))) shapeCasts_S262144_S64x1x4096

end Cert.ReferenceIdeal.Body

end
-- ==== Proof.R.Part0.lean ====
/- Stretch 0 of the reference's operations. -/
module

public import proofs.«01_k».proof.Proof.R.Pure

@[expose] public section

set_option maxHeartbeats 4000000

noncomputable section

namespace Cert.ReferenceIdeal.Body

open Idealize.ShloMosaic Idealize.SL.Sem Cert.ReferenceIdeal Idealize.ShloMosaic.StableHlo

variable {F : FTy → Type} [FloatOps F]

theorem part0 : ∃ ops : List (HloOp τ sig (Elt F)), (∀ d, IsSeq (main_part0 (F := F) d) ops) ∧ Good ops ∧
    (∀ V : Valuation τ sig (Elt F), after ops V (Proc.devRef .tc main_v39) = shared (clipped (V (Proc.devRef .tc main_arg0)))) ∧
    (∀ V : Valuation τ sig (Elt F), after ops V (Proc.devRef .tc main_v42) = leftCol (clipped (V (Proc.devRef .tc main_arg0)))) ∧
    (∀ V : Valuation τ sig (Elt F), after ops V (Proc.devRef .tc main_v44) = binNos) :=
  ⟨_, by (intros; repeat (first | exact IsSeq.nil | exact isSeq_last | apply IsSeq.cons)),
    ⟨by simp, by (intro _ h; (repeat (cases h with | head => rfl | tail _ h => ?_)); exact nomatch h),
     fun V => by after_reads_simp⟩,
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl)⟩

end Cert.ReferenceIdeal.Body

end
-- ==== Proof.R.Part1.lean ====
/- Stretch 1 of the reference's operations. -/
module

public import proofs.«01_k».proof.Proof.R.Pure

@[expose] public section

set_option maxHeartbeats 4000000

noncomputable section

namespace Cert.ReferenceIdeal.Body

open Idealize.ShloMosaic Idealize.SL.Sem Cert.ReferenceIdeal Idealize.ShloMosaic.StableHlo

variable {F : FTy → Type} [FloatOps F]

theorem part1 : ∃ ops : List (HloOp τ sig (Elt F)), (∀ d, IsSeq (main_part1 (F := F) d) ops) ∧ Good ops ∧
    (∀ V : Valuation τ sig (Elt F), after ops V (Proc.devRef .tc main_v72) = tables (V (Proc.devRef .tc main_v39)) (V (Proc.devRef .tc main_v44)) (V (Proc.devRef .tc main_v42))) ∧
    (∀ V : Valuation τ sig (Elt F), after ops V (Proc.devRef .tc main_v82) = near (points (V (Proc.devRef .tc main_arg0)))) ∧
    (∀ V : Valuation τ sig (Elt F), after ops V (Proc.devRef .tc main_v86) = dists (points (V (Proc.devRef .tc main_arg0)))) ∧
    (∀ V : Valuation τ sig (Elt F), after ops V (Proc.devRef .tc main_v92) = pow5 (ramped 0x40400000#32 (dists (points (V (Proc.devRef .tc main_arg0)))))) :=
  ⟨_, by (intros; repeat (first | exact IsSeq.nil | exact isSeq_last | apply IsSeq.cons)),
    ⟨by simp, by (intro _ h; (repeat (cases h with | head => rfl | tail _ h => ?_)); exact nomatch h),
     fun V => by after_reads_simp⟩,
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl)⟩

end Cert.ReferenceIdeal.Body

end
-- ==== Proof.R.Part2.lean ====
/- Stretch 2 of the reference's operations. -/
module

public import proofs.«01_k».proof.Proof.R.Pure

@[expose] public section

set_option maxHeartbeats 4000000

noncomputable section

namespace Cert.ReferenceIdeal.Body

open Idealize.ShloMosaic Idealize.SL.Sem Cert.ReferenceIdeal Idealize.ShloMosaic.StableHlo

variable {F : FTy → Type} [FloatOps F]

theorem part2 : ∃ ops : List (HloOp τ sig (Elt F)), (∀ d, IsSeq (main_part2 (F := F) d) ops) ∧ Good ops ∧
    (∀ V : Valuation τ sig (Elt F), after ops V (Proc.devRef .tc main_v72) = V (Proc.devRef .tc main_v72)) ∧
    (∀ V : Valuation τ sig (Elt F), after ops V (Proc.devRef .tc main_v112) = weights (V (Proc.devRef .tc main_v86)) (V (Proc.devRef .tc main_v92))) ∧
    (∀ V : Valuation τ sig (Elt F), after ops V (Proc.devRef .tc main_v113) = nearI (V (Proc.devRef .tc main_v82))) ∧
    (∀ V : Valuation τ sig (Elt F), after ops V (Proc.devRef .tc main_v121) = foldI 128#32 64#32 127#32 (axis0 (nearI (V (Proc.devRef .tc main_v82))))) ∧
    (∀ V : Valuation τ sig (Elt F), after ops V (Proc.devRef .tc main_v129) = foldI 8#32 4#32 7#32 (axis1 (nearI (V (Proc.devRef .tc main_v82))))) ∧
    (∀ V : Valuation τ sig (Elt F), after ops V (Proc.devRef .tc main_v132) = remI 8#32 (axis2 (nearI (V (Proc.devRef .tc main_v82))))) ∧
    (∀ V : Valuation τ sig (Elt F), after ops V (Proc.devRef .tc main_v134) = beyond 4#32 (remI 8#32 (axis2 (nearI (V (Proc.devRef .tc main_v82)))))) ∧
    (∀ V : Valuation τ sig (Elt F), after ops V (Proc.devRef .tc main_v136) = mirror 7#32 (remI 8#32 (axis2 (nearI (V (Proc.devRef .tc main_v82)))))) :=
  ⟨_, by (intros; repeat (first | exact IsSeq.nil | exact isSeq_last | apply IsSeq.cons)),
    ⟨by simp, by (intro _ h; (repeat (cases h with | head => rfl | tail _ h => ?_)); exact nomatch h),
     fun V => by after_reads_simp⟩,
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl)⟩

end Cert.ReferenceIdeal.Body

end
-- ==== Proof.R.Part3.lean ====
/- Stretch 3 of the reference's operations. -/
module

public import proofs.«01_k».proof.Proof.R.Pure

@[expose] public section

set_option maxHeartbeats 4000000

noncomputable section

namespace Cert.ReferenceIdeal.Body

open Idealize.ShloMosaic Idealize.SL.Sem Cert.ReferenceIdeal Idealize.ShloMosaic.StableHlo

variable {F : FTy → Type} [FloatOps F]

theorem part3 : ∃ ops : List (HloOp τ sig (Elt F)), (∀ d, IsSeq (main_part3 (F := F) d) ops) ∧ Good ops ∧
    (∀ V : Valuation τ sig (Elt F), after ops V (Proc.devRef .tc main_v112) = V (Proc.devRef .tc main_v112)) ∧
    (∀ V : Valuation τ sig (Elt F), after ops V (Proc.devRef .tc main_cst_52) = constant S_ .f32 0x00000000#32) ∧
    (∀ V : Valuation τ sig (Elt F), after ops V (Proc.devRef .tc main_v184) = gathered (V (Proc.devRef .tc main_v72)) (V (Proc.devRef .tc main_v121)) (V (Proc.devRef .tc main_v129)) (select (V (Proc.devRef .tc main_v134)) (V (Proc.devRef .tc main_v136)) (V (Proc.devRef .tc main_v132))) (foldI 8#32 4#32 7#32 (axis3 (V (Proc.devRef .tc main_v113)))) (V (Proc.devRef .tc main_v112))) :=
  ⟨_, by (intros; repeat (first | exact IsSeq.nil | exact isSeq_last | apply IsSeq.cons)),
    ⟨by simp, by (intro _ h; (repeat (cases h with | head => rfl | tail _ h => ?_)); exact nomatch h),
     fun V => by after_reads_simp⟩,
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl),
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl)⟩

end Cert.ReferenceIdeal.Body

end
-- ==== Proof.R.Part4.lean ====
/- Stretch 4 of the reference's operations. -/
module

public import proofs.«01_k».proof.Proof.R.Pure

@[expose] public section

set_option maxHeartbeats 4000000

noncomputable section

namespace Cert.ReferenceIdeal.Body

open Idealize.ShloMosaic Idealize.SL.Sem Cert.ReferenceIdeal Idealize.ShloMosaic.StableHlo

variable {F : FTy → Type} [FloatOps F]

theorem part4 : ∃ ops : List (HloOp τ sig (Elt F)), (∀ d, IsSeq (main_part4 (F := F) d) ops) ∧ Good ops ∧
    (∀ V : Valuation τ sig (Elt F), after ops V (Proc.devRef .tc main_v211) = scaled (pulled (V (Proc.devRef .tc main_v184)) (V (Proc.devRef .tc main_cst_52)) (V (Proc.devRef .tc main_v112)))) :=
  ⟨_, by (intros; repeat (first | exact IsSeq.nil | exact isSeq_last | apply IsSeq.cons)),
    ⟨by simp, by (intro _ h; (repeat (cases h with | head => rfl | tail _ h => ?_)); exact nomatch h),
     fun V => by after_reads_simp⟩,
     fun V => by (after_reads_simp [cat64_eq, cat4_eq, ↓ read_cat3, ↓ read_catI]; (try simp -implicitDefEqProofs only [StableHlo.TRef.ofBuf_toBuf, StableHlo.TRef.toBuf, StableHlo.TRef.ofBuf, cast_eq]); first | done | exact rfl)⟩

end Cert.ReferenceIdeal.Body

end
-- ==== Proof.R.Frame.lean ====
/- The reference runs to its end with its argument unchanged and its result a function of that. -/
module

public import proofs.«01_k».proof.Proof.R.Part0
public import proofs.«01_k».proof.Proof.R.Part1
public import proofs.«01_k».proof.Proof.R.Part2
public import proofs.«01_k».proof.Proof.R.Part3
public import proofs.«01_k».proof.Proof.R.Part4
public import Idealize.ShloMosaic.Lib.Quiescent

@[expose] public section

noncomputable section

namespace Cert.ReferenceIdeal.Body

open Idealize.ShloMosaic Idealize.SL.Sem Cert.ReferenceIdeal Idealize.ShloMosaic.StableHlo

variable {F : FTy → Type} [FloatOps F]

/-- The tables' volume. -/
def volume (x : FVec F S1x1x64x64x64 .f32) : FVec F S64x4x4x4 .f32 := tables (shared (clipped x)) binNos (leftCol (clipped x))

/-- The weights of every point. -/
def pointWeights (x : FVec F S1x1x64x64x64 .f32) : FVec F S262144x4x6 .f32 :=
  weights (dists (points x)) (pow5 (ramped 0x40400000#32 (dists (points x))))

/-- The grid points about every point. -/
def pointNear (x : FVec F S1x1x64x64x64 .f32) : S262144x4x6.Idx → BitVec 32 := nearI (near (points x))

/-- The interpolated values, before normalising. -/
def values (x : FVec F S1x1x64x64x64 .f32) : FVec F S262144 .f32 :=
  pulled (gathered (volume x) (foldI 128#32 64#32 127#32 (axis0 (pointNear x))) (foldI 8#32 4#32 7#32 (axis1 (pointNear x)))
    (foldI 8#32 4#32 7#32 (axis2 (pointNear x))) (foldI 8#32 4#32 7#32 (axis3 (pointNear x))) (pointWeights x))
    (constant S_ .f32 0x00000000#32) (pointWeights x)

/-- The reference's run: its result, its argument, its semaphores. -/
theorem final (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v211) = scaled (values (m ((c.tc : Thread nD τ).loc main_arg0)))
        ∧ r.2.mem ((c.tc : Thread nD τ).loc main_arg0) = m ((c.tc : Thread nD τ).loc main_arg0)) ∧ r.2.sem = fun _ => 0) := by
  obtain ⟨l0, s0, g0, a39, a42, a44⟩ := part0 (F := F)
  obtain ⟨l1, s1, g1, b72, b82, b86, b92⟩ := part1 (F := F)
  obtain ⟨l2, s2, g2, c72, c112, c113, c121, c129, c132, c134, c136⟩ := part2 (F := F)
  obtain ⟨l3, s3, g3, d112, d52, d184⟩ := part3 (F := F)
  obtain ⟨l4, s4, g4, e211⟩ := part4 (F := F)
  have hs : ∀ d, IsSeq (nD := nD) (main (F := F) d) (l0 ++ (l1 ++ (l2 ++ (l3 ++ l4)))) := fun d =>
    isSeq_append (s0 d) (isSeq_append (s1 d) (isSeq_append (s2 d) (isSeq_append (s3 d) (s4 d))))
  have g := g0.append (g1.append (g2.append (g3.append g4)))
  refine θ_run_mono (run_hlo (defs (F := F)) (main (F := F)) hs (by decide) (by decide) g.bufs g.fresh m ρ) fun r hr =>
    ⟨fun c => ⟨?_, ?_⟩, sem_eq_zero_of_no_sems (by decide) r.2⟩
  · rw [hr c main_v211]
    simp only [after_app]
    rw [e211, d184, d52, d112, c112, c113, c121, c129, c132, c134, c136, c72, b72, b82, b86, b92, g0.arg, a39, a42, a44]
    rfl
  · rw [hr c main_arg0, g.arg]

theorem frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono (final m ρ) fun _ hr => ⟨fun c => (hr.1 c).2, hr.2⟩

end Cert.ReferenceIdeal.Body

end
-- ==== Proof.Math.lean ====
/- The mathematics of both programs over the reals: the quintic spline and its pieces, reflection at the edges,
   the equalised histogram, and sums taken axis by axis. -/
module

public import Idealize.ShloMosaic.Lib.Pointwise
public import Idealize.ShloMosaic.Lib.IdealHost
public import Mathlib.Tactic.Ring
public import Mathlib.Tactic.Linarith
public import Mathlib.Tactic.NormNum
public import Mathlib.Algebra.BigOperators.Fin

@[expose] public section

noncomputable section

namespace Cert.Math

open Idealize.ShloMosaic

/-- The fifth power of the positive part. -/
def pos5 (v : ℝ) : ℝ := max 0 v * ((max 0 v * max 0 v) * (max 0 v * max 0 v))

/-- The quintic spline. -/
def b5 (t : ℝ) : ℝ := (pos5 (3 - |t|) - 6 * pos5 (2 - |t|) + 15 * pos5 (1 - |t|)) / 120

theorem pos5_of_nonneg {v : ℝ} (h : 0 ≤ v) : pos5 v = v ^ 5 := by unfold pos5; rw [max_eq_right h]; ring
theorem pos5_of_nonpos {v : ℝ} (h : v ≤ 0) : pos5 v = 0 := by unfold pos5; rw [max_eq_left h]; ring

/-- A polynomial of degree five by Horner's rule. -/
def poly (f c0 c1 c2 c3 c4 c5 : ℝ) : ℝ := c0 + f * (c1 + f * (c2 + f * (c3 + f * (c4 + f * c5))))

/-- The spline's six pieces. -/
def piece (t : Fin 6) (f : ℝ) : ℝ :=
  ![poly f (1/120) (-5/120) (10/120) (-10/120) (5/120) (-1/120), poly f (26/120) (-50/120) (20/120) (20/120) (-20/120) (5/120),
    poly f (66/120) 0 (-60/120) 0 (30/120) (-10/120), poly f (26/120) (50/120) (20/120) (-20/120) (-20/120) (10/120),
    poly f (1/120) (5/120) (10/120) (10/120) (5/120) (-5/120), poly f 0 0 0 0 0 (1/120)] t

/-- A tap's offset. -/
def off (t : Fin 6) : ℤ := (t.val : ℤ) - 2

/-- On a cell the spline at a tap is its piece. -/
theorem piece_eq (t : Fin 6) {f : ℝ} (h0 : 0 ≤ f) (h1 : f < 1) : b5 (f - (off t : ℝ)) = piece t f := by
  fin_cases t
  · have ha : |f - ((off 0 : ℤ) : ℝ)| = f + 2 := by rw [abs_of_nonneg] <;> norm_num [off] <;> linarith
    show b5 (f - ((off 0 : ℤ) : ℝ)) = poly f (1/120) (-5/120) (10/120) (-10/120) (5/120) (-1/120)
    unfold b5; rw [ha, pos5_of_nonneg (by linarith), pos5_of_nonpos (by linarith), pos5_of_nonpos (by linarith)]; unfold poly; ring
  · have ha : |f - ((off 1 : ℤ) : ℝ)| = f + 1 := by rw [abs_of_nonneg] <;> norm_num [off] <;> linarith
    show b5 (f - ((off 1 : ℤ) : ℝ)) = poly f (26/120) (-50/120) (20/120) (20/120) (-20/120) (5/120)
    unfold b5; rw [ha, pos5_of_nonneg (by linarith), pos5_of_nonneg (by linarith), pos5_of_nonpos (by linarith)]; unfold poly; ring
  · have ha : |f - ((off 2 : ℤ) : ℝ)| = f := by rw [abs_of_nonneg] <;> norm_num [off] <;> linarith
    show b5 (f - ((off 2 : ℤ) : ℝ)) = poly f (66/120) 0 (-60/120) 0 (30/120) (-10/120)
    unfold b5; rw [ha, pos5_of_nonneg (by linarith), pos5_of_nonneg (by linarith), pos5_of_nonneg (by linarith)]; unfold poly; ring
  · have ha : |f - ((off 3 : ℤ) : ℝ)| = 1 - f := by rw [abs_of_nonpos] <;> norm_num [off] <;> linarith
    show b5 (f - ((off 3 : ℤ) : ℝ)) = poly f (26/120) (50/120) (20/120) (-20/120) (-20/120) (10/120)
    unfold b5; rw [ha, pos5_of_nonneg (by linarith), pos5_of_nonneg (by linarith), pos5_of_nonneg (by linarith)]; unfold poly; ring
  · have ha : |f - ((off 4 : ℤ) : ℝ)| = 2 - f := by rw [abs_of_nonpos] <;> norm_num [off] <;> linarith
    show b5 (f - ((off 4 : ℤ) : ℝ)) = poly f (1/120) (5/120) (10/120) (10/120) (5/120) (-5/120)
    unfold b5; rw [ha, pos5_of_nonneg (by linarith), pos5_of_nonneg (by linarith), pos5_of_nonpos (by linarith)]; unfold poly; ring
  · have ha : |f - ((off 5 : ℤ) : ℝ)| = 3 - f := by rw [abs_of_nonpos] <;> norm_num [off] <;> linarith
    show b5 (f - ((off 5 : ℤ) : ℝ)) = poly f 0 0 0 0 0 (1/120)
    unfold b5; rw [ha, pos5_of_nonneg (by linarith), pos5_of_nonpos (by linarith), pos5_of_nonpos (by linarith)]; unfold poly; ring

/-- A point's weight at a tap. -/
def wt (p : ℝ) (t : Fin 6) : ℝ := b5 (p - ((⌊p⌋ : ℝ) + (off t : ℝ)))

theorem wt_piece (p : ℝ) (t : Fin 6) : wt p t = piece t (p - ⌊p⌋) := by
  rw [← piece_eq t (sub_nonneg.mpr (Int.floor_le p)) (by linarith [Int.lt_floor_add_one p])]
  unfold wt; congr 1; ring

/-- An index reflected at the edges of `n` cells. -/
def fold (n z : ℤ) : ℤ := if n ≤ z % (2 * n) then 2 * n - 1 - z % (2 * n) else z % (2 * n)

theorem fold_nonneg {n : ℤ} (hn : 0 < n) (z : ℤ) : 0 ≤ fold n z := by
  have h0 := Int.emod_nonneg z (show 2 * n ≠ 0 by omega); have h1 := Int.emod_lt_of_pos z (show 0 < 2 * n by omega)
  unfold fold; split <;> omega
theorem fold_lt {n : ℤ} (hn : 0 < n) (z : ℤ) : fold n z < n := by
  have h0 := Int.emod_nonneg z (show 2 * n ≠ 0 by omega); have h1 := Int.emod_lt_of_pos z (show 0 < 2 * n by omega)
  unfold fold; split <;> omega

/-- The bin that a tap of a point reads. -/
def bin (p : ℝ) (t : Fin 6) : Fin 64 := ⟨(fold 64 (⌊p⌋ + off t)).toNat, by
  have := fold_nonneg (n := 64) (by omega) (⌊p⌋ + off t); have := fold_lt (n := 64) (by omega) (⌊p⌋ + off t); omega⟩
/-- The cell that a tap of a coordinate reads. -/
def cell (p : ℝ) (t : Fin 6) : Fin 4 := ⟨(fold 4 (⌊p⌋ + off t)).toNat, by
  have := fold_nonneg (n := 4) (by omega) (⌊p⌋ + off t); have := fold_lt (n := 4) (by omega) (⌊p⌋ + off t); omega⟩

/-- A cell's weight for a coordinate. -/
def mt (p : ℝ) (i : Fin 4) : ℝ := ∑ t : Fin 6, wt p t * (if cell p t = i then 1 else 0)

/-- A sum over the cells with their weights is a sum over the taps. -/
theorem sum_mt (p : ℝ) (g : Fin 4 → ℝ) : ∑ i, mt p i * g i = ∑ t, wt p t * g (cell p t) := by
  unfold mt
  simp_rw [Finset.sum_mul]
  rw [Finset.sum_comm]
  refine Finset.sum_congr rfl fun t _ => ?_
  rw [Finset.sum_eq_single (cell p t)]
  · simp
  · intro b _ hb; rw [if_neg (Ne.symm hb)]; ring
  · simp

/-- The interpolated value, axis by axis. -/
def pull (v : Fin 64 → Fin 4 → Fin 4 → Fin 4 → ℝ) (p cd ch cw : ℝ) : ℝ :=
  ∑ a, (∑ b, (∑ c, (∑ e, v (bin p a) (cell cd b) (cell ch c) (cell cw e) * wt cw e) * wt ch c) * wt cd b) * wt p a

/-- The interpolated value, the last two axes last. -/
def pull' (v : Fin 64 → Fin 4 → Fin 4 → Fin 4 → ℝ) (p cd ch cw : ℝ) : ℝ :=
  ∑ k, ∑ l, (∑ a, wt p a * ∑ i, mt cd i * v (bin p a) i k l) * (mt ch k * mt cw l)

theorem pull_eq (v : Fin 64 → Fin 4 → Fin 4 → Fin 4 → ℝ) (p cd ch cw : ℝ) : pull' v p cd ch cw = pull v p cd ch cw := by
  have h1 : pull' v p cd ch cw = ∑ k, mt ch k * ∑ l, mt cw l * ∑ a, wt p a * ∑ i, mt cd i * v (bin p a) i k l := by
    unfold pull'
    refine Finset.sum_congr rfl fun k _ => ?_
    rw [Finset.mul_sum]
    exact Finset.sum_congr rfl fun l _ => by ring
  rw [h1, sum_mt]
  simp_rw [sum_mt]
  unfold pull
  simp_rw [Finset.sum_mul, Finset.mul_sum]
  -- every side is a sum over the four taps
  rw [show (∑ c, ∑ e, ∑ a, ∑ b, wt ch c * (wt cw e * (wt p a * (wt cd b * v (bin p a) (cell cd b) (cell ch c) (cell cw e)))))
      = ∑ c, ∑ a, ∑ e, ∑ b, wt ch c * (wt cw e * (wt p a * (wt cd b * v (bin p a) (cell cd b) (cell ch c) (cell cw e)))) from
      Finset.sum_congr rfl fun c _ => Finset.sum_comm, Finset.sum_comm]
  refine Finset.sum_congr rfl fun a _ => ?_
  rw [show (∑ c, ∑ e, ∑ b, wt ch c * (wt cw e * (wt p a * (wt cd b * v (bin p a) (cell cd b) (cell ch c) (cell cw e)))))
      = ∑ c, ∑ b, ∑ e, wt ch c * (wt cw e * (wt p a * (wt cd b * v (bin p a) (cell cd b) (cell ch c) (cell cw e)))) from
      Finset.sum_congr rfl fun c _ => Finset.sum_comm, Finset.sum_comm]
  refine Finset.sum_congr rfl fun b _ => Finset.sum_congr rfl fun c _ => Finset.sum_congr rfl fun e _ => by ring

/-! ## The equalised histogram of one tile -/

variable (e : ℝ) (w : Fin 64 → ℝ)

/-- The clipped count of a bin. -/
def count (b : Fin 64) : ℝ := min (w b / 4096 / ((∑ b, w b / 4096) + e) * 4096) 256
/-- What clipping took off. -/
def over : ℝ := 4096 - ∑ b, count e w b
/-- The count with the excess spread. -/
def evened (b : Fin 64) : ℝ := count e w b + (⌊over e w / 64⌋ : ℝ) + (if (b.val : ℝ) < over e w - 64 * (⌊over e w / 64⌋ : ℝ) then 1 else 0)
/-- The running sum, scaled. -/
def cdf (b : Fin 64) : ℝ := (∑ k : Fin 64, if k.val ≤ b.val then evened e w k else 0) * 63 / 4096

end Cert.Math

end
-- ==== Proof.Scalars.lean ====
/- Single numbers: the constants' values, the operations on reals, the reflected indices as words. -/
module

public import proofs.«01_k».proof.Proof.Math
public import Mathlib.Tactic.Positivity

@[expose] public section

noncomputable section

namespace Cert.Math

open Idealize.ShloMosaic

/-! ## Operations on reals -/

theorem coe_sum {ι : Type} [Fintype ι] (f : ι → ℝ) : ∑ i, ((f i : ℝ) : EReal) = ((∑ i, f i : ℝ) : EReal) := by
  induction (Finset.univ : Finset ι) using Finset.cons_induction with
  | empty => simp
  | cons a s h ih => simp [Finset.sum_cons, ih]
theorem coe_max (a b : ℝ) : max (a : EReal) b = ((max a b : ℝ) : EReal) := (EReal.coe_strictMono.monotone.map_max).symm
theorem coe_min (a b : ℝ) : min (a : EReal) b = ((min a b : ℝ) : EReal) := (EReal.coe_strictMono.monotone.map_min).symm
theorem max_zero_coe (b : ℝ) : max (0 : EReal) b = ((max 0 b : ℝ) : EReal) := coe_max 0 b
theorem absf_coe (a : ℝ) : FloatOps.absf (F := Ideal) (φ := .f32) (a : EReal) = ((|a| : ℝ) : EReal) := by
  show max (a : EReal) (-(a:EReal)) = _
  rw [← EReal.coe_neg, coe_max]; rfl
theorem div_coe {b : ℝ} (h : b ≠ 0) (a : ℝ) : Ideal.div (a : EReal) (b : EReal) = ((a / b : ℝ) : EReal) := by
  rw [Ideal.div_coe h, ← EReal.coe_mul]; congr 1; ring
theorem floor_coe (a : ℝ) : Ideal.liftRound Int.floor (a : EReal) = (((⌊a⌋ : ℤ) : ℝ) : EReal) := Ideal.liftRound_coe ..
theorem off_coe (t : Fin 6) : FloatOps.sitofp (F := Ideal) .f32 (IntOp.addi 4294967294#32 (BitVec.ofNat 32 t.val)) = (((off t : ℤ) : ℝ) : EReal) := by
  have : (IntOp.addi 4294967294#32 (BitVec.ofNat 32 t.val)).toInt = off t := by revert t; decide
  show (((IntOp.addi 4294967294#32 (BitVec.ofNat 32 t.val)).toInt : ℝ) : EReal) = _
  rw [this]
theorem toInt_ofNat {k : ℕ} (h : k < 100000) : (BitVec.ofNat 32 k).toInt = k := by
  rw [BitVec.toInt_eq_toNat_of_lt (by rw [BitVec.toNat_ofNat]; omega), BitVec.toNat_ofNat]; omega
theorem nat_coe {k : ℕ} (h : k < 100000) : FloatOps.sitofp (F := Ideal) .f32 (BitVec.ofNat 32 k) = ((k : ℝ) : EReal) := by
  show (((BitVec.ofNat 32 k).toInt : ℝ) : EReal) = _
  rw [toInt_ofNat h]; norm_num
theorem fptosi_coe {z : ℤ} (h0 : -100000 ≤ z) (h1 : z ≤ 100000) : FloatOps.fptosi (F := Ideal) (φ := .f32) 32 (((z : ℤ) : ℝ) : EReal) = BitVec.ofInt 32 z := by
  show Ideal.fptosi 32 (((z : ℤ) : ℝ) : EReal) = _
  unfold Ideal.fptosi
  rw [Ideal.toIntClamped_coe]
  simp only [Int.floor_intCast, Int.ceil_intCast, ite_self]
  congr 1
  norm_num
  omega

/-! ## The constants -/

theorem lit63 : Ideal.ofBits .f32 0x427C0000#32 = ((63 : ℝ) : EReal) := by simp [Ideal.ofBits, Ideal.ieee, -EReal.coe_mul]; norm_num
theorem litA : Ideal.ofBits .f32 0xBF100000#32 = ((-(9/16) : ℝ) : EReal) := by simp [Ideal.ofBits, Ideal.ieee, -EReal.coe_mul]; norm_num
theorem litB : Ideal.ofBits .f32 0x40640000#32 = ((57/16 : ℝ) : EReal) := by simp [Ideal.ofBits, Ideal.ieee, -EReal.coe_mul]; norm_num
theorem lit2 : Ideal.ofBits .f32 0x40000000#32 = ((2 : ℝ) : EReal) := by simp [Ideal.ofBits, Ideal.ieee, -EReal.coe_mul]; try norm_num
theorem lit3 : Ideal.ofBits .f32 0x40400000#32 = ((3 : ℝ) : EReal) := by simp [Ideal.ofBits, Ideal.ieee, -EReal.coe_mul]; norm_num
theorem lit6 : Ideal.ofBits .f32 0x40C00000#32 = ((6 : ℝ) : EReal) := by simp [Ideal.ofBits, Ideal.ieee, -EReal.coe_mul]; norm_num
theorem lit15 : Ideal.ofBits .f32 0x41700000#32 = ((15 : ℝ) : EReal) := by simp [Ideal.ofBits, Ideal.ieee, -EReal.coe_mul]; norm_num
theorem lit120 : Ideal.ofBits .f32 0x42F00000#32 = ((120 : ℝ) : EReal) := by simp [Ideal.ofBits, Ideal.ieee, -EReal.coe_mul]; norm_num
theorem lit1000 : Ideal.ofBits .f32 0x447A0000#32 = ((1000 : ℝ) : EReal) := by simp [Ideal.ofBits, Ideal.ieee, -EReal.coe_mul]; norm_num
theorem litMHalf : Ideal.ofBits .f32 0xBF000000#32 = ((-(1/2) : ℝ) : EReal) := by simp [Ideal.ofBits, Ideal.ieee, -EReal.coe_mul]; try norm_num
theorem litQuarter : Ideal.ofBits .f32 0x3E800000#32 = ((1/4 : ℝ) : EReal) := by simp [Ideal.ofBits, Ideal.ieee, -EReal.coe_mul]; try norm_num
theorem lit4096 : Ideal.ofBits .f32 0x45800000#32 = ((4096 : ℝ) : EReal) := by simp [Ideal.ofBits, Ideal.ieee, -EReal.coe_mul]; norm_num
theorem lit256 : Ideal.ofBits .f32 0x43800000#32 = ((256 : ℝ) : EReal) := by simp [Ideal.ofBits, Ideal.ieee, -EReal.coe_mul]; norm_num
theorem lit64 : Ideal.ofBits .f32 0x42800000#32 = ((64 : ℝ) : EReal) := by simp [Ideal.ofBits, Ideal.ieee, -EReal.coe_mul]; norm_num
theorem litI64 : Ideal.ofBits .f32 0x3C800000#32 = ((1/64 : ℝ) : EReal) := by simp [Ideal.ofBits, Ideal.ieee, -EReal.coe_mul]; norm_num
theorem litI4096 : Ideal.ofBits .f32 0x39800000#32 = ((1/4096 : ℝ) : EReal) := by simp [Ideal.ofBits, Ideal.ieee, -EReal.coe_mul]; norm_num
theorem litScale : Ideal.ofBits .f32 0x3C7C0000#32 = ((63/4096 : ℝ) : EReal) := by simp [Ideal.ofBits, Ideal.ieee, -EReal.coe_mul]; norm_num
theorem litK : Ideal.ofBits .f32 0xC8F42400#32 = ((-500000 : ℝ) : EReal) := by simp [Ideal.ofBits, Ideal.ieee, -EReal.coe_mul]; norm_num
theorem litTop : Ideal.ofBits .f32 0x7F800000#32 = ⊤ := by simp [Ideal.ofBits, Ideal.ieee]
theorem litBot : Ideal.ofBits .f32 0xFF800000#32 = ⊥ := by simp [Ideal.ofBits, Ideal.ieee]

theorem eps_exists : ∃ e : ℝ, 0 < e ∧ Ideal.ofBits .f32 0x2EDBE6FF#32 = (e : EReal) := by
  refine ⟨_, ?_, by simp [Ideal.ofBits, Ideal.ieee, -EReal.coe_mul]; rfl⟩; positivity
/-- The small constant beside the denominators. -/
def eps : ℝ := eps_exists.choose
theorem eps_pos : 0 < eps := eps_exists.choose_spec.1
theorem litEps : Ideal.ofBits .f32 0x2EDBE6FF#32 = (eps : EReal) := eps_exists.choose_spec.2

/-! ## Reflected indices -/

/-- The truncating remainder. -/
def remS0 (k v : BitVec 32) : BitVec 32 := IntOp.remsi .host v (Scalar.select (IntOp.cmpi .eq k 0#32) 1#32 k)
/-- The remainder of the divisor's sign. -/
def remS (k v : BitVec 32) : BitVec 32 :=
  Scalar.select (IntOp.andi (IntOp.cmpi .ne (IntOp.cmpi .slt (remS0 k v) 0#32) (IntOp.cmpi .slt (Scalar.select (IntOp.cmpi .eq k 0#32) 1#32 k) 0#32)) (IntOp.cmpi .ne (remS0 k v) 0#32))
    (IntOp.addi (remS0 k v) (Scalar.select (IntOp.cmpi .eq k 0#32) 1#32 k)) (remS0 k v)
/-- The reflected index. -/
def foldS (k n l v : BitVec 32) : BitVec 32 := Scalar.select (IntOp.cmpi .sge (remS k v) n) (IntOp.subi l (remS k v)) (remS k v)
/-- A negative index wrapped. -/
def wrapS (n v : BitVec 32) : BitVec 32 := Scalar.select (IntOp.cmpi .slt v 0#32) (IntOp.addi v n) v

theorem foldS_64' : ∀ k : Fin 80, wrapS 64#32 (foldS 128#32 64#32 127#32 (BitVec.ofInt 32 ((k.val : ℤ) - 6))) = BitVec.ofNat 32 (fold 64 ((k.val : ℤ) - 6)).toNat := by decide +kernel
theorem foldS_4' : ∀ k : Fin 20, foldS 8#32 4#32 7#32 (BitVec.ofInt 32 ((k.val : ℤ) - 6)) = BitVec.ofNat 32 (fold 4 ((k.val : ℤ) - 6)).toNat := by decide +kernel
theorem wrapS_4 : ∀ k : Fin 4, wrapS 4#32 (BitVec.ofNat 32 k.val) = BitVec.ofNat 32 k.val := by decide
theorem foldS_64 {z : ℤ} (h0 : -6 ≤ z) (h1 : z < 74) : wrapS 64#32 (foldS 128#32 64#32 127#32 (BitVec.ofInt 32 z)) = BitVec.ofNat 32 (fold 64 z).toNat := by
  have := foldS_64' ⟨(z + 6).toNat, by omega⟩
  rwa [show (((z + 6).toNat : ℕ) : ℤ) - 6 = z by omega] at this
theorem foldS_4 {z : ℤ} (h0 : -6 ≤ z) (h1 : z < 14) : foldS 8#32 4#32 7#32 (BitVec.ofInt 32 z) = BitVec.ofNat 32 (fold 4 z).toNat := by
  have := foldS_4' ⟨(z + 6).toNat, by omega⟩
  rwa [show (((z + 6).toNat : ℕ) : ℤ) - 6 = z by omega] at this

/-! ## The grid's coordinates -/

/-- A coordinate of the grid. -/
def cd (d : Fin 64) : ℝ := -(9/16) + 33/8 * (d.val : ℝ) / 63
theorem cd_lo (d : Fin 64) : -1 ≤ cd d := by
  have : (0:ℝ) ≤ (d.val : ℝ) := Nat.cast_nonneg _
  unfold cd; linarith
theorem cd_hi (d : Fin 64) : cd d < 4 := by
  have : (d.val : ℝ) ≤ 63 := by exact_mod_cast Nat.le_of_lt_succ d.isLt
  unfold cd; linarith
theorem cd_floor (d : Fin 64) : -1 ≤ ⌊cd d⌋ ∧ ⌊cd d⌋ < 4 :=
  ⟨Int.le_floor.mpr (by have := cd_lo d; norm_num; linarith), Int.floor_lt.mpr (by have := cd_hi d; norm_num; linarith)⟩
theorem off_range (t : Fin 6) : -2 ≤ off t ∧ off t ≤ 3 := by unfold off; omega
theorem unit_floor {v : ℝ} (h0 : 0 ≤ v) (h1 : v ≤ 1) : 0 ≤ ⌊v * 63⌋ ∧ ⌊v * 63⌋ < 64 :=
  ⟨Int.le_floor.mpr (by norm_num; linarith), Int.floor_lt.mpr (by norm_num; linarith)⟩

/-! ## The tiles -/

/-- A tile's voxel. -/
def tileV (v : Fin 64 → Fin 64 → Fin 64 → ℝ) (g : Fin 64) (k : Fin 4096) : ℝ :=
  v ⟨g.val / 16 * 16 + k.val / 256, by omega⟩ ⟨g.val / 4 % 4 * 16 + k.val / 16 % 16, by omega⟩ ⟨g.val % 4 * 16 + k.val % 16, by omega⟩
/-- A tile's weight in a bin. -/
def tileW (v : Fin 64 → Fin 64 → Fin 64 → ℝ) (g b : Fin 64) : ℝ :=
  ∑ k, Real.exp (-500000 * ((tileV v g k - (b.val : ℝ) / 63) * (tileV v g k - (b.val : ℝ) / 63)))
theorem tileW_nonneg (v : Fin 64 → Fin 64 → Fin 64 → ℝ) (g b : Fin 64) : 0 ≤ tileW v g b :=
  Finset.sum_nonneg fun _ _ => (Real.exp_pos _).le

theorem denom_pos {w : Fin 64 → ℝ} (hw : ∀ b, 0 ≤ w b) : 0 < (∑ b, w b / 4096) + eps := by
  have : 0 ≤ ∑ b, w b / 4096 := Finset.sum_nonneg fun b _ => div_nonneg (hw b) (by norm_num)
  linarith [eps_pos]

theorem over_nonneg {w : Fin 64 → ℝ} (hw : ∀ b, 0 ≤ w b) : 0 ≤ over eps w := by
  have hd := denom_pos hw
  have h1 : ∑ b, count eps w b ≤ ∑ b, w b / 4096 / ((∑ b, w b / 4096) + eps) * 4096 :=
    Finset.sum_le_sum fun b _ => min_le_left _ _
  have h2 : ∑ b, w b / 4096 / ((∑ b, w b / 4096) + eps) * 4096 = (∑ b, w b / 4096) / ((∑ b, w b / 4096) + eps) * 4096 := by
    rw [← Finset.sum_mul, ← Finset.sum_div]
  have h3 : (∑ b, w b / 4096) / ((∑ b, w b / 4096) + eps) ≤ 1 := by
    rw [div_le_one hd]; linarith [eps_pos]
  unfold over; linarith

/-- A cell's number. -/
def tileNo (i j k : Fin 4) : Fin 64 := ⟨i.val * 16 + j.val * 4 + k.val, by omega⟩
/-- The tables of running sums. -/
def tab (v : Fin 64 → Fin 64 → Fin 64 → ℝ) (b : Fin 64) (i j k : Fin 4) : ℝ := cdf eps (tileW v (tileNo i j k)) b

end Cert.Math

end
-- ==== Proof.KI.Row.lean ====
/- One slice through the kernel's sliding tables, read as real numbers. -/
module

public import proofs.«01_k».proof.Proof.KI.Pure
public import proofs.«01_k».proof.Proof.Scalars
public import Idealize.ShloMosaic.Lib.Pipeline.ValueKit

@[expose] public section

set_option maxRecDepth 16384
set_option maxHeartbeats 4000000

noncomputable section

namespace Cert.KernelIdeal.Body

open Idealize.ShloMosaic Idealize.ShloMosaic.TcCoe Cert.KernelIdeal.Gen Cert.Math

/-! ## The named constants -/

theorem nm_inv63 : Named.named (F := Ideal) (φ := .f32) κ "inv63" 0x3C820821#32 = ((1 / 63 : ℝ) : EReal) := IdealRules.named_const.ideal_named_scalar κ "inv63" _ _ rfl
theorem nm_m1 : Named.named (F := Ideal) (φ := .f32) κ "m1" 0xBC088889#32 = ((-1 / 120 : ℝ) : EReal) := IdealRules.named_const.ideal_named_scalar κ "m1" _ _ rfl
theorem nm_p5 : Named.named (F := Ideal) (φ := .f32) κ "p5" 0x3D2AAAAB#32 = ((1 / 24 : ℝ) : EReal) := IdealRules.named_const.ideal_named_scalar κ "p5" _ _ rfl
theorem nm_m10 : Named.named (F := Ideal) (φ := .f32) κ "m10" 0xBDAAAAAB#32 = ((-1 / 12 : ℝ) : EReal) := IdealRules.named_const.ideal_named_scalar κ "m10" _ _ rfl
theorem nm_p10 : Named.named (F := Ideal) (φ := .f32) κ "p10" 0x3DAAAAAB#32 = ((1 / 12 : ℝ) : EReal) := IdealRules.named_const.ideal_named_scalar κ "p10" _ _ rfl
theorem nm_m5 : Named.named (F := Ideal) (φ := .f32) κ "m5" 0xBD2AAAAB#32 = ((-1 / 24 : ℝ) : EReal) := IdealRules.named_const.ideal_named_scalar κ "m5" _ _ rfl
theorem nm_p1 : Named.named (F := Ideal) (φ := .f32) κ "p1" 0x3C088889#32 = ((1 / 120 : ℝ) : EReal) := IdealRules.named_const.ideal_named_scalar κ "p1" _ _ rfl
theorem nm_m20 : Named.named (F := Ideal) (φ := .f32) κ "m20" 0xBE2AAAAB#32 = ((-1 / 6 : ℝ) : EReal) := IdealRules.named_const.ideal_named_scalar κ "m20" _ _ rfl
theorem nm_p20 : Named.named (F := Ideal) (φ := .f32) κ "p20" 0x3E2AAAAB#32 = ((1 / 6 : ℝ) : EReal) := IdealRules.named_const.ideal_named_scalar κ "p20" _ _ rfl
theorem nm_m50 : Named.named (F := Ideal) (φ := .f32) κ "m50" 0xBED55555#32 = ((-5 / 12 : ℝ) : EReal) := IdealRules.named_const.ideal_named_scalar κ "m50" _ _ rfl
theorem nm_p26 : Named.named (F := Ideal) (φ := .f32) κ "p26" 0x3E5DDDDE#32 = ((13 / 60 : ℝ) : EReal) := IdealRules.named_const.ideal_named_scalar κ "p26" _ _ rfl
theorem nm_p66 : Named.named (F := Ideal) (φ := .f32) κ "p66" 0x3F0CCCCD#32 = ((11 / 20 : ℝ) : EReal) := IdealRules.named_const.ideal_named_scalar κ "p66" _ _ rfl
theorem nm_p50 : Named.named (F := Ideal) (φ := .f32) κ "p50" 0x3ED55555#32 = ((5 / 12 : ℝ) : EReal) := IdealRules.named_const.ideal_named_scalar κ "p50" _ _ rfl

/-! ## Bits as numbers -/

theorem bit_num (b : Bool) : FloatOps.sitofp (F := Ideal) .f32 (BitVec.setWidth 32 (BitVec.ofBool b)) = (((if b then 1 else 0) : ℝ) : EReal) := by
  show (((BitVec.setWidth 32 (BitVec.ofBool b)).toInt : ℝ) : EReal) = _
  cases b <;> simp
theorem ofNat_beq {a b : ℕ} (ha : a < 100000) (hb : b < 100000) : (BitVec.ofNat 32 a == BitVec.ofNat 32 b) = decide (a = b) := by
  by_cases h : a = b
  · subst h; simp
  · rw [decide_eq_false h, beq_eq_false_iff_ne]
    intro e
    have e' := congrArg BitVec.toNat e
    simp only [BitVec.toNat_ofNat] at e'
    omega
theorem eq_num {a b : ℕ} (ha : a < 100000) (hb : b < 100000) :
    FloatOps.sitofp (F := Ideal) .f32 (BitVec.setWidth 32 (IntOp.cmpi .eq (BitVec.ofNat 32 a) (BitVec.ofNat 32 b))) = (((if a = b then 1 else 0) : ℝ) : EReal) := by
  show FloatOps.sitofp (F := Ideal) .f32 (BitVec.setWidth 32 (BitVec.ofBool (BitVec.ofNat 32 a == BitVec.ofNat 32 b))) = _
  rw [bit_num, ofNat_beq ha hb]
  simp only [decide_eq_true_eq]

/-! ## The table's parts -/

/-- The row a tap picks. -/
def rowNo (n : Fin 64) (t : Fin 6) : Fin 72 := ⟨n.val + 2 + t.val, by omega⟩
/-- The lane of a tile at a tap. -/
def laneNo (t : Fin 6) (q : Fin 16) : Fin 96 := ⟨16 * t.val + q.val, by omega⟩

variable (v : Vec Ideal S1x1x4096 .f32) (x : ℝ) (n : Fin 64) (hw : Fin 4096) (hv : v (ix3 0 0 hw) = (x : EReal)) (hn : ⌊x * 63⌋ = n.val)

include hv hn in
theorem onehot_read (r : Fin 72) : onehot v (ix2 r hw) = (((if r.val = n.val + 2 then 1 else 0) : ℝ) : EReal) := by
  pointwise [onehot, binPos]
  rw [hv, lit63, ← EReal.coe_mul, floor_coe, fptosi_coe (by omega) (by omega), hn, ← eq_num (by omega) (by omega)]
  congr 3
  show BitVec.ofInt 32 ((n.val : ℕ) : ℤ) + 2#32 = _
  rw [BitVec.ofInt_natCast, BitVec.ofNat_add]

include hv in
theorem binFrac_read : binFrac v (ix2 0 hw) = ((x * 63 - (⌊x * 63⌋ : ℝ) : ℝ) : EReal) := by
  pointwise [binFrac, binPos]
  rw [hv, lit63, ← EReal.coe_mul, floor_coe, ← EReal.coe_sub]

theorem shifted_read (c : FVec Ideal S72x16 .f32) (t : Fin 6) (q : Fin 16) (r : Fin 72) (hr : r.val = n.val + 2) :
    shifted c (ix2 r (laneNo t q)) = c (ix2 (rowNo n t) q) := by
  pointwise [shifted, laneNo, rowNo]
  fin_cases t
  all_goals
    simp only [Nat.mul_zero, Nat.zero_add, Nat.add_zero]
    repeat' (first | rw [dif_pos (by omega)] | rw [dif_neg (by omega)])
    exact congrArg c (congrArg₂ ix2 (Fin.ext (by (try simp only []) <;> omega)) (Fin.ext (by (try simp only []) <;> omega)))

include hv hn in
theorem picked_read (c : FVec Ideal S72x16 .f32) (T : Fin 72 → Fin 16 → ℝ) (hc : ∀ r q, c (ix2 r q) = ((T r q : ℝ) : EReal)) (t : Fin 6) (q : Fin 16) :
    picked c v (ix2 (laneNo t q) hw) = ((T (rowNo n t) q : ℝ) : EReal) := by
  pointwise [picked]
  simp only [onehot_read v x n hw hv hn]
  rw [Finset.sum_eq_single (⟨n.val + 2, by omega⟩ : Fin 72)]
  · rw [shifted_read n c t q _ rfl, if_pos rfl, hc, EReal.coe_one, mul_one]
  · intro r _ hr
    rw [if_neg fun e => hr (Fin.ext e), EReal.coe_zero, mul_zero]
  · exact fun h => absurd (Finset.mem_univ _) h

theorem tapSum_read (f : FVec Ideal S1x4096 .f32) (s : FVec Ideal S96x4096 .f32) (u : ℝ) (S : Fin 6 → ℝ) (q : Fin 16)
    (hf : f (ix2 0 hw) = (u : EReal)) (hs : ∀ t, s (ix2 (laneNo t q) hw) = ((S t : ℝ) : EReal)) :
    tapSum f s (ix2 q hw) = ((∑ t, Math.piece t u * S t : ℝ) : EReal) := by
  have e0 := hs 0
  have e1 := hs 1
  have e2 := hs 2
  have e3 := hs 3
  have e4 := hs 4
  have e5 := hs 5
  pointwise [tapSum, spread, horner]
  rw [show (ix2 (⟨q.val, by omega⟩ : Fin 96) hw : S96x4096.Idx) = ix2 (laneNo 0 q) hw from congrArg (fun y => ix2 y hw) (Fin.ext (by simp [laneNo])), e0,
    show (ix2 (⟨16 + q.val, by omega⟩ : Fin 96) hw : S96x4096.Idx) = ix2 (laneNo 1 q) hw from congrArg (fun y => ix2 y hw) (Fin.ext (by simp [laneNo])), e1,
    show (ix2 (⟨32 + q.val, by omega⟩ : Fin 96) hw : S96x4096.Idx) = ix2 (laneNo 2 q) hw from congrArg (fun y => ix2 y hw) (Fin.ext (by simp [laneNo])), e2,
    show (ix2 (⟨48 + q.val, by omega⟩ : Fin 96) hw : S96x4096.Idx) = ix2 (laneNo 3 q) hw from congrArg (fun y => ix2 y hw) (Fin.ext (by simp [laneNo])), e3,
    show (ix2 (⟨64 + q.val, by omega⟩ : Fin 96) hw : S96x4096.Idx) = ix2 (laneNo 4 q) hw from congrArg (fun y => ix2 y hw) (Fin.ext (by simp [laneNo])), e4,
    show (ix2 (⟨80 + q.val, by omega⟩ : Fin 96) hw : S96x4096.Idx) = ix2 (laneNo 5 q) hw from congrArg (fun y => ix2 y hw) (Fin.ext (by simp [laneNo])), e5]
  simp only [hf, nm_m1, nm_p5, nm_m10, nm_p10, nm_m5, nm_p1, nm_m20, nm_p20, nm_m50, nm_p26, nm_p66, nm_p50, litMHalf, litQuarter, ← EReal.coe_mul, ← EReal.coe_add]
  congr 1
  rw [Fin.sum_univ_six]
  simp only [Math.piece, poly]
  simp
  ring

theorem mixed_read (m0 m1 m2 m3 : Ideal .f32) (c0 c1 c2 c3 : Vec Ideal S72x16 .f32) (M : Fin 4 → ℝ) (T : Fin 4 → Fin 72 → Fin 16 → ℝ)
    (h0 : m0 = ((M 0 : ℝ) : EReal)) (h1 : m1 = ((M 1 : ℝ) : EReal)) (h2 : m2 = ((M 2 : ℝ) : EReal)) (h3 : m3 = ((M 3 : ℝ) : EReal))
    (k0 : ∀ r q, c0 (ix2 r q) = ((T 0 r q : ℝ) : EReal)) (k1 : ∀ r q, c1 (ix2 r q) = ((T 1 r q : ℝ) : EReal))
    (k2 : ∀ r q, c2 (ix2 r q) = ((T 2 r q : ℝ) : EReal)) (k3 : ∀ r q, c3 (ix2 r q) = ((T 3 r q : ℝ) : EReal)) (r : Fin 72) (q : Fin 16) :
    mixed m0 m1 m2 m3 c0 c1 c2 c3 (ix2 r q) = ((∑ i, M i * T i r q : ℝ) : EReal) := by
  pointwise [mixed]
  rw [h0, h1, h2, h3, k0, k1, k2, k3]
  simp only [← EReal.coe_mul, ← EReal.coe_add]
  rw [Fin.sum_univ_four]

include hv hn in
theorem rowPure_read (m0 m1 m2 m3 : Ideal .f32) (c0 c1 c2 c3 : Vec Ideal S72x16 .f32) (kl : Vec Ideal S16x4096 .f32) (M : Fin 4 → ℝ) (T : Fin 4 → Fin 72 → Fin 16 → ℝ) (K : Fin 16 → ℝ)
    (h0 : m0 = ((M 0 : ℝ) : EReal)) (h1 : m1 = ((M 1 : ℝ) : EReal)) (h2 : m2 = ((M 2 : ℝ) : EReal)) (h3 : m3 = ((M 3 : ℝ) : EReal))
    (k0 : ∀ r q, c0 (ix2 r q) = ((T 0 r q : ℝ) : EReal)) (k1 : ∀ r q, c1 (ix2 r q) = ((T 1 r q : ℝ) : EReal))
    (k2 : ∀ r q, c2 (ix2 r q) = ((T 2 r q : ℝ) : EReal)) (k3 : ∀ r q, c3 (ix2 r q) = ((T 3 r q : ℝ) : EReal))
    (hk : ∀ q, kl (ix2 q hw) = ((K q : ℝ) : EReal)) :
    rowPure v m0 m1 m2 m3 c0 c1 c2 c3 kl (ix2 0 hw) = ((∑ q, (∑ t, wt (x * 63) t * ∑ i, M i * T i (rowNo n t) q) * K q : ℝ) : EReal) := by
  pointwise [rowPure]
  simp only [hk, fun q => tapSum_read hw (binFrac v) (picked (mixed m0 m1 m2 m3 c0 c1 c2 c3) v) _ _ q (binFrac_read v x hw hv)
    fun t => picked_read v x n hw hv hn _ (fun r q => ∑ i, M i * T i r q) (mixed_read m0 m1 m2 m3 c0 c1 c2 c3 M T h0 h1 h2 h3 k0 k1 k2 k3) t q,
    ← EReal.coe_mul, coe_sum, wt_piece]

end Cert.KernelIdeal.Body

end
-- ==== Proof.KI.Layer.lean ====
/- The kernel's histogram step, read as real numbers. -/
module

public import proofs.«01_k».proof.Proof.KI.Row

@[expose] public section

set_option maxRecDepth 16384
set_option maxHeartbeats 4000000

noncomputable section

namespace Cert.KernelIdeal.Body

open Idealize.ShloMosaic Idealize.ShloMosaic.TcCoe Cert.KernelIdeal.Gen Cert.Math

/-! ## A layer's voxels, tile by tile -/

/-- The pixels of one tile, over sixteen slices, are the tile's voxels. -/
theorem sum_tile (G : Fin 16 → Fin 64 → Fin 64 → ℝ) (j k : Fin 4) :
    ∑ r : Fin 16, ∑ hw : Fin 4096, G r ⟨hw.val / 64, by omega⟩ ⟨hw.val % 64, by omega⟩ * (if hw.val / 64 / 16 * 4 + hw.val % 64 / 16 = 4 * j.val + k.val then 1 else 0)
      = ∑ K : Fin 4096, G ⟨K.val / 256, by omega⟩ ⟨j.val * 16 + K.val / 16 % 16, by omega⟩ ⟨k.val * 16 + K.val % 16, by omega⟩ := by
  have hj := j.isLt
  have hk := k.isLt
  rw [← Fintype.sum_prod_type' (f := fun (r : Fin 16) (hw : Fin 4096) => G r ⟨hw.val / 64, by omega⟩ ⟨hw.val % 64, by omega⟩ * (if hw.val / 64 / 16 * 4 + hw.val % 64 / 16 = 4 * j.val + k.val then 1 else 0))]
  simp only [mul_ite, mul_one, mul_zero]
  rw [← Finset.sum_filter]
  refine Finset.sum_nbij' (fun p => (⟨p.1.val * 256 + p.2.val / 64 % 16 * 16 + p.2.val % 16, by have := p.1.isLt; omega⟩ : Fin 4096))
    (fun K => ((⟨K.val / 256, by omega⟩, ⟨(j.val * 16 + K.val / 16 % 16) * 64 + (k.val * 16 + K.val % 16), by omega⟩) : Fin 16 × Fin 4096)) ?_ ?_ ?_ ?_ ?_
  · exact fun _ _ => Finset.mem_univ _
  · intro K _
    rw [Finset.mem_filter]
    refine ⟨Finset.mem_univ _, ?_⟩
    dsimp only
    omega
  · rintro ⟨r, hw⟩ h
    have h := (Finset.mem_filter.mp h).2
    have h1 := r.isLt
    have h2 := hw.isLt
    dsimp only at h ⊢
    refine Prod.ext (Fin.ext ?_) (Fin.ext ?_) <;> dsimp only <;> omega
  · rintro K _
    have h2 := K.isLt
    refine Fin.ext ?_
    dsimp only
    omega
  · rintro ⟨r, hw⟩ h
    have h := (Finset.mem_filter.mp h).2
    have h1 := r.isLt
    have h2 := hw.isLt
    dsimp only at h ⊢
    congr 1 <;> (try congr 1) <;> (try refine Fin.ext ?_) <;> (try dsimp only) <;> omega

/-! ## The counts -/

theorem sliceHist_read (v : Vec Ideal S1x1x4096 .f32) (s : Vec Ideal S4096x16 .f32) (b : Fin 64) (q : Fin 16) (f S : Fin 4096 → ℝ)
    (hv : ∀ hw, v (ix3 0 0 hw) = ((f hw : ℝ) : EReal)) (hs : ∀ hw, s (ix2 hw q) = ((S hw : ℝ) : EReal)) :
    sliceHist v s (ix2 b q) = ((∑ hw, Real.exp (-500000 * ((f hw - (b.val : ℝ) / 63) * (f hw - (b.val : ℝ) / 63))) * S hw : ℝ) : EReal) := by
  pointwise [sliceHist, centres]
  simp only [hv, hs, nm_inv63, nat_coe (show b.val < 100000 by omega), litK, ← EReal.coe_mul, ← EReal.coe_sub, Ideal.exp_coe, coe_sum]
  congr 1
  refine Finset.sum_congr rfl fun hw _ => ?_
  congr 2
  ring

theorem foldl_addf (g : Fin 16 → FVec Ideal S64x16 .f32) (l : List (Fin 16)) (z : FVec Ideal S64x16 .f32) (i : S64x16.Idx) (G : Fin 16 → ℝ) (hg : ∀ r, g r i = ((G r : ℝ) : EReal))
    (a : ℝ) (hz : z i = (a : EReal)) : l.foldl (fun a r => addf a (g r)) z i = ((a + (l.map G).sum : ℝ) : EReal) := by
  induction l generalizing z a with
  | nil => simpa using hz
  | cons r l ih =>
    rw [List.foldl_cons, ih (addf z (g r)) (a + G r) (by show z i + g r i = _; rw [hz, hg, ← EReal.coe_add]), List.map_cons, List.sum_cons, add_assoc]

theorem sumHist_read (v : Fin 16 → Vec Ideal S1x1x4096 .f32) (s : Vec Ideal S4096x16 .f32) (i : S64x16.Idx) (G : Fin 16 → ℝ) (hg : ∀ r, sliceHist (v r) s i = ((G r : ℝ) : EReal)) :
    sumHist v s i = ((∑ r, G r : ℝ) : EReal) := by
  unfold sumHist
  rw [foldl_addf (fun r => sliceHist (v r) s) iters _ i G hg 0 (by show Ideal.ofBits .f32 0x00000000#32 = _; rw [Ideal.ofBits_zero_f32]; rfl), zero_add, Fin.sum_univ_def]
  rfl

variable (W : Fin 64 → ℝ) (hW : ∀ b, 0 ≤ W b) (q : Fin 16)

include hW in
theorem clipHist_read (p : FVec Ideal S64x16 .f32) (hp : ∀ b, p (ix2 b q) = ((W b : ℝ) : EReal)) (b : Fin 64) : clipHist p (ix2 b q) = ((count eps W b : ℝ) : EReal) := by
  have hd := denom_pos hW
  pointwise [clipHist, overBins]
  simp only [hp, litI4096, litEps, lit4096, lit256, ← EReal.coe_mul, coe_sum, mul_one_div]
  rw [← EReal.coe_add, div_coe hd.ne', ← EReal.coe_mul, coe_min]
  rfl

theorem respread_read (p : FVec Ideal S64x16 .f32) (hp : ∀ b, p (ix2 b q) = ((count eps W b : ℝ) : EReal)) (b : Fin 64) : respread p (ix2 b q) = ((evened eps W b : ℝ) : EReal) := by
  pointwise [respread, share, left, excess, overBins]
  simp only [hp, coe_sum, lit4096, litI64, lit64, ← EReal.coe_sub, ← EReal.coe_mul, mul_one_div, floor_coe, nat_coe (show b.val < 100000 by omega), bit_num, EReal.coe_lt_coe_iff, ← EReal.coe_add, decide_eq_true_eq]
  rw [show (4096 - ∑ b, count eps W b) = over eps W from rfl, mul_comm _ (64 : ℝ)]
  rfl

theorem sge_bit : ∀ r x : Fin 64, IntOp.cmpi .sge (BitVec.ofNat 32 r.val) (BitVec.ofNat 32 x.val) = BitVec.ofBool (decide (x.val ≤ r.val)) := by decide +kernel

theorem cumul_read (p : FVec Ideal S64x16 .f32) (hp : ∀ b, p (ix2 b q) = ((evened eps W b : ℝ) : EReal)) (b : Fin 64) : cumul p (ix2 b q) = ((cdf eps W b : ℝ) : EReal) := by
  pointwise [cumul, triangle]
  simp only [hp, sge_bit, bit_num, decide_eq_true_eq, litScale, ← EReal.coe_mul, coe_sum, ite_mul, one_mul, zero_mul]
  rw [mul_div_assoc']
  rfl

/-- A layer's running sums. -/
theorem layerOf_read (v : Fin 64 → Fin 64 → Fin 64 → ℝ) (i j k : Fin 4) (x1 : Vec Ideal S16x1x4096 .f32) (x3 : Vec Ideal S4096x16 .f32)
    (h1 : ∀ (r : Fin 16) (hw : Fin 4096), x1 (ix3 r 0 hw) = ((v ⟨i.val * 16 + r.val, by omega⟩ ⟨hw.val / 64, by omega⟩ ⟨hw.val % 64, by omega⟩ : ℝ) : EReal))
    (h3 : ∀ (hw : Fin 4096) (q : Fin 16), x3 (ix2 hw q) = (((if hw.val / 64 / 16 * 4 + hw.val % 64 / 16 = q.val then 1 else 0) : ℝ) : EReal)) (b : Fin 64) :
    layerOf x1 x3 (ix2 b ⟨4 * j.val + k.val, by omega⟩) = ((tab v b i j k : ℝ) : EReal) := by
  unfold layerOf
  refine cumul_read _ _ _ (fun b => respread_read _ _ _ (fun b => clipHist_read (tileW v (tileNo i j k)) (tileW_nonneg v _) _ _ (fun b => ?_) b) b) b
  rw [sumHist_read _ _ _ _ fun r => sliceHist_read _ _ b _ _ _ (fun hw => ?_) fun hw => h3 hw _]
  · rw [sum_tile (fun r h w => Real.exp (-500000 * ((v ⟨i.val * 16 + r.val, by omega⟩ h w - (b.val : ℝ) / 63) * (v ⟨i.val * 16 + r.val, by omega⟩ h w - (b.val : ℝ) / 63)))) j k]
    congr 1
    unfold tileW
    refine Finset.sum_congr rfl fun K _ => ?_
    have : v ⟨i.val * 16 + K.val / 256, by omega⟩ ⟨j.val * 16 + K.val / 16 % 16, by omega⟩ ⟨k.val * 16 + K.val % 16, by omega⟩ = tileV v (tileNo i j k) K := by
      unfold tileV
      congr 1 <;> (try congr 1) <;> (try refine Fin.ext ?_) <;> dsimp only [tileNo] <;> omega
    rw [this]
  · refine Eq.trans ?_ (h1 r hw)
    show x1 _ = x1 _
    rw [ix3_eq_valueIdx]
    rfl

/-! ## The sliding tables -/

/-- The bin that a row of the tables holds. -/
def rowBin (r : Fin 72) : Fin 64 := ⟨(fold 64 ((r.val : ℤ) - 4)).toNat, by
  have := fold_nonneg (n := 64) (by omega) ((r.val : ℤ) - 4); have := fold_lt (n := 64) (by omega) ((r.val : ℤ) - 4); omega⟩
theorem rowBin_val : ∀ r : Fin 72, (rowBin r).val = if r.val < 4 then 3 - r.val else if r.val < 68 then r.val - 4 else 131 - r.val := by decide

theorem mirrored_read (p : FVec Ideal S64x16 .f32) (r : Fin 72) : mirrored p (ix2 r q) = p (ix2 (rowBin r) q) := by
  have hr := rowBin_val r
  pointwise [mirrored]
  repeat' split
  all_goals exact congrArg p (congrArg (fun y => ix2 y q) (Fin.ext (by
    rw [hr]; dsimp only; split_ifs <;> omega)))

theorem mask_bit : ∀ (i : Fin 4) (q : Fin 64), IntOp.andi (IntOp.cmpi .sge (BitVec.ofNat 32 q.val) (Scalar.muli (BitVec.ofNat 32 i.val) 16#32))
    (IntOp.cmpi .slt (BitVec.ofNat 32 q.val) (Scalar.addi (Scalar.muli (BitVec.ofNat 32 i.val) 16#32) 16#32)) = BitVec.ofBool (decide (q.val / 16 = i.val)) := by decide +kernel

theorem addLayer_read (i : grid0.Coords) (I : Fin 4) (hi : (i 0).val = I.val) (p : FVec Ideal S64x16 .f32) (old : Vec Ideal S72x64 .f32) (r : Fin 72) (l : Fin 64) (a c : ℝ)
    (ha : old (ix2 r l) = (a : EReal)) (hc : p (ix2 (rowBin r) ⟨l.val % 16, by omega⟩) = (c : EReal)) :
    addLayer i p old (ix2 r l) = ((a + (if l.val / 16 = I.val then c else 0) : ℝ) : EReal) := by
  have hm : mirrored p (ix2 r ⟨l.val % 16, by omega⟩) = (c : EReal) := (mirrored_read _ _ _).trans hc
  pointwise [addLayer]
  rw [hi, mask_bit I l, bit_num, ha]
  have key : ∀ y : EReal, y = (c : EReal) → ((a : ℝ) : EReal) + y * (((if decide (l.val / 16 = I.val) = true then 1 else 0) : ℝ) : EReal) = ((a + (if l.val / 16 = I.val then c else 0) : ℝ) : EReal) := by
    rintro y rfl
    rw [← EReal.coe_mul, ← EReal.coe_add]
    simp only [decide_eq_true_eq, mul_ite, mul_one, mul_zero]
  refine key _ ?_
  rw [← hm]
  repeat' split
  all_goals exact congrArg (mirrored p) (congrArg (ix2 r) (Fin.ext (by dsimp only; omega)))

end Cert.KernelIdeal.Body

end
-- ==== Proof.KI.Host.lean ====
/- What the idealized kernel's host operations hand to it: the spline's table of an axis, its products over two
   axes, the tiles of a slice, the input's slices. -/
module

public import proofs.«01_k».proof.Proof.KI.Base
public import Idealize.ShloMosaic.Lib.StableHlo.RunRead

@[expose] public section

set_option maxRecDepth 16384
set_option maxHeartbeats 4000000

noncomputable section

namespace Cert.KernelIdeal.Body

open Idealize.ShloMosaic Idealize.ShloMosaic.TcCoe Idealize.ShloMosaic.StableHlo Cert.KernelIdeal.Gen

variable {F : FTy → Type} [FloatOps F] [Named F]

namespace Host

/-- Two pieces of an evenly spaced line, its last point apart. -/
def cat64 (a : FVec F S63 .f32) (b : FVec F S1 .f32) : FVec F S64 .f32 := concatenate S64 0 [⟨S63, a⟩, ⟨S1, b⟩] concatenates_S63_S1_S64_d0
theorem cat64_eq (a : FVec F S63 .f32) (b : FVec F S1 .f32) (h) : concatenate S64 0 [⟨S63, a⟩, ⟨S1, b⟩] h = cat64 a b := rfl

/-- The fractions of the line. -/
def ramp : FVec F S63 .f32 := Host.divf (sitofp .f32 (iotaInDim S63 32 0)) (broadcastInDim S63 ![] bcast_S_S63 (constant S_ .f32 0x427C0000#32))
/-- Sixty-four evenly spaced points. -/
def line (a b : FVec F S_ .f32) : FVec F S64 .f32 :=
  cat64 (addf (mulf (broadcastInDim S63 ![0] bcast_S1_S63_0 (shapeCast S1 a shapeCasts_S_S1)) (subf (broadcastInDim S63 ![] bcast_S_S63 (constant S_ .f32 0x3F800000#32)) ramp))
    (mulf (broadcastInDim S63 ![0] bcast_S1_S63_0 (shapeCast S1 b shapeCasts_S_S1)) ramp)) (broadcastInDim S1 ![] bcast_S_S1 b)
/-- The grid's coordinates along an axis. -/
def axisLine : FVec F S64 .f32 := line (constant S_ .f32 0xBF100000#32) (constant S_ .f32 0x40640000#32)

/-- The six grid points about each. -/
def near : FVec F S64x6 .f32 :=
  addf (broadcastInDim S64x6 ![0, 1] bcast_S64x1_S64x6_0_1 (broadcastInDim S64x1 ![0] bcast_S64_S64x1_0 (Host.floor axisLine)))
    (broadcastInDim S64x6 ![0, 1] bcast_S1x6_S64x6_0_1 (sitofp .f32 (broadcastInDim S1x6 ![1] bcast_S6_S1x6_1
      (addi (broadcastInDim S6 ![] bcast_S_S6 (constantI S_ 32 4294967294#32)) (iotaInDim S6 32 0)))))
/-- The distances to them. -/
def dists : FVec F S64x6 .f32 :=
  Host.absf (subf (broadcastInDim S64x6 ![0, 1] bcast_S64x1_S64x6_0_1 (broadcastInDim S64x1 ![0] bcast_S64_S64x1_0 axisLine)) near)
/-- `max (c - d) 0`. -/
def ramped (c : BitVec 32) (d : FVec F S64x6 .f32) : FVec F S64x6 .f32 :=
  maximumf (broadcastInDim S64x6 ![] bcast_S_S64x6 (constant S_ .f32 0x00000000#32)) (subf (broadcastInDim S64x6 ![] bcast_S_S64x6 (constant S_ .f32 c)) d)
/-- The fifth power. -/
def pow5 (v : FVec F S64x6 .f32) : FVec F S64x6 .f32 := mulf v (mulf (mulf v v) (mulf v v))
/-- The quintic spline's weights. -/
def weights : FVec F S64x6 .f32 :=
  Host.divf (addf (subf (pow5 (ramped 0x40400000#32 dists)) (mulf (broadcastInDim S64x6 ![] bcast_S_S64x6 (constant S_ .f32 0x40C00000#32)) (pow5 (ramped 0x40000000#32 dists))))
      (mulf (broadcastInDim S64x6 ![] bcast_S_S64x6 (constant S_ .f32 0x41700000#32)) (pow5 (ramped 0x3F800000#32 dists))))
    (broadcastInDim S64x6 ![] bcast_S_S64x6 (constant S_ .f32 0x42F00000#32))

/-- The divisor, one in place of zero. -/
def divisor : S_.Idx → BitVec 32 := select (cmpi .eq (constantI S_ 32 8#32) (constantI S_ 32 0#32)) (constantI S_ 32 1#32) (constantI S_ 32 8#32)
/-- The remainder that truncates. -/
def remI0 (a : S64x6.Idx → BitVec 32) : S64x6.Idx → BitVec 32 := Host.remsi a (broadcastInDim S64x6 ![] bcast_S_S64x6 divisor)
/-- The remainder of the divisor's sign. -/
def remI (a : S64x6.Idx → BitVec 32) : S64x6.Idx → BitVec 32 :=
  select (andi (cmpi .ne (cmpi .slt (remI0 a) (broadcastInDim S64x6 ![] bcast_S_S64x6 (constantI S_ 32 0#32)))
      (broadcastInDim S64x6 ![] bcast_S_S64x6 (cmpi .slt divisor (constantI S_ 32 0#32))))
      (cmpi .ne (remI0 a) (broadcastInDim S64x6 ![] bcast_S_S64x6 (constantI S_ 32 0#32))))
    (addi (remI0 a) (broadcastInDim S64x6 ![] bcast_S_S64x6 divisor)) (remI0 a)
/-- An index reflected at the edges of four cells. -/
def foldI (a : S64x6.Idx → BitVec 32) : S64x6.Idx → BitVec 32 :=
  select (cmpi .sge (remI a) (broadcastInDim S64x6 ![] bcast_S_S64x6 (constantI S_ 32 4#32)))
    (subi (broadcastInDim S64x6 ![] bcast_S_S64x6 (constantI S_ 32 7#32)) (remI a)) (remI a)

/-- The weight of every cell for every coordinate. -/
def mTable : FVec F S64x4 .f32 :=
  Host.reduceAdd (mulf (broadcastInDim S64x6x4 ![0, 1, 2] bcast_S64x6x1_S64x6x4_0_1_2 (broadcastInDim S64x6x1 ![0, 1] bcast_S64x6_S64x6x1_0_1 weights))
    (uitofp .f32 (cmpi .eq (broadcastInDim S64x6x4 ![0, 1, 2] bcast_S64x6x1_S64x6x4_0_1_2 (broadcastInDim S64x6x1 ![0, 1] bcast_S64x6_S64x6x1_0_1 (foldI (fptosi 32 (near (F := F))))))
      (broadcastInDim S64x6x4 ![0, 1, 2] bcast_S1x1x4_S64x6x4_0_1_2 (broadcastInDim S1x1x4 ![2] bcast_S4_S1x1x4_2 (iotaInDim S4 32 0))))))
    (constant S_ .f32 0x00000000#32) reducesTo_S64x6x4_S64x4_d1 h_S_

/-- Their products over two axes. -/
def klTable : FVec F S16x4096 .f32 :=
  shapeCast S16x4096 (mulf (broadcastInDim S4x4x64x64 ![0, 1, 2, 3] bcast_S4x1x64x1_S4x4x64x64_0_1_2_3 (broadcastInDim S4x1x64x1 ![0, 2] bcast_S4x64_S4x1x64x1_0_2 (transpose S4x64 [1, 0] mTable transposes_S64x4_S4x64_1_0)))
    (broadcastInDim S4x4x64x64 ![0, 1, 2, 3] bcast_S1x4x1x64_S4x4x64x64_0_1_2_3 (broadcastInDim S1x4x1x64 ![1, 3] bcast_S4x64_S1x4x1x64_1_3 (transpose S4x64 [1, 0] mTable transposes_S64x4_S4x64_1_0)))) shapeCasts_S4x4x64x64_S16x4096

/-- A quotient by sixteen, rounded down. -/
def floorDiv (a : S64x64.Idx → BitVec 32) : S64x64.Idx → BitVec 32 :=
  select (andi (cmpi .ne (signi a) (broadcastInDim S64x64 ![] bcast_S_S64x64 (signi (constantI S_ 32 16#32))))
      (cmpi .ne (Host.remsi a (broadcastInDim S64x64 ![] bcast_S_S64x64 (constantI S_ 32 16#32))) (broadcastInDim S64x64 ![] bcast_S_S64x64 (constantI S_ 32 0#32))))
    (subi (Host.divsi a (broadcastInDim S64x64 ![] bcast_S_S64x64 (constantI S_ 32 16#32))) (broadcastInDim S64x64 ![] bcast_S_S64x64 (constantI S_ 32 1#32)))
    (Host.divsi a (broadcastInDim S64x64 ![] bcast_S_S64x64 (constantI S_ 32 16#32)))

/-- A one where the pixel lies in the tile. -/
def sTable : FVec F S4096x16 .f32 :=
  uitofp .f32 (cmpi .eq (broadcastInDim S4096x16 ![0, 1] bcast_S4096x1_S4096x16_0_1 (shapeCast S4096x1
      (addi (muli (floorDiv (broadcastInDim S64x64 ![0] bcast_S64_S64x64_0 (iotaInDim S64 32 0))) (broadcastInDim S64x64 ![] bcast_S_S64x64 (constantI S_ 32 4#32)))
        (floorDiv (broadcastInDim S64x64 ![1] bcast_S64_S64x64_1 (iotaInDim S64 32 0)))) shapeCasts_S64x64_S4096x1))
    (broadcastInDim S4096x16 ![0, 1] bcast_S1x16_S4096x16_0_1 (broadcastInDim S1x16 ![1] bcast_S16_S1x16_1 (iotaInDim S16 32 0))))

/-- The input's slices. -/
def slices (x : FVec F S1x1x64x64x64 .f32) : FVec F S64x1x4096 .f32 := shapeCast S64x1x4096 x shapeCasts_S1x1x64x64x64_S64x1x4096

end Host

variable (m : (ℓ : Loc nD τ sig) → Buf (Elt F) ℓ)

theorem V_m (c : Dev nD) : V m c main_v59 = Host.mTable := by
  after_reads_simp [Host.cat64_eq]
  (try simp -implicitDefEqProofs only [StableHlo.TRef.ofBuf_toBuf, StableHlo.TRef.toBuf, StableHlo.TRef.ofBuf, cast_eq]); first | done | exact rfl
theorem V_kl (c : Dev nD) : V m c main_v67 = Host.klTable := by
  after_reads_simp [Host.cat64_eq]
  (try simp -implicitDefEqProofs only [StableHlo.TRef.ofBuf_toBuf, StableHlo.TRef.toBuf, StableHlo.TRef.ofBuf, cast_eq]); first | done | exact rfl
theorem V_s (c : Dev nD) : V m c main_v83 = Host.sTable := by
  after_reads_simp [Host.cat64_eq]
  (try simp -implicitDefEqProofs only [StableHlo.TRef.ofBuf_toBuf, StableHlo.TRef.toBuf, StableHlo.TRef.ofBuf, cast_eq]); first | done | exact rfl
theorem V_x (c : Dev nD) : V m c main_v0 = Host.slices (m (c, (main_arg0 : Ref sig .tc))) := by
  after_reads_simp [Host.cat64_eq]
  (try simp -implicitDefEqProofs only [StableHlo.TRef.ofBuf_toBuf, StableHlo.TRef.toBuf, StableHlo.TRef.ofBuf, cast_eq]); first | done | exact rfl

end Cert.KernelIdeal.Body

end
-- ==== Proof.KI.Tables.lean ====
/- The kernel's inputs read as real numbers: the spline's table of an axis, its products over two axes, the tiles of
   a slice, the slices of the volume. -/
module

public import proofs.«01_k».proof.Proof.KI.Host
public import proofs.«01_k».proof.Proof.Scalars
public import Idealize.ShloMosaic.Lib.Pipeline.ValueKit

@[expose] public section

set_option maxRecDepth 16384
set_option maxHeartbeats 4000000

noncomputable section

namespace Cert.KernelIdeal.Body

open Idealize.ShloMosaic Idealize.ShloMosaic.TcCoe Cert.KernelIdeal.Gen Cert.Math

namespace Host

theorem axisLine_read (d : Fin 64) : axisLine (F := Ideal) (ix1 d) = ((cd d : ℝ) : EReal) := by
  pointwise [axisLine, line, cat64, ramp]
  simp only [nat_coe (show d.val < 100000 by omega), litA, litB, lit63, div_coe (show (63 : ℝ) ≠ 0 by norm_num), ← EReal.coe_one,
    ← EReal.coe_mul, ← EReal.coe_sub, ← EReal.coe_add]
  split
  · congr 1; unfold cd; ring
  · congr 1; have : d.val = 63 := by omega
    unfold cd; rw [this]; norm_num

theorem weights_read (d : Fin 64) (t : Fin 6) : weights (F := Ideal) (ix2 d t) = ((wt (cd d) t : ℝ) : EReal) := by
  pointwise [weights, dists, pow5, ramped, near]
  simp only [axisLine_read, floor_coe, off_coe, ← EReal.coe_one, ← EReal.coe_add, ← EReal.coe_sub, absf_coe, lit2, lit3, lit6, lit15, lit120, max_zero_coe,
    ← EReal.coe_mul, div_coe (show (120 : ℝ) ≠ 0 by norm_num)]
  rfl

theorem near_read (d : Fin 64) (t : Fin 6) : fptosi 32 (near (F := Ideal)) (ix2 d t) = BitVec.ofInt 32 (⌊cd d⌋ + off t) := by
  have ho := off_range t
  have hc := cd_floor d
  pointwise [near]
  simp only [axisLine_read, floor_coe, off_coe, ← EReal.coe_add]
  rw [← fptosi_coe (by omega) (by omega)]
  norm_num

theorem foldI_read (a : S64x6.Idx → BitVec 32) (i : S64x6.Idx) : foldI a i = foldS 8#32 4#32 7#32 (a i) := rfl

theorem cell_read (d : Fin 64) (t : Fin 6) : foldI (fptosi 32 (near (F := Ideal))) (ix2 d t) = BitVec.ofNat 32 (cell (cd d) t).val := by
  have ho := off_range t
  have hc := cd_floor d
  rw [foldI_read, near_read, foldS_4 (by omega) (by omega)]
  rfl

theorem uitofp_eq (a b : ℕ) (ha : a < 100000) (hb : b < 100000) :
    FloatOps.uitofp (F := Ideal) .f32 (IntOp.cmpi .eq (BitVec.ofNat 32 a) (BitVec.ofNat 32 b)) = (((if a = b then 1 else 0) : ℝ) : EReal) := by
  show (((IntOp.cmpi .eq (BitVec.ofNat 32 a) (BitVec.ofNat 32 b)).toNat : ℝ) : EReal) = _
  have : IntOp.cmpi .eq (BitVec.ofNat 32 a) (BitVec.ofNat 32 b) = BitVec.ofBool (decide (a = b)) := by
    show BitVec.ofBool (BitVec.ofNat 32 a == BitVec.ofNat 32 b) = _
    congr 1
    by_cases h : a = b
    · subst h; simp
    · rw [decide_eq_false h, beq_eq_false_iff_ne]
      intro e
      have e' := congrArg BitVec.toNat e
      simp only [BitVec.toNat_ofNat] at e'
      omega
  rw [this]
  by_cases h : a = b <;> simp [h]

theorem mTable_read (d : Fin 64) (i : Fin 4) : mTable (F := Ideal) (ix2 d i) = ((mt (cd d) i : ℝ) : EReal) := by
  pointwise [mTable]
  simp only [weights_read, cell_read]
  simp only [fun t : Fin 6 => uitofp_eq (cell (cd d) t).val i.val (by omega) (by omega), ← EReal.coe_mul, coe_sum, ← Fin.ext_iff]
  rfl

theorem klTable_read (q : Fin 16) (hw : Fin 4096) : klTable (F := Ideal) (ix2 q hw)
    = ((mt (cd ⟨hw.val / 64, by omega⟩) ⟨q.val / 4, by omega⟩ * mt (cd ⟨hw.val % 64, by omega⟩) ⟨q.val % 4, by omega⟩ : ℝ) : EReal) := by
  pointwise [klTable]
  rw [mTable_read, mTable_read, ← EReal.coe_mul]

theorem floorDiv_val : ∀ k : Fin 64, floorDiv (fun _ => BitVec.ofNat 32 k.val) (ix2 0 0) = BitVec.ofNat 32 (k.val / 16) := by decide +kernel
theorem floorDiv_read (a : S64x64.Idx → BitVec 32) (i : S64x64.Idx) (k : Fin 64) (h : a i = BitVec.ofNat 32 k.val) : floorDiv a i = BitVec.ofNat 32 (k.val / 16) := by
  rw [← floorDiv_val k, ← h]; rfl

theorem sTable_read (hw : Fin 4096) (q : Fin 16) : sTable (F := Ideal) (ix2 hw q)
    = (((if hw.val / 64 / 16 * 4 + hw.val % 64 / 16 = q.val then 1 else 0) : ℝ) : EReal) := by
  pointwise [sTable]
  rw [floorDiv_read _ _ ⟨hw.val / 64, by omega⟩ (by pointwise), floorDiv_read _ _ ⟨hw.val % 64, by omega⟩ (by pointwise)]
  rw [← uitofp_eq _ _ (by omega) (by omega)]
  congr 2
  apply BitVec.eq_of_toNat_eq
  simp [IntOp.addi, IntOp.muli]

theorem slices_read (x : FVec Ideal S1x1x64x64x64 .f32) (d : Fin 64) (hw : Fin 4096) :
    slices x (ix3 d 0 hw) = x (ix5 0 0 d ⟨hw.val / 64, by omega⟩ ⟨hw.val % 64, by omega⟩) := by
  pointwise [slices]

end Host

/-! ## The windows' blocks -/

variable (m : (ℓ : Loc nD τ sig) → Buf (Elt Ideal) ℓ)

theorem index0 : ∀ t : Fin cfg0.N, (cfg0.win 0).index t = ![0, 0] := by decide +kernel
theorem index1 : ∀ t : Fin cfg0.N, t.val < 8 → (cfg0.win 1).index t = ![t.val % 4, 0, 0] := by decide +kernel
theorem index2 : ∀ t : Fin cfg0.N, (cfg0.win 2).index t = ![0, 0] := by decide +kernel
theorem index3 : ∀ t : Fin cfg0.N, (cfg0.win 3).index t = ![0, 0] := by decide +kernel

theorem blk0_read (c : Dev nD) (t : Fin cfg0.N) (d : Fin 64) (i : Fin 4) : iblk m c 0 t (ix2 d i) = Host.mTable (F := Ideal) (ix2 d i) := by
  rw [← V_m m c]
  blk_ext [iblk, index0 t]
theorem blk2_read (c : Dev nD) (t : Fin cfg0.N) (d : Fin 16) (i : Fin 4096) : iblk m c 2 t (ix2 d i) = Host.klTable (F := Ideal) (ix2 d i) := by
  rw [← V_kl m c]
  blk_ext [iblk, index2 t]
theorem blk3_read (c : Dev nD) (t : Fin cfg0.N) (d : Fin 4096) (i : Fin 16) : iblk m c 3 t (ix2 d i) = Host.sTable (F := Ideal) (ix2 d i) := by
  rw [← V_s m c]
  blk_ext [iblk, index3 t]
theorem blk1_read (c : Dev nD) (t : Fin cfg0.N) (ht : t.val < 8) (r : Fin 16) (i : Fin 4096) : iblk m c 1 t (ix3 r 0 i)
    = Host.slices (F := Ideal) (m (c, (main_arg0 : Ref sig .tc))) (ix3 ⟨t.val % 4 * 16 + r.val, by omega⟩ 0 i) := by
  rw [← V_x m c]
  blk_ext [iblk, index1 t ht]

end Cert.KernelIdeal.Body

end
-- ==== Proof.KI.Values.lean ====
/- What the kernel's scratch holds after its points, read as real numbers: the tables, the rows, their bounds. -/
module

public import proofs.«01_k».proof.Proof.KI.Layer
public import proofs.«01_k».proof.Proof.KI.Tables
public import proofs.«01_k».proof.Proof.KI.Body

@[expose] public section

set_option maxRecDepth 16384
set_option maxHeartbeats 1000000

noncomputable section

namespace Cert.KernelIdeal.Body

open Idealize.ShloMosaic Idealize.ShloMosaic.TcCoe Cert.KernelIdeal.Gen Cert.Math

variable (m : (ℓ : Loc nD τ sig) → Buf (Elt Ideal) ℓ) (c : Dev nD) (v : Fin 64 → Fin 64 → Fin 64 → ℝ)

/-- The argument at a device. -/
abbrev argOf : FVec Ideal S1x1x64x64x64 .f32 := m (c, (main_arg0 : Ref sig .tc))

variable (hx : ∀ i j k, argOf m c (ix5 0 0 i j k) = ((v i j k : ℝ) : EReal))

include hx in
theorem block_read (t : Fin cfg0.N) (ht : t.val < 8) (r : Fin 16) (hw : Fin 4096) :
    iblk m c 1 t (ix3 r 0 hw) = ((v ⟨t.val % 4 * 16 + r.val, by omega⟩ ⟨hw.val / 64, by omega⟩ ⟨hw.val % 64, by omega⟩ : ℝ) : EReal) := by
  rw [blk1_read m c t ht, Host.slices_read]
  exact hx _ _ _

theorem coord_val : ∀ t : Fin cfg0.N, (grid0.coords t 0).val = t.val := by decide +kernel

/-! ## The tables -/

/-- A table's entry: its row's bin, its lane's cell. -/
def lane (r : Fin 72) (l : Fin 64) : ℝ := tab v (rowBin r) ⟨l.val / 16, by omega⟩ ⟨l.val % 16 / 4, by omega⟩ ⟨l.val % 4, by omega⟩

include hx in
theorem tables_read (n : ℕ) (hn : n ≤ 4) (r : Fin 72) (l : Fin 64) :
    tablesAt m c n (ix2 r l) = (((if l.val / 16 < n then lane v r l else 0) : ℝ) : EReal) := by
  induction n with
  | zero =>
    rw [if_neg (by omega)]
    exact Ideal.ofBits_zero_f32
  | succ n ih =>
    have hN : n < cfg0.N := Nat.lt_of_lt_of_le (show n < 4 by omega) (by decide)
    refine (congrFun (tablesAt_hist m c ⟨n, hN⟩ (show n < 4 by omega)) _).trans ?_
    unfold stepC
    refine (addLayer_read _ ⟨n, by omega⟩ (coord_val ⟨n, hN⟩) _ _ r l _ (tab v (rowBin r) ⟨n, by omega⟩ ⟨l.val % 16 / 4, by omega⟩ ⟨l.val % 4, by omega⟩) (ih (by omega)) ?_).trans ?_
    · refine Eq.trans ?_ (layerOf_read v ⟨n, by omega⟩ ⟨l.val % 16 / 4, by omega⟩ ⟨l.val % 4, by omega⟩ (iblk m c 1 ⟨n, hN⟩) (iblk m c 3 ⟨n, hN⟩) (fun r hw => ?_) (fun hw q => ?_) _)
      · exact congrArg (fun q => layerOf _ _ (ix2 (rowBin r) q)) (Fin.ext (by dsimp only; omega))
      · refine (block_read m c v hx ⟨n, hN⟩ (show n < 8 by omega) r hw).trans ?_
        simp only [Nat.mod_eq_of_lt (show n < 4 by omega)]
      · rw [blk3_read, Host.sTable_read]
    · congr 1
      dsimp only
      by_cases h : l.val / 16 = n
      · rw [if_neg (by omega), if_pos h, if_pos (by omega), zero_add]
        unfold lane
        congr 1
        exact Fin.ext h.symm
      · rw [if_neg h, add_zero]
        by_cases h' : l.val / 16 < n
        · rw [if_pos h', if_pos (by omega)]
        · rw [if_neg h', if_neg (by omega)]

theorem tables_stay (n : ℕ) (hn : 4 ≤ n) : tablesAt m c n = tablesAt m c 4 := by
  induction n, hn using Nat.le_induction with
  | base => rfl
  | succ n hn ih => rw [tablesAt_stay m c n (by omega), ih]

include hx in
theorem cols_read (n : ℕ) (hn : 4 ≤ n) (o : Fin 4) (r : Fin 72) (q : Fin 16) :
    cols (tablesAt m c n) o (ix2 r q) = ((tab v (rowBin r) o ⟨q.val / 4, by omega⟩ ⟨q.val % 4, by omega⟩ : ℝ) : EReal) := by
  have h := tables_read m c v hx 4 le_rfl r ⟨16 * o.val + q.val, by omega⟩
  rw [tables_stay m c n hn]
  refine Eq.trans ?_ (h.trans ?_)
  · show tablesAt m c 4 _ = tablesAt m c 4 _
    rw [ix2_eq_valueIdx]
    rfl
  · rw [if_pos (by dsimp only; omega)]
    unfold lane
    congr 2 <;> refine Fin.ext ?_ <;> dsimp only <;> omega

/-! ## A row -/

/-- The value of a pixel of a slice. -/
def kval (d : Fin 64) (hw : Fin 4096) : ℝ :=
  pull (tab v) (v d ⟨hw.val / 64, by omega⟩ ⟨hw.val % 64, by omega⟩ * 63) (cd d) (cd ⟨hw.val / 64, by omega⟩) (cd ⟨hw.val % 64, by omega⟩)

theorem sum_sixteen (f : Fin 4 → Fin 4 → ℝ) : ∑ q : Fin 16, f ⟨q.val / 4, by omega⟩ ⟨q.val % 4, by omega⟩ = ∑ k, ∑ l, f k l := by
  rw [← Fintype.sum_prod_type' (f := f)]
  refine Finset.sum_nbij' (fun q => (⟨q.val / 4, by omega⟩, ⟨q.val % 4, by omega⟩)) (fun p => ⟨4 * p.1.val + p.2.val, by have := p.1.isLt; have := p.2.isLt; omega⟩)
    (fun _ _ => Finset.mem_univ _) (fun _ _ => Finset.mem_univ _) ?_ ?_ (fun _ _ => rfl)
  · intro q _; refine Fin.ext ?_; dsimp only; omega
  · rintro ⟨a, b⟩ _
    have := b.isLt
    refine Prod.ext (Fin.ext ?_) (Fin.ext ?_) <;> dsimp only <;> omega

variable (h0 : ∀ i j k, 0 ≤ v i j k) (h1 : ∀ i j k, v i j k ≤ 1)

include hx h0 h1 in
theorem row_read (t : Fin cfg0.N) (ht : 4 ≤ t.val ∧ t.val ≤ 7) (d : Fin 64) (r : Fin 16) (hd : d.val = t.val % 4 * 16 + r.val) (hw : Fin 4096) :
    rowOut (iblk m c 0 t) (iblk m c 1 t) (iblk m c 2 t) (tablesAt m c t.val) d r (ix2 0 hw) = ((kval v d hw : ℝ) : EReal) := by
  have hf := unit_floor (h0 d ⟨hw.val / 64, by omega⟩ ⟨hw.val % 64, by omega⟩) (h1 d ⟨hw.val / 64, by omega⟩ ⟨hw.val % 64, by omega⟩)
  have hM : ∀ i : Fin 4, iblk m c 0 t (ValueIdx.ix2 d i) = ((mt (cd d) i : ℝ) : EReal) := fun i => by
    rw [← ix2_eq_valueIdx, blk0_read, Host.mTable_read]
  unfold rowOut
  refine (rowPure_read (slab (iblk m c 1 t) r) (v d ⟨hw.val / 64, by omega⟩ ⟨hw.val % 64, by omega⟩) ⟨⌊v d ⟨hw.val / 64, by omega⟩ ⟨hw.val % 64, by omega⟩ * 63⌋.toNat, by omega⟩ hw ?_ ?_
    _ _ _ _ _ _ _ _ _ (fun i => mt (cd d) i) (fun i r q => tab v (rowBin r) i ⟨q.val / 4, by omega⟩ ⟨q.val % 4, by omega⟩)
    (fun q => mt (cd ⟨hw.val / 64, by omega⟩) ⟨q.val / 4, by omega⟩ * mt (cd ⟨hw.val % 64, by omega⟩) ⟨q.val % 4, by omega⟩)
    (hM 0) (hM 1) (hM 2) (hM 3) (cols_read m c v hx _ ht.1 0) (cols_read m c v hx _ ht.1 1) (cols_read m c v hx _ ht.1 2) (cols_read m c v hx _ ht.1 3) ?_).trans ?_
  · refine Eq.trans ?_ ((block_read m c v hx t (by omega) r hw).trans ?_)
    · show iblk m c 1 t _ = iblk m c 1 t _
      rw [ix3_eq_valueIdx]
      rfl
    · rw [show (⟨t.val % 4 * 16 + r.val, by omega⟩ : Fin 64) = d from Fin.ext hd.symm]
  · dsimp only; omega
  · intro q
    rw [blk2_read, Host.klTable_read]
  · congr 1
    rw [sum_sixteen (fun k l => (∑ t, wt (v d ⟨hw.val / 64, by omega⟩ ⟨hw.val % 64, by omega⟩ * 63) t *
      ∑ i, mt (cd d) i * tab v (rowBin (rowNo ⟨⌊v d ⟨hw.val / 64, by omega⟩ ⟨hw.val % 64, by omega⟩ * 63⌋.toNat, by omega⟩ t)) i k l) * (mt (cd ⟨hw.val / 64, by omega⟩) k * mt (cd ⟨hw.val % 64, by omega⟩) l))]
    unfold kval
    rw [← pull_eq]
    unfold pull'
    refine Finset.sum_congr rfl fun k _ => Finset.sum_congr rfl fun l _ => ?_
    congr 1
    refine Finset.sum_congr rfl fun s _ => ?_
    rw [show rowBin (rowNo ⟨⌊v d ⟨hw.val / 64, by omega⟩ ⟨hw.val % 64, by omega⟩ * 63⌋.toNat, by omega⟩ s) = bin (v d ⟨hw.val / 64, by omega⟩ ⟨hw.val % 64, by omega⟩ * 63) s from Fin.ext (by
      unfold rowBin rowNo bin off
      dsimp only
      congr 2
      omega)]

/-! ## The rows and their bounds -/

theorem le_rowMin (u : FVec Ideal S1x4096 .f32) (z : EReal) : z ≤ rowMin u ↔ ∀ hw, z ≤ u (ix2 0 hw) := by
  have : rowMin u = Finset.fold min (Ideal.ofBits FTy.f32 2139095040#32) (fun x : Fin 1 × Fin 4096 => u (ix2 0 x.2)) Finset.univ := by
    pointwise [rowMin]
  rw [this, litTop, Finset.le_fold_min]
  exact ⟨fun h hw => h.2 (0, hw) (Finset.mem_univ _), fun h => ⟨le_top, fun x _ => h x.2⟩⟩
theorem rowMax_le (u : FVec Ideal S1x4096 .f32) (z : EReal) : rowMax u ≤ z ↔ ∀ hw, u (ix2 0 hw) ≤ z := by
  have : rowMax u = Finset.fold max (Ideal.ofBits FTy.f32 4286578688#32) (fun x : Fin 1 × Fin 4096 => u (ix2 0 x.2)) Finset.univ := by
    pointwise [rowMax]
  rw [this, litBot, Finset.fold_max_le]
  exact ⟨fun h hw => h.2 (0, hw) (Finset.mem_univ _), fun h => ⟨bot_le, fun x _ => h x.2⟩⟩

theorem mem_iters (r : Fin 16) : r ∈ iters := by revert r; decide

theorem le_minOver (rows : Fin 16 → FVec Ideal S1x4096 .f32) (a : Ideal .f32) (z : EReal) :
    z ≤ minOver rows a ↔ z ≤ a ∧ ∀ r hw, z ≤ rows r (ix2 0 hw) := by
  have key : ∀ (l : List (Fin 16)) (a : Ideal .f32), z ≤ l.foldl (fun a r => Scalar.minimumf a (rowMin (rows r))) a ↔ z ≤ a ∧ ∀ r ∈ l, ∀ hw, z ≤ rows r (ix2 0 hw) := by
    intro l
    induction l with
    | nil => intro a; simp
    | cons r l ih =>
      intro a
      rw [List.foldl_cons, ih, show Scalar.minimumf a (rowMin (rows r)) = min a (rowMin (rows r)) from rfl, le_min_iff, le_rowMin, List.forall_mem_cons, and_assoc]
  exact (key iters a).trans ⟨fun h => ⟨h.1, fun r => h.2 r (mem_iters r)⟩, fun h => ⟨h.1, fun r _ => h.2 r⟩⟩
theorem maxOver_le (rows : Fin 16 → FVec Ideal S1x4096 .f32) (a : Ideal .f32) (z : EReal) :
    maxOver rows a ≤ z ↔ a ≤ z ∧ ∀ r hw, rows r (ix2 0 hw) ≤ z := by
  have key : ∀ (l : List (Fin 16)) (a : Ideal .f32), l.foldl (fun a r => Scalar.maximumf a (rowMax (rows r))) a ≤ z ↔ a ≤ z ∧ ∀ r ∈ l, ∀ hw, rows r (ix2 0 hw) ≤ z := by
    intro l
    induction l with
    | nil => intro a; simp
    | cons r l ih =>
      intro a
      rw [List.foldl_cons, ih, show Scalar.maximumf a (rowMax (rows r)) = max a (rowMax (rows r)) from rfl, max_le_iff, rowMax_le, List.forall_mem_cons, and_assoc]
  exact (key iters a).trans ⟨fun h => ⟨h.1, fun r => h.2 r (mem_iters r)⟩, fun h => ⟨h.1, fun r _ => h.2 r⟩⟩

section steps
variable (k : ℕ) (x0 : Vec Ideal S64x4 .f32) (x1 : Vec Ideal S16x1x4096 .f32) (x2 : Vec Ideal S16x4096 .f32) (xs0 : Vec Ideal S72x64 .f32)

theorem stepU_in (xs1 : Vec Ideal S64x4096 .f32) (d : Fin 64) (hw : Fin 4096) (h : d.val / 16 = k) :
    stepU k x0 x1 x2 xs0 xs1 (ix2 d hw) = rowOut x0 x1 x2 xs0 d ⟨d.val % 16, by omega⟩ (ix2 0 hw) := by
  rw [ix2_eq_valueIdx, ix2_eq_valueIdx]
  exact if_pos h
theorem stepU_out (xs1 : Vec Ideal S64x4096 .f32) (d : Fin 64) (hw : Fin 4096) (h : ¬ d.val / 16 = k) :
    stepU k x0 x1 x2 xs0 xs1 (ix2 d hw) = xs1 (ix2 d hw) := if_neg h
theorem stepM_zero (xs2 : Vec Ideal S2 .f32) : stepM k x0 x1 x2 xs0 xs2 (ix1 0) = minOver (fun r => rowOut x0 x1 x2 xs0 (sliceNo k r) r) (xs2 (ix1 0)) := by
  rw [ix1_eq_valueIdx]
  exact if_pos rfl
theorem stepM_one (xs2 : Vec Ideal S2 .f32) : stepM k x0 x1 x2 xs0 xs2 (ix1 1) = maxOver (fun r => rowOut x0 x1 x2 xs0 (sliceNo k r) r) (xs2 (ix1 1)) := by
  rw [ix1_eq_valueIdx]
  exact if_neg (by decide)
theorem le_stepM (xs2 : Vec Ideal S2 .f32) (z : EReal) : z ≤ stepM k x0 x1 x2 xs0 xs2 (ix1 0) ↔ z ≤ xs2 (ix1 0) ∧ ∀ r hw, z ≤ rowOut x0 x1 x2 xs0 (sliceNo k r) r (ix2 0 hw) := by
  rw [stepM_zero]; exact le_minOver _ _ z
theorem stepM_le (xs2 : Vec Ideal S2 .f32) (z : EReal) : stepM k x0 x1 x2 xs0 xs2 (ix1 1) ≤ z ↔ xs2 (ix1 1) ≤ z ∧ ∀ r hw, rowOut x0 x1 x2 xs0 (sliceNo k r) r (ix2 0 hw) ≤ z := by
  rw [stepM_one]; exact maxOver_le _ _ z
end steps

include hx h0 h1 in
theorem rows_read (u : Vec Ideal S64x4096 .f32) (n : ℕ) (hn : n ≤ 4) (d : Fin 64) (hw : Fin 4096) (hd : d.val < 16 * n) :
    rowsAt m c u (4 + n) (ix2 d hw) = ((kval v d hw : ℝ) : EReal) := by
  induction n with
  | zero => omega
  | succ n ih =>
    have hN : 4 + n < cfg0.N := Nat.lt_of_lt_of_le (show 4 + n < 9 by omega) (by decide)
    have hk := coord_val ⟨4 + n, hN⟩
    refine (congrFun (rowsAt_apply m c u ⟨4 + n, hN⟩ ⟨by dsimp only; omega, by dsimp only; omega⟩) _).trans ?_
    by_cases h : d.val / 16 = n
    · refine (stepU_in _ _ _ _ _ _ d hw (by rw [hk]; dsimp only; omega)).trans ?_
      exact row_read m c v hx h0 h1 ⟨4 + n, hN⟩ ⟨by dsimp only; omega, by dsimp only; omega⟩ d ⟨d.val % 16, by omega⟩ (by dsimp only; omega) hw
    · refine (stepU_out _ _ _ _ _ _ d hw (by rw [hk]; dsimp only; omega)).trans ?_
      exact ih (by omega) (by omega)

include hx h0 h1 in
theorem bounds_read (z : EReal) (n : ℕ) (hn : n ≤ 4) :
    (z ≤ boundsAt m c (4 + n) (ix1 0) ↔ ∀ d hw, d.val < 16 * n → z ≤ ((kval v d hw : ℝ) : EReal))
      ∧ (boundsAt m c (4 + n) (ix1 1) ≤ z ↔ ∀ d hw, d.val < 16 * n → ((kval v d hw : ℝ) : EReal) ≤ z) := by
  induction n with
  | zero =>
    have hb : boundsAt m c 4 = noRows := by
      rw [boundsAt_stay m c 3 (by omega), boundsAt_stay m c 2 (by omega), boundsAt_stay m c 1 (by omega), boundsAt_stay m c 0 (by omega)]
      rfl
    have e0 : boundsAt m c (4 + 0) (ix1 0) = (⊤ : EReal) := (congrFun hb _).trans litTop
    have e1 : boundsAt m c (4 + 0) (ix1 1) = (⊥ : EReal) := (congrFun hb _).trans litBot
    rw [e0, e1]
    exact ⟨⟨fun _ d hw h => by omega, fun _ => le_top⟩, ⟨fun _ d hw h => by omega, fun _ => bot_le⟩⟩
  | succ n ih =>
    have hN : 4 + n < cfg0.N := Nat.lt_of_lt_of_le (show 4 + n < 9 by omega) (by decide)
    have hk := coord_val ⟨4 + n, hN⟩
    have hs : ∀ r : Fin 16, (sliceNo ((grid0.coords ⟨4 + n, hN⟩ 0).val - 4) r).val = 16 * n + r.val := fun r => by
      rw [hk]; unfold sliceNo; dsimp only; omega
    have hr : ∀ (r : Fin 16) (hw : Fin 4096), rowOut (iblk m c 0 ⟨4 + n, hN⟩) (iblk m c 1 ⟨4 + n, hN⟩) (iblk m c 2 ⟨4 + n, hN⟩) (tablesAt m c (4 + n)) (sliceNo ((grid0.coords ⟨4 + n, hN⟩ 0).val - 4) r) r (ix2 0 hw)
        = ((kval v (sliceNo ((grid0.coords ⟨4 + n, hN⟩ 0).val - 4) r) hw : ℝ) : EReal) := fun r hw =>
      row_read m c v hx h0 h1 ⟨4 + n, hN⟩ ⟨by dsimp only; omega, by dsimp only; omega⟩ _ r (by rw [hs]; dsimp only; omega) hw
    have step := boundsAt_apply m c ⟨4 + n, hN⟩ ⟨by dsimp only; omega, by dsimp only; omega⟩
    have ih := ih (by omega)
    have all : ∀ P : Fin 64 → Fin 4096 → Prop, ((∀ d hw, d.val < 16 * n → P d hw) ∧ ∀ r hw, P (sliceNo ((grid0.coords ⟨4 + n, hN⟩ 0).val - 4) r) hw) ↔ ∀ d hw, d.val < 16 * (n + 1) → P d hw := fun P => by
      constructor
      · intro h d hw hd
        by_cases hl : d.val < 16 * n
        · exact h.1 d hw hl
        · have := h.2 ⟨d.val - 16 * n, by omega⟩ hw
          rwa [show sliceNo ((grid0.coords ⟨4 + n, hN⟩ 0).val - 4) ⟨d.val - 16 * n, by omega⟩ = d from Fin.ext (by rw [hs]; dsimp only; omega)] at this
      · exact fun h => ⟨fun d hw hd => h d hw (by omega), fun r hw => h _ hw (by rw [hs]; omega)⟩
    have e0 := congrFun step (ix1 0)
    have e1 := congrFun step (ix1 1)
    constructor
    · rw [← all, ← ih.1]
      refine (iff_of_eq (congrArg (z ≤ ·) e0)).trans ((le_stepM _ _ _ _ _ _ z).trans (and_congr Iff.rfl ⟨fun h r hw => ?_, fun h r hw => ?_⟩))
      · exact (h r hw).trans_eq (hr r hw)
      · exact (h r hw).trans_eq (hr r hw).symm
    · rw [← all, ← ih.2]
      refine (iff_of_eq (congrArg (· ≤ z) e1)).trans ((stepM_le _ _ _ _ _ _ z).trans (and_congr Iff.rfl ⟨fun h r hw => ?_, fun h r hw => ?_⟩))
      · exact (hr r hw).symm.trans_le (h r hw)
      · exact (hr r hw).trans_le (h r hw)

/-- The kernel's result at a pixel: the value, over the values' bounds. -/
theorem normed_read (xs1 : Vec Ideal S64x4096 .f32) (xs2 : Vec Ideal S2 .f32) (d : Fin 64) (hw : Fin 4096) :
    normed xs1 xs2 (ix3 d 0 hw) = Ideal.div (xs1 (ix2 d hw) - xs2 (ix1 0)) (xs2 (ix1 1) - xs2 (ix1 0) + (eps : EReal)) := by
  rw [ix1_eq_valueIdx, ix1_eq_valueIdx]
  pointwise [normed, k0_pay4]
  rw [litEps]

end Cert.KernelIdeal.Body

end
-- ==== Proof.R.Points.lean ====
/- The reference's points, weights and reflected indices, read as real numbers. -/
module

public import proofs.«01_k».proof.Proof.R.Frame
public import proofs.«01_k».proof.Proof.Scalars

@[expose] public section

set_option maxRecDepth 16384
set_option maxHeartbeats 4000000

noncomputable section

namespace Cert.ReferenceIdeal.Body

open Idealize.ShloMosaic Cert.ReferenceIdeal Cert.ReferenceIdeal.Facts₀ Cert.ReferenceIdeal.Facts Cert.Math

theorem axisLine_read (d : Fin 64) : axisLine (F := Ideal) (ix1 d) = ((cd d : ℝ) : EReal) := by
  pointwise [axisLine, line, cat64, ramp]
  simp only [nat_coe (show d.val < 100000 by omega), litA, litB, lit63, div_coe (show (63 : ℝ) ≠ 0 by norm_num), ← EReal.coe_one,
    ← EReal.coe_mul, ← EReal.coe_sub, ← EReal.coe_add]
  split
  · congr 1; unfold cd; ring
  · congr 1; have : d.val = 63 := by omega
    unfold cd; rw [this]; norm_num

/-- The weight of a tap, of a point's coordinate. -/
theorem weights_read (p : FVec Ideal S262144x4 .f32) (n : Fin 262144) (a : Fin 4) (t : Fin 6) (r : ℝ) (hp : p (ix2 n a) = (r : EReal)) :
    weights (dists p) (pow5 (ramped 0x40400000#32 (dists p))) (ix3 n a t) = ((wt r t : ℝ) : EReal) := by
  pointwise [weights, dists, pow5, ramped, near]
  simp only [hp, floor_coe, off_coe, ← EReal.coe_one, ← EReal.coe_add, ← EReal.coe_sub, absf_coe, lit2, lit3, lit6, lit15, lit120, max_zero_coe,
    ← EReal.coe_mul, div_coe (show (120 : ℝ) ≠ 0 by norm_num)]
  rfl

/-- The integer of a tap, of a point's coordinate. -/
theorem near_read (p : FVec Ideal S262144x4 .f32) (n : Fin 262144) (a : Fin 4) (t : Fin 6) (r : ℝ) (hp : p (ix2 n a) = (r : EReal))
    (h0 : -100 ≤ ⌊r⌋) (h1 : ⌊r⌋ < 100) : nearI (near p) (ix3 n a t) = BitVec.ofInt 32 (⌊r⌋ + off t) := by
  have ho := off_range t
  pointwise [nearI, near]
  simp only [hp, floor_coe, off_coe, ← EReal.coe_add]
  rw [← fptosi_coe (by omega) (by omega)]
  norm_num

theorem foldI_read (k n l : BitVec 32) (a : S262144x6.Idx → BitVec 32) (i : S262144x6.Idx) : foldI k n l a i = foldS k n l (a i) := rfl

theorem points_read0 (x : FVec Ideal S1x1x64x64x64 .f32) (v : Fin 64 → Fin 64 → Fin 64 → ℝ) (hx : ∀ i j k, x (ix5 0 0 i j k) = ((v i j k : ℝ) : EReal))
    (n : Fin 262144) : points x (ix2 n 0) = ((v ⟨n.val / 4096, by omega⟩ ⟨n.val / 64 % 64, by omega⟩ ⟨n.val % 64, by omega⟩ * 63 : ℝ) : EReal) := by
  pointwise [points, cat4, cat3]
  rw [hx, lit63, ← EReal.coe_mul]
theorem points_read1 (x : FVec Ideal S1x1x64x64x64 .f32) (n : Fin 262144) : points x (ix2 n 1) = ((cd ⟨n.val / 4096, by omega⟩ : ℝ) : EReal) := by
  pointwise [points, cat4, cat3]
  rw [axisLine_read]
theorem points_read2 (x : FVec Ideal S1x1x64x64x64 .f32) (n : Fin 262144) : points x (ix2 n 2) = ((cd ⟨n.val / 64 % 64, by omega⟩ : ℝ) : EReal) := by
  pointwise [points, cat4, cat3]
  rw [axisLine_read]
theorem points_read3 (x : FVec Ideal S1x1x64x64x64 .f32) (n : Fin 262144) : points x (ix2 n 3) = ((cd ⟨n.val % 64, by omega⟩ : ℝ) : EReal) := by
  pointwise [points, cat4, cat3]
  rw [axisLine_read]

/-! ## The lookup -/

theorem siIdx_read (n : Fin 262144) (a b c e : Fin 6) (q : Fin 4) :
    gather_S64x4x4x4_S262144x6x6x6x6x4_S262144x6x6x6x6_n_0123_n_n_0123_5_1111.siIdx (ix5 n a b c e) ⟨q.val, q.isLt⟩ = ix6 n a b c e q := by
  funext k
  match k with
  | ⟨0, _⟩ => rfl
  | ⟨1, _⟩ => rfl
  | ⟨2, _⟩ => rfl
  | ⟨3, _⟩ => rfl
  | ⟨4, _⟩ => rfl
  | ⟨5, _⟩ => rfl

theorem gather_read {α : Type} (t : S64x4x4x4.Idx → α) (I : S262144x6x6x6x6x4.Idx → BitVec 32) (n : Fin 262144) (a b c e : Fin 6)
    (i0 : Fin 64) (i1 i2 i3 : Fin 4) (h0 : I (ix6 n a b c e 0) = BitVec.ofNat 32 i0.val) (h1 : I (ix6 n a b c e 1) = BitVec.ofNat 32 i1.val)
    (h2 : I (ix6 n a b c e 2) = BitVec.ofNat 32 i2.val) (h3 : I (ix6 n a b c e 3) = BitVec.ofNat 32 i3.val) :
    Host.gather gather_S64x4x4x4_S262144x6x6x6x6x4_S262144x6x6x6x6_n_0123_n_n_0123_5_1111 t I (ix5 n a b c e) = t (ix4 i0 i1 i2 i3) := by
  refine congrArg t (funext fun k => Fin.ext ?_)
  match k with
  | ⟨0, _⟩ =>
    show min (I (gather_S64x4x4x4_S262144x6x6x6x6x4_S262144x6x6x6x6_n_0123_n_n_0123_5_1111.siIdx (ix5 n a b c e) ⟨((0 : Fin 4)).val, (0 : Fin 4).isLt⟩)).toInt.toNat (64 - 1) + 0 + 0 = i0.val
    rw [siIdx_read, h0, toInt_ofNat (by omega)]; omega
  | ⟨1, _⟩ =>
    show min (I (gather_S64x4x4x4_S262144x6x6x6x6x4_S262144x6x6x6x6_n_0123_n_n_0123_5_1111.siIdx (ix5 n a b c e) ⟨((1 : Fin 4)).val, (1 : Fin 4).isLt⟩)).toInt.toNat (4 - 1) + 0 + 0 = i1.val
    rw [siIdx_read, h1, toInt_ofNat (by omega)]; omega
  | ⟨2, _⟩ =>
    show min (I (gather_S64x4x4x4_S262144x6x6x6x6x4_S262144x6x6x6x6_n_0123_n_n_0123_5_1111.siIdx (ix5 n a b c e) ⟨((2 : Fin 4)).val, (2 : Fin 4).isLt⟩)).toInt.toNat (4 - 1) + 0 + 0 = i2.val
    rw [siIdx_read, h2, toInt_ofNat (by omega)]; omega
  | ⟨3, _⟩ =>
    show min (I (gather_S64x4x4x4_S262144x6x6x6x6x4_S262144x6x6x6x6_n_0123_n_n_0123_5_1111.siIdx (ix5 n a b c e) ⟨((3 : Fin 4)).val, (3 : Fin 4).isLt⟩)).toInt.toNat (4 - 1) + 0 + 0 = i3.val
    rw [siIdx_read, h3, toInt_ofNat (by omega)]; omega

end Cert.ReferenceIdeal.Body

end
-- ==== Proof.R.Volume.lean ====
/- The reference's tables of running sums, read as real numbers. -/
module

public import proofs.«01_k».proof.Proof.R.Frame
public import proofs.«01_k».proof.Proof.Scalars

@[expose] public section

set_option maxRecDepth 16384
set_option maxHeartbeats 4000000

noncomputable section

namespace Cert.ReferenceIdeal.Body

open Idealize.ShloMosaic Cert.ReferenceIdeal Cert.ReferenceIdeal.Facts₀ Cert.ReferenceIdeal.Facts Cert.Math

/-! ## A running sum along rows -/

theorem foldl_add {α : Type} (g : α → EReal) (l : List α) (r : EReal) : l.foldl (fun r n => r + g n) r = r + (l.map g).sum := by
  induction l generalizing r with
  | nil => simp
  | cons a l ih => rw [List.foldl_cons, ih, List.map_cons, List.sum_cons, add_assoc]

/-- The window's shape. -/
abbrev Win : Shape := ⟨2, ![1, 64]⟩
theorem win_numel : Win.numel = 64 := by decide
theorem win_symm (n : Fin Win.numel) : Win.rowMajor.symm n = ix2 (0 : Fin 1) (n.cast win_numel) :=
  (Win.rowMajor.symm_apply_eq).2 (Fin.ext (by
    rw [Shape.rowMajor_val_two]
    show n.val = 0 * 64 + n.val
    rw [Nat.zero_mul, Nat.zero_add]))

theorem cumsum_read (x : FVec Ideal S64x64 .f32) (z : FVec Ideal S_ .f32) (hz : ∀ i, z i = 0) (f : Fin 64 → ℝ) (i b : Fin 64)
    (hx : ∀ k, x (ix2 i k) = ((f k : ℝ) : EReal)) :
    Host.reduceWindowAdd ![1, 64] ![1, 1] ![0, 63] ![0, 0] x z reduceWindows_S64x64_S64x64_w1s1p0_0_w64s1p63_0 h_S_ (ix2 i b)
      = ((∑ k : Fin 64, if k.val ≤ b.val then f k else 0 : ℝ) : EReal) := by
  have hb := b.isLt
  show Host.reduceWindow (u := ⟨0, ![]⟩) (· + ·) ![1, 64] ![1, 1] ![0, 63] ![0, 0] x (fun _ : (⟨0, ![]⟩ : Shape).Idx => z (Shape.Idx.first h_S_)) reduceWindows_S64x64_S64x64_w1s1p0_0_w64s1p63_0 (by decide) (ix2 i b) = _
  unfold Host.reduceWindow
  rw [hz]
  refine (foldl_add _ _ _).trans ?_
  rw [zero_add]
  refine (congrArg List.sum (List.map_congr_left (g := fun n : Fin Win.numel => (((if h : 63 ≤ b.val + n.val then f ⟨b.val + n.val - 63, by have := (n.cast win_numel).isLt; simp at this; omega⟩ else 0) : ℝ) : EReal)) fun n _ => ?_)).trans ?_
  · dsimp only
    have hn : n.val < 64 := (n.cast win_numel).isLt
    have hw0 : (Win.rowMajor.symm n 0).val = 0 := by rw [win_symm]; rfl
    have hw1 : (Win.rowMajor.symm n 1).val = n.val := by rw [win_symm]; rfl
    split
    · next hin =>
      have h1 := (hin 1).1
      change 63 ≤ b.val * 1 + (Win.rowMajor.symm n 1).val at h1
      rw [hw1] at h1
      rw [dif_pos (by omega)]
      refine (congrArg x (funext fun a => Fin.ext ?_)).trans (hx ⟨b.val + n.val - 63, by omega⟩)
      match a with
      | ⟨0, _⟩ =>
        show i.val * 1 + (Win.rowMajor.symm n 0).val - 0 = i.val
        rw [hw0]; omega
      | ⟨1, _⟩ =>
        show b.val * 1 + (Win.rowMajor.symm n 1).val - 63 = b.val + n.val - 63
        rw [hw1]; omega
    · next hin =>
      rw [dif_neg fun hle => hin fun a => by
        match a with
        | ⟨0, _⟩ =>
          show 0 ≤ i.val * 1 + (Win.rowMajor.symm n 0).val ∧ i.val * 1 + (Win.rowMajor.symm n 0).val - 0 < 64
          rw [hw0]; have := i.isLt; omega
        | ⟨1, _⟩ =>
          show 63 ≤ b.val * 1 + (Win.rowMajor.symm n 1).val ∧ b.val * 1 + (Win.rowMajor.symm n 1).val - 63 < 64
          rw [hw1]; omega]
      rfl
  rw [← Fin.sum_univ_def, coe_sum]
  congr 1
  rw [show (∑ n : Fin Win.numel, if h : 63 ≤ b.val + n.val then f ⟨b.val + n.val - 63, _⟩ else 0) = ∑ n : Fin 64, if h : 63 ≤ b.val + n.val then f ⟨b.val + n.val - 63, by omega⟩ else 0 from
    Fintype.sum_equiv (finCongr win_numel) _ _ fun n => rfl]
  refine Finset.sum_bij_ne_zero (fun n _ hn => if h : 63 ≤ b.val + n.val then ⟨b.val + n.val - 63, by omega⟩ else 0) (fun _ _ _ => Finset.mem_univ _) ?_ ?_ ?_
  · intro n1 _ h1 n2 _ h2 e
    have g1 : 63 ≤ b.val + n1.val := by by_contra h; exact h1 (dif_neg h)
    have g2 : 63 ≤ b.val + n2.val := by by_contra h; exact h2 (dif_neg h)
    rw [dif_pos g1, dif_pos g2] at e
    have e' := congrArg Fin.val e
    simp only at e'
    exact Fin.ext (by omega)
  · intro k _ hk
    have gk : k.val ≤ b.val := by by_contra h; exact hk (if_neg h)
    have g : 63 ≤ b.val + (63 - b.val + k.val) := by omega
    have hv : (⟨b.val + (63 - b.val + k.val) - 63, by omega⟩ : Fin 64) = k := Fin.ext (show b.val + (63 - b.val + k.val) - 63 = k.val by omega)
    refine ⟨⟨63 - b.val + k.val, by omega⟩, Finset.mem_univ _, ?_, ?_⟩
    · rw [dif_pos g, hv]; rwa [if_pos gk] at hk
    · rw [dif_pos g, hv]
  · intro n _ hn
    have g : 63 ≤ b.val + n.val := by by_contra h; exact hn (dif_neg h)
    rw [dif_pos g, dif_pos g, if_pos (show b.val + n.val - 63 ≤ b.val by omega)]

/-! ## The tables -/

theorem unitLine_read (b : Fin 64) : line (F := Ideal) (constant S_ .f32 0x00000000#32) (constant S_ .f32 0x3F800000#32) (ix1 b) = (((b.val : ℝ) / 63 : ℝ) : EReal) := by
  pointwise [line, cat64, ramp]
  simp only [nat_coe (show b.val < 100000 by omega), lit63, div_coe (show (63 : ℝ) ≠ 0 by norm_num)]
  split
  · first | rfl | simp
  · have : b.val = 63 := by omega
    rw [this]; norm_num

variable (x : FVec Ideal S1x1x64x64x64 .f32) (v : Fin 64 → Fin 64 → Fin 64 → ℝ) (hx : ∀ i j k, x (ix5 0 0 i j k) = ((v i j k : ℝ) : EReal))

theorem gap_sq (a : ℝ) : -(1 / 2) * (a / (1 / 1000) * (a / (1 / 1000))) = -500000 * (a * a) := by ring

include hx in
theorem clipped_read (g b : Fin 64) : clipped x (ix2 g b) = ((count eps (tileW v g) b : ℝ) : EReal) := by
  have hd := denom_pos (tileW_nonneg v g)
  pointwise [clipped, meanWeights, gaps, tiles]
  simp only [hx, unitLine_read, litMHalf, lit1000, lit4096, lit256, litEps, ← EReal.coe_one, div_coe (show (1000 : ℝ) ≠ 0 by norm_num), div_coe (show (1 / 1000 : ℝ) ≠ 0 by norm_num),
    div_coe (show (4096 : ℝ) ≠ 0 by norm_num), ← EReal.coe_sub, ← EReal.coe_mul, Ideal.exp_coe, coe_sum, gap_sq]
  change min (Ideal.div ((tileW v g b / 4096 : ℝ) : EReal) (((∑ i, tileW v g i / 4096 : ℝ) : EReal) + (eps : EReal)) * ((4096 : ℝ) : EReal)) ((256 : ℝ) : EReal) = _
  rw [← EReal.coe_add, div_coe hd.ne', ← EReal.coe_mul, coe_min]
  rfl

theorem excess_read (h : FVec Ideal S64x64 .f32) (g : Fin 64) (f : Fin 64 → ℝ) (hf : ∀ b, h (ix2 g b) = ((f b : ℝ) : EReal)) :
    excess h (ix1 g) = ((4096 - ∑ b, f b : ℝ) : EReal) := by
  pointwise [excess]
  simp only [hf, coe_sum, lit4096, ← EReal.coe_sub]

theorem select_clear (q : BitVec 1) (a b : EReal) : Scalar.select (IntOp.andi (IntOp.cmpi .ne (0#1 : BitVec 1) 0#1) q) a b = b := by
  rcases BitVec.eq_zero_or_eq_one q with rfl | rfl <;> rfl

theorem residual_read (a : FVec Ideal S64 .f32) (g : Fin 64) (c : ℝ) (hc : 0 ≤ c) (ha : a (ix1 g) = (c : EReal)) :
    residual a (ix1 g) = ((c - 64 * (⌊c / 64⌋ : ℝ) : ℝ) : EReal) := by
  pointwise [residual, rem0, sixtyFour]
  have h64 : FloatOps.sitofp (F := Ideal) .f32 64#32 = ((64 : ℝ) : EReal) := by simpa using nat_coe (k := 64) (by norm_num)
  have hr : Ideal.remf (c : EReal) ((64 : ℝ) : EReal) = ((c - 64 * (⌊c / 64⌋ : ℝ) : ℝ) : EReal) := by
    rw [Ideal.remf_coe, if_neg (by norm_num)]
    congr 3
    unfold Ideal.truncInt
    rw [if_pos (by positivity)]
  have hp : 0 ≤ c - 64 * (⌊c / 64⌋ : ℝ) := by
    have := Int.floor_le (c / 64)
    linarith
  simp only [ha, h64, hr, show ¬ (((c - 64 * (⌊c / 64⌋ : ℝ) : ℝ) : EReal) < 0) from not_lt.mpr (by exact_mod_cast hp), show ¬ (((64 : ℝ) : EReal) < 0) from not_lt.mpr (by norm_num)]
  exact select_clear _ _ _

include hx in
theorem excess_clipped (g : Fin 64) : excess (clipped x) (ix1 g) = ((over eps (tileW v g) : ℝ) : EReal) :=
  excess_read _ g _ fun b => clipped_read x v hx g b
include hx in
theorem left_read (g : Fin 64) : residual (excess (clipped x)) (ix1 g)
    = ((over eps (tileW v g) - 64 * (⌊over eps (tileW v g) / 64⌋ : ℝ) : ℝ) : EReal) :=
  residual_read _ g _ (over_nonneg (tileW_nonneg v g)) (excess_clipped x v hx g)

include hx in
theorem shared_read (g b : Fin 64) : shared (clipped x) (ix2 g b)
    = ((count eps (tileW v g) b + (⌊over eps (tileW v g) / 64⌋ : ℝ) : ℝ) : EReal) := by
  pointwise [shared]
  rw [clipped_read x v hx, left_read x v hx, excess_clipped x v hx, lit64, ← EReal.coe_sub, div_coe (by norm_num), ← EReal.coe_add]
  congr 2; ring

/-- A truth value as a number. -/
theorem uitofp_decide (p : Prop) [Decidable p] : FloatOps.uitofp (F := Ideal) .f32 (BitVec.ofBool (decide p)) = (((if p then 1 else 0) : ℝ) : EReal) := by
  show (((BitVec.ofBool (decide p)).toNat : ℝ) : EReal) = _
  by_cases h : p <;> simp [h]

include hx in
theorem evened_read (g b : Fin 64) :
    addf (shared (clipped x)) (uitofp .f32 (cmpf .olt binNos (broadcastInDim S64x64 ![0, 1] bcast_S64x1_S64x64_0_1 (leftCol (clipped x))))) (ix2 g b)
      = ((evened eps (tileW v g) b : ℝ) : EReal) := by
  pointwise [binNos, leftCol]
  rw [shared_read x v hx, left_read x v hx, nat_coe (by omega), uitofp_decide, ← EReal.coe_add]
  simp only [EReal.coe_lt_coe_iff]
  rfl

include hx in
theorem volume_read (b : Fin 64) (i j k : Fin 4) : volume x (ix4 b i j k) = ((tab v b i j k : ℝ) : EReal) := by
  unfold volume
  pointwise [tables]
  refine (congrArg (fun y => Ideal.div (y * Ideal.ofBits .f32 0x427C0000#32) (Ideal.ofBits .f32 0x45800000#32))
    (cumsum_read _ _ (fun i => ?_) (evened eps (tileW v (tileNo i j k))) (tileNo i j k) b fun q => evened_read x v hx _ q)).trans ?_
  · exact Ideal.ofBits_zero_f32
  rw [lit63, lit4096, ← EReal.coe_mul, div_coe (by norm_num)]
  rfl

end Cert.ReferenceIdeal.Body

end
-- ==== Proof.R.Values.lean ====
/- The reference's interpolated values and its result, read as real numbers. -/
module

public import proofs.«01_k».proof.Proof.R.Points
public import proofs.«01_k».proof.Proof.R.Volume

@[expose] public section

set_option maxRecDepth 16384
set_option maxHeartbeats 4000000

noncomputable section

namespace Cert.ReferenceIdeal.Body

open Idealize.ShloMosaic Cert.ReferenceIdeal Cert.ReferenceIdeal.Facts₀ Cert.ReferenceIdeal.Facts Cert.Math

variable (x : FVec Ideal S1x1x64x64x64 .f32) (v : Fin 64 → Fin 64 → Fin 64 → ℝ) (hx : ∀ i j k, x (ix5 0 0 i j k) = ((v i j k : ℝ) : EReal))
variable (h0 : ∀ i j k, 0 ≤ v i j k) (h1 : ∀ i j k, v i j k ≤ 1)

/-- A cell that a tap reads, as the word that the reference computes. -/
theorem cell_read (p : S262144x6.Idx → BitVec 32) (n : Fin 262144) (t : Fin 6) (d : Fin 64) (hp : p (ix2 n t) = BitVec.ofInt 32 (⌊cd d⌋ + off t)) :
    wrapS 4#32 (foldI 8#32 4#32 7#32 p (ix2 n t)) = BitVec.ofNat 32 (cell (cd d) t).val := by
  have := cd_floor d; have := off_range t
  rw [foldI_read, hp, foldS_4 (by omega) (by omega)]
  exact wrapS_4 (cell (cd d) t)

/-- A bin that a tap reads, as the word that the reference computes. -/
theorem bin_read (p : S262144x6.Idx → BitVec 32) (n : Fin 262144) (t : Fin 6) (r : ℝ) (g0 : 0 ≤ ⌊r⌋) (g1 : ⌊r⌋ < 64) (hp : p (ix2 n t) = BitVec.ofInt 32 (⌊r⌋ + off t)) :
    wrapS 64#32 (foldI 128#32 64#32 127#32 p (ix2 n t)) = BitVec.ofNat 32 (bin r t).val := by
  have := off_range t
  rw [foldI_read, hp, foldS_64 (by omega) (by omega)]
  rfl

theorem catI_read0 (p q r s : S262144x6x6x6x6x1.Idx → BitVec 32) (n : Fin 262144) (a b c e : Fin 6) : catI p q r s (ix6 n a b c e 0) = p (ix6 n a b c e 0) := by
  pointwise [catI]
theorem catI_read1 (p q r s : S262144x6x6x6x6x1.Idx → BitVec 32) (n : Fin 262144) (a b c e : Fin 6) : catI p q r s (ix6 n a b c e 1) = q (ix6 n a b c e 0) := by
  pointwise [catI]
theorem catI_read2 (p q r s : S262144x6x6x6x6x1.Idx → BitVec 32) (n : Fin 262144) (a b c e : Fin 6) : catI p q r s (ix6 n a b c e 2) = r (ix6 n a b c e 0) := by
  pointwise [catI]
theorem catI_read3 (p q r s : S262144x6x6x6x6x1.Idx → BitVec 32) (n : Fin 262144) (a b c e : Fin 6) : catI p q r s (ix6 n a b c e 3) = s (ix6 n a b c e 0) := by
  pointwise [catI]
theorem wrap0_read (p : S262144x6.Idx → BitVec 32) (n : Fin 262144) (a b c e : Fin 6) : wrap0 p (ix6 n a b c e 0) = wrapS 64#32 (p (ix2 n a)) := by
  pointwise [wrap0]; rfl
theorem wrap1_read (p : S262144x6.Idx → BitVec 32) (n : Fin 262144) (a b c e : Fin 6) : wrap1 p (ix6 n a b c e 0) = wrapS 4#32 (p (ix2 n b)) := by
  pointwise [wrap1]; rfl
theorem wrap2_read (p : S262144x6.Idx → BitVec 32) (n : Fin 262144) (a b c e : Fin 6) : wrap2 p (ix6 n a b c e 0) = wrapS 4#32 (p (ix2 n c)) := by
  pointwise [wrap2]; rfl
theorem wrap3_read (p : S262144x6.Idx → BitVec 32) (n : Fin 262144) (a b c e : Fin 6) : wrap3 p (ix6 n a b c e 0) = wrapS 4#32 (p (ix2 n e)) := by
  pointwise [wrap3]; rfl
theorem axis0_read (p : S262144x4x6.Idx → BitVec 32) (n : Fin 262144) (t : Fin 6) : axis0 p (ix2 n t) = p (ix3 n 0 t) := by pointwise [axis0]
theorem axis1_read (p : S262144x4x6.Idx → BitVec 32) (n : Fin 262144) (t : Fin 6) : axis1 p (ix2 n t) = p (ix3 n 1 t) := by pointwise [axis1]
theorem axis2_read (p : S262144x4x6.Idx → BitVec 32) (n : Fin 262144) (t : Fin 6) : axis2 p (ix2 n t) = p (ix3 n 2 t) := by pointwise [axis2]
theorem axis3_read (p : S262144x4x6.Idx → BitVec 32) (n : Fin 262144) (t : Fin 6) : axis3 p (ix2 n t) = p (ix3 n 3 t) := by pointwise [axis3]

/-- A point's interpolated value. -/
def val (n : Fin 262144) : ℝ :=
  pull (tab v) (v ⟨n.val / 4096, by omega⟩ ⟨n.val / 64 % 64, by omega⟩ ⟨n.val % 64, by omega⟩ * 63) (cd ⟨n.val / 4096, by omega⟩) (cd ⟨n.val / 64 % 64, by omega⟩) (cd ⟨n.val % 64, by omega⟩)

include hx h0 h1 in
theorem gathered_read (n : Fin 262144) (a b c e : Fin 6) :
    gathered (volume x) (foldI 128#32 64#32 127#32 (axis0 (pointNear x))) (foldI 8#32 4#32 7#32 (axis1 (pointNear x)))
        (foldI 8#32 4#32 7#32 (axis2 (pointNear x))) (foldI 8#32 4#32 7#32 (axis3 (pointNear x))) (pointWeights x) (ix5 n a b c e)
      = ((tab v (bin (v ⟨n.val / 4096, by omega⟩ ⟨n.val / 64 % 64, by omega⟩ ⟨n.val % 64, by omega⟩ * 63) a) (cell (cd ⟨n.val / 4096, by omega⟩) b)
          (cell (cd ⟨n.val / 64 % 64, by omega⟩) c) (cell (cd ⟨n.val % 64, by omega⟩) e) * wt (cd ⟨n.val % 64, by omega⟩) e : ℝ) : EReal) := by
  have hf := unit_floor (h0 ⟨n.val / 4096, by omega⟩ ⟨n.val / 64 % 64, by omega⟩ ⟨n.val % 64, by omega⟩) (h1 ⟨n.val / 4096, by omega⟩ ⟨n.val / 64 % 64, by omega⟩ ⟨n.val % 64, by omega⟩)
  have c1 := cd_floor ⟨n.val / 4096, by omega⟩
  have c2 := cd_floor ⟨n.val / 64 % 64, by omega⟩
  have c3 := cd_floor ⟨n.val % 64, by omega⟩
  have hw : pointWeights x (ix3 n 3 e) = _ := weights_read (points x) n 3 e _ (points_read3 x n)
  unfold gathered
  pointwise [wAxis3]
  rw [hw]
  refine (congrArg (· * _) (gather_read (volume x) _ n a b c e (bin (v ⟨n.val / 4096, by omega⟩ ⟨n.val / 64 % 64, by omega⟩ ⟨n.val % 64, by omega⟩ * 63) a)
    (cell (cd ⟨n.val / 4096, by omega⟩) b) (cell (cd ⟨n.val / 64 % 64, by omega⟩) c) (cell (cd ⟨n.val % 64, by omega⟩) e) ?_ ?_ ?_ ?_)).trans ?_
  · rw [catI_read0, wrap0_read]
    exact bin_read _ n a _ hf.1 hf.2 ((axis0_read _ _ _).trans (near_read (points x) n 0 a _ (points_read0 x v hx n) (by omega) (by omega)))
  · rw [catI_read1, wrap1_read]
    exact cell_read _ n b _ ((axis1_read _ _ _).trans (near_read (points x) n 1 b _ (points_read1 x n) (by omega) (by omega)))
  · rw [catI_read2, wrap2_read]
    exact cell_read _ n c _ ((axis2_read _ _ _).trans (near_read (points x) n 2 c _ (points_read2 x n) (by omega) (by omega)))
  · rw [catI_read3, wrap3_read]
    exact cell_read _ n e _ ((axis3_read _ _ _).trans (near_read (points x) n 3 e _ (points_read3 x n) (by omega) (by omega)))
  · rw [volume_read x v hx, ← EReal.coe_mul]

include hx h0 h1 in
theorem values_read (n : Fin 262144) : values x (ix1 n) = ((val v n : ℝ) : EReal) := by
  have w0 : ∀ t, pointWeights x (ix3 n 0 t) = _ := fun t => weights_read (points x) n 0 t _ (points_read0 x v hx n)
  have w1 : ∀ t, pointWeights x (ix3 n 1 t) = _ := fun t => weights_read (points x) n 1 t _ (points_read1 x n)
  have w2 : ∀ t, pointWeights x (ix3 n 2 t) = _ := fun t => weights_read (points x) n 2 t _ (points_read2 x n)
  unfold values
  have hg := gathered_read x v hx h0 h1 n
  generalize gathered (F := Ideal) _ _ _ _ _ _ = G at hg ⊢
  pointwise [pulled, wAxis0, wAxis1, wAxis2, wAxis3]
  simp only [hg, w0, w1, w2, coe_sum, ← EReal.coe_mul]
  rfl

end Cert.ReferenceIdeal.Body

end
-- ==== Proof.R.Norm.lean ====
/- The reference's last normalisation, read at a pixel. -/
module

public import proofs.«01_k».proof.Proof.R.Values

@[expose] public section

set_option maxRecDepth 16384
set_option maxHeartbeats 4000000

noncomputable section

namespace Cert.ReferenceIdeal.Body

open Idealize.ShloMosaic Cert.ReferenceIdeal Cert.ReferenceIdeal.Facts₀ Cert.ReferenceIdeal.Facts Cert.Math

theorem drop_all (h : S262144.ReducesTo [0] S_) (i : S262144.Idx) (j : S_.Idx) : h.drop i = j := funext fun a => a.elim0

theorem le_least (u : FVec Ideal S262144 .f32) (z : EReal) (j : S_.Idx) : z ≤ least u j ↔ ∀ n, z ≤ u (ix1 n) := by
  have : least u j = (Finset.univ.filter fun i => reducesTo_S262144_S_d0.drop i = j).fold min (⊤ : EReal) u := by
    rw [← litTop]
    exact Host.reduce_eq_fold min u (constant (F := Ideal) S_ .f32 0x7F800000#32) reducesTo_S262144_S_d0 h_S_ j
  rw [this, Finset.le_fold_min]
  refine ⟨fun h n => h.2 _ (Finset.mem_filter.mpr ⟨Finset.mem_univ _, drop_all _ _ _⟩), fun h => ⟨le_top, fun i _ => ?_⟩⟩
  idx_vars i
  exact h _

theorem greatest_le (u : FVec Ideal S262144 .f32) (z : EReal) (j : S_.Idx) : greatest u j ≤ z ↔ ∀ n, u (ix1 n) ≤ z := by
  have : greatest u j = (Finset.univ.filter fun i => reducesTo_S262144_S_d0.drop i = j).fold max (⊥ : EReal) u := by
    rw [← litBot]
    exact Host.reduce_eq_fold max u (constant (F := Ideal) S_ .f32 0xFF800000#32) reducesTo_S262144_S_d0 h_S_ j
  rw [this, Finset.fold_max_le]
  refine ⟨fun h n => h.2 _ (Finset.mem_filter.mpr ⟨Finset.mem_univ _, drop_all _ _ _⟩), fun h => ⟨bot_le, fun i _ => ?_⟩⟩
  idx_vars i
  exact h _

theorem norm_read (u : FVec Ideal S262144 .f32) (a b : FVec Ideal S_ .f32) (d : Fin 64) (hw : Fin 4096) :
    shapeCast S64x1x4096 (Host.divf (subf u (broadcastInDim S262144 ![] bcast_S_S262144 a))
      (broadcastInDim S262144 ![] bcast_S_S262144 (addf (subf b a) (constant S_ .f32 0x2EDBE6FF#32)))) shapeCasts_S262144_S64x1x4096 (ix3 d 0 hw)
      = Ideal.div (u (ix1 ⟨d.val * 4096 + hw.val, by omega⟩) - a ix0) (b ix0 - a ix0 + (eps : EReal)) := by
  pointwise
  rw [litEps]

/-- The reference's result at a pixel: the value, over the values' bounds. -/
theorem scaled_read (u : FVec Ideal S262144 .f32) (d : Fin 64) (hw : Fin 4096) :
    scaled u (ix3 d 0 hw) = Ideal.div (u (ix1 ⟨d.val * 4096 + hw.val, by omega⟩) - least u ix0) (greatest u ix0 - least u ix0 + (eps : EReal)) :=
  norm_read u (least u) (greatest u) d hw

end Cert.ReferenceIdeal.Body

end
-- ==== Proof.Pre.lean ====
/- The precondition read: every voxel is a real number between zero and one. -/
module

public import proofs.«01_k».proof.Pre_unit_interval
public import proofs.«01_k».proof.Proof.Scalars
public import Idealize.ShloMosaic.Lib.ReduceAll

@[expose] public section

noncomputable section

namespace Cert.Pre_unit_interval.Read

open Idealize.ShloMosaic Cert.Pre_unit_interval Cert.Math

theorem facts : Cert.Pre_unit_interval.Facts where
  bcast_S_S1x1x64x64x64 := by decide
  reducesTo_S1x1x64x64x64_S_d0_1_2_3_4 := by decide
  h_S_ := by decide

theorem and_ofBool (p q : Prop) [Decidable p] [Decidable q] (h : IntOp.andi (BitVec.ofBool (decide p)) (BitVec.ofBool (decide q)) = 1#1) : p ∧ q := by
  by_cases hp : p <;> by_cases hq : q <;> simp_all [IntOp.andi]

theorem unit_of_fn [Cert.Pre_unit_interval.Facts] (x : FVec Ideal S1x1x64x64x64 .f32) (h : fn (F := Ideal) x = fun _ => 1#1) :
    ∃ v : Fin 64 → Fin 64 → Fin 64 → ℝ, (∀ i j k, x (ix5 0 0 i j k) = ((v i j k : ℝ) : EReal)) ∧ (∀ i j k, 0 ≤ v i j k) ∧ ∀ i j k, v i j k ≤ 1 := by
  have all : ∀ i j k, 0 ≤ x (ix5 0 0 i j k) ∧ x (ix5 0 0 i j k) ≤ 1 := by
    intro i j k
    haveI : Subsingleton S_.Idx := ⟨fun a b => funext fun q => q.elim0⟩
    have e := Host.reduce_andi_all _ _ _ _ ix0 (congrFun h ix0) (ix5 0 0 i j k)
    pointwise at e
    exact and_ofBool _ _ e
  have real : ∀ i j k, ((x (ix5 0 0 i j k)).toReal : EReal) = x (ix5 0 0 i j k) := fun i j k =>
    EReal.coe_toReal (fun e => by have := (all i j k).2; rw [e] at this; exact absurd this (by decide)) (fun e => by have := (all i j k).1; rw [e] at this; exact absurd this (by decide))
  refine ⟨fun i j k => (x (ix5 0 0 i j k)).toReal, fun i j k => (real i j k).symm, fun i j k => ?_, fun i j k => ?_⟩
  · exact EReal.coe_le_coe_iff.mp ((all i j k).1.trans_eq (real i j k).symm)
  · exact EReal.coe_le_coe_iff.mp ((real i j k).trans_le (all i j k).2)

end Cert.Pre_unit_interval.Read

end
-- ==== Proof.Tie.lean ====
/- The kernel's result is the reference's: pixel by pixel the same value, over the same bounds. -/
module

public import proofs.«01_k».proof.Proof.KI.Values
public import proofs.«01_k».proof.Proof.R.Norm
public import proofs.«01_k».proof.Proof.Pre

@[expose] public section

set_option maxRecDepth 16384
set_option maxHeartbeats 1000000

noncomputable section

namespace Cert.Tie

open Idealize.ShloMosaic Idealize.ShloMosaic.TcCoe Cert.Math
open Cert.KernelIdeal (nD τ sig)
open Cert.KernelIdeal.Body (argOf kval boundsAt rowsAt Result)
open Cert.ReferenceIdeal.Body (values scaled least greatest val)

/-- The point of a pixel. -/
def point (d : Fin 64) (hw : Fin 4096) : Fin 262144 := ⟨d.val * 4096 + hw.val, by omega⟩

theorem point_onto (n : Fin 262144) : ∃ d hw, point d hw = n :=
  ⟨⟨n.val / 4096, by omega⟩, ⟨n.val % 4096, by omega⟩, Fin.ext (by unfold point; dsimp only; omega)⟩

variable (v : Fin 64 → Fin 64 → Fin 64 → ℝ)

theorem val_point (d : Fin 64) (hw : Fin 4096) : val v (point d hw) = kval v d hw := by
  have e0 : (⟨(point d hw).val / 4096, by omega⟩ : Fin 64) = d := Fin.ext (by unfold point; dsimp only; omega)
  have e1 : (⟨(point d hw).val / 64 % 64, by omega⟩ : Fin 64) = ⟨hw.val / 64, by omega⟩ := Fin.ext (by unfold point; dsimp only; omega)
  have e2 : (⟨(point d hw).val % 64, by omega⟩ : Fin 64) = ⟨hw.val % 64, by omega⟩ := Fin.ext (by unfold point; dsimp only; omega)
  unfold val kval
  rw [e0, e1, e2]

variable (m : (ℓ : Loc nD τ sig) → Buf (Elt Ideal) ℓ) (c : Dev nD) (hx : ∀ i j k, argOf m c (ix5 0 0 i j k) = ((v i j k : ℝ) : EReal))
  (h0 : ∀ i j k, 0 ≤ v i j k) (h1 : ∀ i j k, v i j k ≤ 1)

include hx h0 h1

theorem value_point (d : Fin 64) (hw : Fin 4096) : values (F := Ideal) (argOf m c) (ix1 (point d hw)) = ((kval v d hw : ℝ) : EReal) := by
  rw [Cert.ReferenceIdeal.Body.values_read _ v hx h0 h1, val_point]

theorem least_eq : boundsAt m c 8 (ix1 0) = least (F := Ideal) (values (argOf m c)) ix0 := by
  refine eq_of_forall_le_iff fun z => ?_
  refine (Cert.KernelIdeal.Body.bounds_read m c v hx h0 h1 z 4 le_rfl).1.trans ?_
  rw [Cert.ReferenceIdeal.Body.le_least]
  constructor
  · intro h n
    obtain ⟨d, hw, rfl⟩ := point_onto n
    rw [value_point v m c hx h0 h1]
    exact h d hw (by omega)
  · intro h d hw _
    rw [← value_point v m c hx h0 h1]
    exact h _

theorem greatest_eq : boundsAt m c 8 (ix1 1) = greatest (F := Ideal) (values (argOf m c)) ix0 := by
  refine eq_of_forall_ge_iff fun z => ?_
  refine (Cert.KernelIdeal.Body.bounds_read m c v hx h0 h1 z 4 le_rfl).2.trans ?_
  rw [Cert.ReferenceIdeal.Body.greatest_le]
  constructor
  · intro h n
    obtain ⟨d, hw, rfl⟩ := point_onto n
    rw [value_point v m c hx h0 h1]
    exact h d hw (by omega)
  · intro h d hw _
    rw [← value_point v m c hx h0 h1]
    exact h _

theorem result_eq (X : Vec Ideal Cert.KernelIdeal.S64x1x4096 .f32) (hX : Result m c X) : X = scaled (F := Ideal) (values (argOf m c)) := by
  obtain ⟨u, rfl⟩ := hX
  funext j
  idx_vars j
  obtain rfl : j1 = 0 := Subsingleton.elim _ _
  have hk := Cert.KernelIdeal.Body.normed_read (rowsAt m c u 8) (boundsAt m c 8) j0 j2
  have hr := Cert.ReferenceIdeal.Body.scaled_read (values (argOf m c)) j0 j2
  have hv : rowsAt m c u 8 (ix2 j0 j2) = values (F := Ideal) (argOf m c) (ix1 (point j0 j2)) :=
    (Cert.KernelIdeal.Body.rows_read m c v hx h0 h1 u 4 le_rfl j0 j2 (by omega)).trans (value_point v m c hx h0 h1 j0 j2).symm
  rw [least_eq v m c hx h0 h1, greatest_eq v m c hx h0 h1, hv] at hk
  exact hk.trans hr.symm

end Cert.Tie

end
-- ==== Proof.lean ====
/- The three programs run to their end with their argument unchanged and every counter at zero, each constant
   that the idealized kernel names has the value that it is named for, and over the extended reals the idealized
   kernel's result is the reference's wherever the input lies between zero and one. -/
module

public import proofs.«01_k».proof.Defs
public import proofs.«01_k».proof.Proof.K.Body
public import proofs.«01_k».proof.Proof.KI.Body
public import proofs.«01_k».proof.Proof.R.Frame
public import proofs.«01_k».proof.Proof.Tie
public import Idealize.ShloMosaic.Adequacy
public import Idealize.ShloMosaic.Init

@[expose] public section

noncomputable section

namespace Cert.Proof

open Idealize.ShloMosaic Idealize.SL.Sem Cert.KernelIdeal

/-- Each named constant of the kernel has the value that it is named for. -/
theorem named : Cert.preserves_Kernel_KernelIdeal :=
  ⟨IdealRules.named_const.statement κ "inv63" .f32 _ _ rfl, IdealRules.named_const.statement κ "m1" .f32 _ _ rfl,
   IdealRules.named_const.statement κ "p5" .f32 _ _ rfl, IdealRules.named_const.statement κ "m10" .f32 _ _ rfl,
   IdealRules.named_const.statement κ "p10" .f32 _ _ rfl, IdealRules.named_const.statement κ "m5" .f32 _ _ rfl,
   IdealRules.named_const.statement κ "p1" .f32 _ _ rfl, IdealRules.named_const.statement κ "m20" .f32 _ _ rfl,
   IdealRules.named_const.statement κ "p20" .f32 _ _ rfl, IdealRules.named_const.statement κ "m50" .f32 _ _ rfl,
   IdealRules.named_const.statement κ "p26" .f32 _ _ rfl, IdealRules.named_const.statement κ "p66" .f32 _ _ rfl,
   IdealRules.named_const.statement κ "p50" .f32 _ _ rfl⟩

/-- Over the extended reals the two results are equal. -/
theorem equal [Cert.Pre_unit_interval.Facts] : Cert.algebraic_KernelIdeal_ReferenceIdeal_pre_unit_interval := by
  intro m g m' g' hp hm
  refine ⟨fun c => Cert.ReferenceIdeal.Body.scaled (F := Ideal) (Cert.ReferenceIdeal.Body.values (Cert.KernelIdeal.Body.argOf m c)), ?_, ?_⟩
  · refine θ_run_mono (Cert.KernelIdeal.Body.final m g) fun r hr c => ⟨?_, (hr.1 c).2⟩
    obtain ⟨⟨X, hX, hr⟩, _⟩ := hr.1 c
    obtain ⟨v, hv, h0, h1⟩ := Cert.Pre_unit_interval.Read.unit_of_fn (Cert.KernelIdeal.Body.argOf m c) (hp c)
    exact hr.trans (Cert.Tie.result_eq v m c hv h0 h1 X hX)
  · refine θ_run_mono (Cert.ReferenceIdeal.Body.final m' g') fun r hr c => ⟨?_, (hr.1 c).2⟩
    refine (hr.1 c).1.trans ?_
    rw [hm c]

theorem claim : Cert.Claim :=
  ⟨Cert.Kernel.Gen.facts, Cert.KernelIdeal.Gen.facts, Cert.ReferenceIdeal.Gen.facts, Cert.Pre_unit_interval.Read.facts,
   fun m g _ => Cert.Kernel.Body.frame m g,
   fun m g _ => θ_run_mono (Cert.KernelIdeal.Body.final m g) fun _ hr => ⟨fun c => (hr.1 c).2, hr.2⟩,
   fun m g _ => θ_run_mono (Cert.KernelIdeal.Body.final m g) fun _ hr => ⟨fun c => (hr.1 c).2, hr.2⟩,
   fun m g _ => Cert.ReferenceIdeal.Body.frame m g,
   fun m g _ => Cert.ReferenceIdeal.Body.frame m g,
   named,
   @equal Cert.Pre_unit_interval.Read.facts⟩

end Cert.Proof

end
